-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_FoxOut (m : (ℓ : Loc Cert.FoxOut.nD Cert.FoxOut.τ Cert.FoxOut.sig) → Buf (Elt Bits) ℓ) : Prop :=
  True

def Pre_FoxOutIdeal (m : (ℓ : Loc Cert.FoxOutIdeal.nD Cert.FoxOutIdeal.τ Cert.FoxOutIdeal.sig) → Buf (Elt Ideal) ℓ) : Prop :=
  True

def Pre_FoxOutReferenceIdeal (m : (ℓ : Loc Cert.FoxOutReferenceIdeal.nD Cert.FoxOutReferenceIdeal.τ Cert.FoxOutReferenceIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def Pre_FoxKv (m : (ℓ : Loc Cert.FoxKv.nD Cert.FoxKv.τ Cert.FoxKv.sig) → Buf (Elt Bits) ℓ) : Prop :=
  True

def Pre_FoxKvIdeal (m : (ℓ : Loc Cert.FoxKvIdeal.nD Cert.FoxKvIdeal.τ Cert.FoxKvIdeal.sig) → Buf (Elt Ideal) ℓ) : Prop :=
  True

def Pre_FoxKvReferenceIdeal (m : (ℓ : Loc Cert.FoxKvReferenceIdeal.nD Cert.FoxKvReferenceIdeal.τ Cert.FoxKvReferenceIdeal.sig) → Buf (Elt Ideal) ℓ) : Prop :=
  True

def Pre_FoxQ (m : (ℓ : Loc Cert.FoxQ.nD Cert.FoxQ.τ Cert.FoxQ.sig) → Buf (Elt Bits) ℓ) : Prop :=
  True

def Pre_FoxQIdeal (m : (ℓ : Loc Cert.FoxQIdeal.nD Cert.FoxQIdeal.τ Cert.FoxQIdeal.sig) → Buf (Elt Ideal) ℓ) : Prop :=
  True

def Pre_FoxQReferenceIdeal (m : (ℓ : Loc Cert.FoxQReferenceIdeal.nD Cert.FoxQReferenceIdeal.τ Cert.FoxQReferenceIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQReferenceIdeal (m : (ℓ : Loc Cert.PeerQReferenceIdeal.nD Cert.PeerQReferenceIdeal.τ Cert.PeerQReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_MixerDt (m : (ℓ : Loc Cert.MixerDt.nD Cert.MixerDt.τ Cert.MixerDt.sig) → Buf (Elt Bits) ℓ) : Prop :=
  True

def Pre_MixerDtIdeal (m : (ℓ : Loc Cert.MixerDtIdeal.nD Cert.MixerDtIdeal.τ Cert.MixerDtIdeal.sig) → Buf (Elt Ideal) ℓ) : Prop :=
  True

def Pre_MixerDtReferenceIdeal (m : (ℓ : Loc Cert.MixerDtReferenceIdeal.nD Cert.MixerDtReferenceIdeal.τ Cert.MixerDtReferenceIdeal.sig) → Buf (Elt Ideal) ℓ) : Prop :=
  True

def Pre_FoxGates (m : (ℓ : Loc Cert.FoxGates.nD Cert.FoxGates.τ Cert.FoxGates.sig) → Buf (Elt Bits) ℓ) : Prop :=
  True

def Pre_FoxGatesIdeal (m : (ℓ : Loc Cert.FoxGatesIdeal.nD Cert.FoxGatesIdeal.τ Cert.FoxGatesIdeal.sig) → Buf (Elt Ideal) ℓ) : Prop :=
  True

def Pre_FoxGatesReferenceIdeal (m : (ℓ : Loc Cert.FoxGatesReferenceIdeal.nD Cert.FoxGatesReferenceIdeal.τ Cert.FoxGatesReferenceIdeal.sig) → Buf (Elt Ideal) ℓ) : Prop :=
  True

def Pre_FoxSums (m : (ℓ : Loc Cert.FoxSums.nD Cert.FoxSums.τ Cert.FoxSums.sig) → Buf (Elt Bits) ℓ) : Prop :=
  True

def Pre_FoxSumsIdeal (m : (ℓ : Loc Cert.FoxSumsIdeal.nD Cert.FoxSumsIdeal.τ Cert.FoxSumsIdeal.sig) → Buf (Elt Ideal) ℓ) : Prop :=
  True

def Pre_FoxSumsReferenceIdeal (m : (ℓ : Loc Cert.FoxSumsReferenceIdeal.nD Cert.FoxSumsReferenceIdeal.τ Cert.FoxSumsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2))
      ∧ r.2.sem = fun _ => 0)

def quiescent_FoxOut [hFoxOut : Cert.FoxOut.Facts] : Prop :=
  ∀ (m : (ℓ : Loc Cert.FoxOut.nD Cert.FoxOut.τ Cert.FoxOut.sig) → Buf (Elt Bits) ℓ) (g : Dev Cert.FoxOut.nD → PrngReg), Pre_FoxOut m →
    θ_run (Cert.FoxOut.defs (F := Bits)) (onTc (τ := Cert.FoxOut.τ) (Cert.FoxOut.main (F := Bits))) ⟨m, fun _ => 0, g⟩ (fun r => (∀ c : Dev Cert.FoxOut.nD,
      r.2.mem ((c.tc : Thread Cert.FoxOut.nD Cert.FoxOut.τ).loc Cert.FoxOut.main_arg0) = m ((c.tc : Thread Cert.FoxOut.nD Cert.FoxOut.τ).loc Cert.FoxOut.main_arg0)
      ∧ r.2.mem ((c.tc : Thread Cert.FoxOut.nD Cert.FoxOut.τ).loc Cert.FoxOut.main_arg1) = m ((c.tc : Thread Cert.FoxOut.nD Cert.FoxOut.τ).loc Cert.FoxOut.main_arg1)
      ∧ r.2.mem ((c.tc : Thread Cert.FoxOut.nD Cert.FoxOut.τ).loc Cert.FoxOut.main_arg2) = m ((c.tc : Thread Cert.FoxOut.nD Cert.FoxOut.τ).loc Cert.FoxOut.main_arg2))
      ∧ r.2.sem = fun _ => 0)

def quiescent_FoxOutIdeal [hFoxOutIdeal : Cert.FoxOutIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg), Pre_FoxOutIdeal m →
    θ_run (Cert.FoxOutIdeal.defs (F := Ideal)) (onTc (τ := Cert.FoxOutIdeal.τ) (Cert.FoxOutIdeal.main (F := Ideal))) ⟨m, fun _ => 0, g⟩ (fun r => (∀ c : Dev Cert.FoxOutIdeal.nD,
      r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
      ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
      ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2))
      ∧ r.2.sem = fun _ => 0)

def quiescent_FoxOutReferenceIdeal [hFoxOutReferenceIdeal : Cert.FoxOutReferenceIdeal.Facts] : Prop :=
  ∀ (m : (ℓ : Loc Cert.FoxOutReferenceIdeal.nD Cert.FoxOutReferenceIdeal.τ Cert.FoxOutReferenceIdeal.sig) → Buf (Elt Ideal) ℓ) (g : Dev Cert.FoxOutReferenceIdeal.nD → PrngReg), Pre_FoxOutReferenceIdeal m →
    θ_run (Cert.FoxOutReferenceIdeal.defs (F := Ideal)) (onTc (τ := Cert.FoxOutReferenceIdeal.τ) (Cert.FoxOutReferenceIdeal.main (F := Ideal))) ⟨m, fun _ => 0, g⟩ (fun r => (∀ c : Dev Cert.FoxOutReferenceIdeal.nD,
      r.2.mem ((c.tc : Thread Cert.FoxOutReferenceIdeal.nD Cert.FoxOutReferenceIdeal.τ).loc Cert.FoxOutReferenceIdeal.main_arg0) = m ((c.tc : Thread Cert.FoxOutReferenceIdeal.nD Cert.FoxOutReferenceIdeal.τ).loc Cert.FoxOutReferenceIdeal.main_arg0)
      ∧ r.2.mem ((c.tc : Thread Cert.FoxOutReferenceIdeal.nD Cert.FoxOutReferenceIdeal.τ).loc Cert.FoxOutReferenceIdeal.main_arg1) = m ((c.tc : Thread Cert.FoxOutReferenceIdeal.nD Cert.FoxOutReferenceIdeal.τ).loc Cert.FoxOutReferenceIdeal.main_arg1)
      ∧ r.2.mem ((c.tc : Thread Cert.FoxOutReferenceIdeal.nD Cert.FoxOutReferenceIdeal.τ).loc Cert.FoxOutReferenceIdeal.main_arg2) = m ((c.tc : Thread Cert.FoxOutReferenceIdeal.nD Cert.FoxOutReferenceIdeal.τ).loc Cert.FoxOutReferenceIdeal.main_arg2))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2))
      ∧ r.2.sem = fun _ => 0)

def quiescent_FoxKv [hFoxKv : Cert.FoxKv.Facts] : Prop :=
  ∀ (m : (ℓ : Loc Cert.FoxKv.nD Cert.FoxKv.τ Cert.FoxKv.sig) → Buf (Elt Bits) ℓ) (g : Dev Cert.FoxKv.nD → PrngReg), Pre_FoxKv m →
    θ_run (Cert.FoxKv.defs (F := Bits)) (onTc (τ := Cert.FoxKv.τ) (Cert.FoxKv.main (F := Bits))) ⟨m, fun _ => 0, g⟩ (fun r => (∀ c : Dev Cert.FoxKv.nD,
      r.2.mem ((c.tc : Thread Cert.FoxKv.nD Cert.FoxKv.τ).loc Cert.FoxKv.main_arg0) = m ((c.tc : Thread Cert.FoxKv.nD Cert.FoxKv.τ).loc Cert.FoxKv.main_arg0)
      ∧ r.2.mem ((c.tc : Thread Cert.FoxKv.nD Cert.FoxKv.τ).loc Cert.FoxKv.main_arg1) = m ((c.tc : Thread Cert.FoxKv.nD Cert.FoxKv.τ).loc Cert.FoxKv.main_arg1)
      ∧ r.2.mem ((c.tc : Thread Cert.FoxKv.nD Cert.FoxKv.τ).loc Cert.FoxKv.main_arg2) = m ((c.tc : Thread Cert.FoxKv.nD Cert.FoxKv.τ).loc Cert.FoxKv.main_arg2))
      ∧ r.2.sem = fun _ => 0)

def quiescent_FoxKvIdeal [hFoxKvIdeal : Cert.FoxKvIdeal.Facts] : Prop :=
  ∀ (m : (ℓ : Loc Cert.FoxKvIdeal.nD Cert.FoxKvIdeal.τ Cert.FoxKvIdeal.sig) → Buf (Elt Ideal) ℓ) (g : Dev Cert.FoxKvIdeal.nD → PrngReg), Pre_FoxKvIdeal m →
    θ_run (Cert.FoxKvIdeal.defs (F := Ideal)) (onTc (τ := Cert.FoxKvIdeal.τ) (Cert.FoxKvIdeal.main (F := Ideal))) ⟨m, fun _ => 0, g⟩ (fun r => (∀ c : Dev Cert.FoxKvIdeal.nD,
      r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
      ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
      ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2))
      ∧ r.2.sem = fun _ => 0)

def quiescent_FoxKvReferenceIdeal [hFoxKvReferenceIdeal : Cert.FoxKvReferenceIdeal.Facts] : Prop :=
  ∀ (m : (ℓ : Loc Cert.FoxKvReferenceIdeal.nD Cert.FoxKvReferenceIdeal.τ Cert.FoxKvReferenceIdeal.sig) → Buf (Elt Ideal) ℓ) (g : Dev Cert.FoxKvReferenceIdeal.nD → PrngReg), Pre_FoxKvReferenceIdeal m →
    θ_run (Cert.FoxKvReferenceIdeal.defs (F := Ideal)) (onTc (τ := Cert.FoxKvReferenceIdeal.τ) (Cert.FoxKvReferenceIdeal.main (F := Ideal))) ⟨m, fun _ => 0, g⟩ (fun r => (∀ c : Dev Cert.FoxKvReferenceIdeal.nD,
      r.2.mem ((c.tc : Thread Cert.FoxKvReferenceIdeal.nD Cert.FoxKvReferenceIdeal.τ).loc Cert.FoxKvReferenceIdeal.main_arg0) = m ((c.tc : Thread Cert.FoxKvReferenceIdeal.nD Cert.FoxKvReferenceIdeal.τ).loc Cert.FoxKvReferenceIdeal.main_arg0)
      ∧ r.2.mem ((c.tc : Thread Cert.FoxKvReferenceIdeal.nD Cert.FoxKvReferenceIdeal.τ).loc Cert.FoxKvReferenceIdeal.main_arg1) = m ((c.tc : Thread Cert.FoxKvReferenceIdeal.nD Cert.FoxKvReferenceIdeal.τ).loc Cert.FoxKvReferenceIdeal.main_arg1)
      ∧ r.2.mem ((c.tc : Thread Cert.FoxKvReferenceIdeal.nD Cert.FoxKvReferenceIdeal.τ).loc Cert.FoxKvReferenceIdeal.main_arg2) = m ((c.tc : Thread Cert.FoxKvReferenceIdeal.nD Cert.FoxKvReferenceIdeal.τ).loc Cert.FoxKvReferenceIdeal.main_arg2))
      ∧ r.2.sem = fun _ => 0)

def quiescent_FoxQ [hFoxQ : Cert.FoxQ.Facts] : Prop :=
  ∀ (m : (ℓ : Loc Cert.FoxQ.nD Cert.FoxQ.τ Cert.FoxQ.sig) → Buf (Elt Bits) ℓ) (g : Dev Cert.FoxQ.nD → PrngReg), Pre_FoxQ m →
    θ_run (Cert.FoxQ.defs (F := Bits)) (onTc (τ := Cert.FoxQ.τ) (Cert.FoxQ.main (F := Bits))) ⟨m, fun _ => 0, g⟩ (fun r => (∀ c : Dev Cert.FoxQ.nD,
      r.2.mem ((c.tc : Thread Cert.FoxQ.nD Cert.FoxQ.τ).loc Cert.FoxQ.main_arg0) = m ((c.tc : Thread Cert.FoxQ.nD Cert.FoxQ.τ).loc Cert.FoxQ.main_arg0)
      ∧ r.2.mem ((c.tc : Thread Cert.FoxQ.nD Cert.FoxQ.τ).loc Cert.FoxQ.main_arg1) = m ((c.tc : Thread Cert.FoxQ.nD Cert.FoxQ.τ).loc Cert.FoxQ.main_arg1)
      ∧ r.2.mem ((c.tc : Thread Cert.FoxQ.nD Cert.FoxQ.τ).loc Cert.FoxQ.main_arg2) = m ((c.tc : Thread Cert.FoxQ.nD Cert.FoxQ.τ).loc Cert.FoxQ.main_arg2))
      ∧ r.2.sem = fun _ => 0)

def quiescent_FoxQIdeal [hFoxQIdeal : Cert.FoxQIdeal.Facts] : Prop :=
  ∀ (m : (ℓ : Loc Cert.FoxQIdeal.nD Cert.FoxQIdeal.τ Cert.FoxQIdeal.sig) → Buf (Elt Ideal) ℓ) (g : Dev Cert.FoxQIdeal.nD → PrngReg), Pre_FoxQIdeal m →
    θ_run (Cert.FoxQIdeal.defs (F := Ideal)) (onTc (τ := Cert.FoxQIdeal.τ) (Cert.FoxQIdeal.main (F := Ideal))) ⟨m, fun _ => 0, g⟩ (fun r => (∀ c : Dev Cert.FoxQIdeal.nD,
      r.2.mem ((c.tc : Thread Cert.FoxQIdeal.nD Cert.FoxQIdeal.τ).loc Cert.FoxQIdeal.main_arg0) = m ((c.tc : Thread Cert.FoxQIdeal.nD Cert.FoxQIdeal.τ).loc Cert.FoxQIdeal.main_arg0)
      ∧ r.2.mem ((c.tc : Thread Cert.FoxQIdeal.nD Cert.FoxQIdeal.τ).loc Cert.FoxQIdeal.main_arg1) = m ((c.tc : Thread Cert.FoxQIdeal.nD Cert.FoxQIdeal.τ).loc Cert.FoxQIdeal.main_arg1)
      ∧ r.2.mem ((c.tc : Thread Cert.FoxQIdeal.nD Cert.FoxQIdeal.τ).loc Cert.FoxQIdeal.main_arg2) = m ((c.tc : Thread Cert.FoxQIdeal.nD Cert.FoxQIdeal.τ).loc Cert.FoxQIdeal.main_arg2))
      ∧ r.2.sem = fun _ => 0)

def quiescent_FoxQReferenceIdeal [hFoxQReferenceIdeal : Cert.FoxQReferenceIdeal.Facts] : Prop :=
  ∀ (m : (ℓ : Loc Cert.FoxQReferenceIdeal.nD Cert.FoxQReferenceIdeal.τ Cert.FoxQReferenceIdeal.sig) → Buf (Elt Ideal) ℓ) (g : Dev Cert.FoxQReferenceIdeal.nD → PrngReg), Pre_FoxQReferenceIdeal m →
    θ_run (Cert.FoxQReferenceIdeal.defs (F := Ideal)) (onTc (τ := Cert.FoxQReferenceIdeal.τ) (Cert.FoxQReferenceIdeal.main (F := Ideal))) ⟨m, fun _ => 0, g⟩ (fun r => (∀ c : Dev Cert.FoxQReferenceIdeal.nD,
      r.2.mem ((c.tc : Thread Cert.FoxQReferenceIdeal.nD Cert.FoxQReferenceIdeal.τ).loc Cert.FoxQReferenceIdeal.main_arg0) = m ((c.tc : Thread Cert.FoxQReferenceIdeal.nD Cert.FoxQReferenceIdeal.τ).loc Cert.FoxQReferenceIdeal.main_arg0)
      ∧ r.2.mem ((c.tc : Thread Cert.FoxQReferenceIdeal.nD Cert.FoxQReferenceIdeal.τ).loc Cert.FoxQReferenceIdeal.main_arg1) = m ((c.tc : Thread Cert.FoxQReferenceIdeal.nD Cert.FoxQReferenceIdeal.τ).loc Cert.FoxQReferenceIdeal.main_arg1)
      ∧ r.2.mem ((c.tc : Thread Cert.FoxQReferenceIdeal.nD Cert.FoxQReferenceIdeal.τ).loc Cert.FoxQReferenceIdeal.main_arg2) = m ((c.tc : Thread Cert.FoxQReferenceIdeal.nD Cert.FoxQReferenceIdeal.τ).loc Cert.FoxQReferenceIdeal.main_arg2))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ r.2.sem = fun _ => 0)

def quiescent_PeerQReferenceIdeal [hPeerQReferenceIdeal : Cert.PeerQReferenceIdeal.Facts] : Prop :=
  ∀ (m : (ℓ : Loc Cert.PeerQReferenceIdeal.nD Cert.PeerQReferenceIdeal.τ Cert.PeerQReferenceIdeal.sig) → Buf (Elt Ideal) ℓ) (g : Dev Cert.PeerQReferenceIdeal.nD → PrngReg), Pre_PeerQReferenceIdeal m →
    θ_run (Cert.PeerQReferenceIdeal.defs (F := Ideal)) (onTc (τ := Cert.PeerQReferenceIdeal.τ) (Cert.PeerQReferenceIdeal.main (F := Ideal))) ⟨m, fun _ => 0, g⟩ (fun r => (∀ c : Dev Cert.PeerQReferenceIdeal.nD,
      r.2.mem ((c.tc : Thread Cert.PeerQReferenceIdeal.nD Cert.PeerQReferenceIdeal.τ).loc Cert.PeerQReferenceIdeal.main_arg0) = m ((c.tc : Thread Cert.PeerQReferenceIdeal.nD Cert.PeerQReferenceIdeal.τ).loc Cert.PeerQReferenceIdeal.main_arg0)
      ∧ r.2.mem ((c.tc : Thread Cert.PeerQReferenceIdeal.nD Cert.PeerQReferenceIdeal.τ).loc Cert.PeerQReferenceIdeal.main_arg1) = m ((c.tc : Thread Cert.PeerQReferenceIdeal.nD Cert.PeerQReferenceIdeal.τ).loc Cert.PeerQReferenceIdeal.main_arg1)
      ∧ r.2.mem ((c.tc : Thread Cert.PeerQReferenceIdeal.nD Cert.PeerQReferenceIdeal.τ).loc Cert.PeerQReferenceIdeal.main_arg2) = m ((c.tc : Thread Cert.PeerQReferenceIdeal.nD Cert.PeerQReferenceIdeal.τ).loc Cert.PeerQReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6))
      ∧ r.2.sem = fun _ => 0)

def quiescent_MixerDt [hMixerDt : Cert.MixerDt.Facts] : Prop :=
  ∀ (m : (ℓ : Loc Cert.MixerDt.nD Cert.MixerDt.τ Cert.MixerDt.sig) → Buf (Elt Bits) ℓ) (g : Dev Cert.MixerDt.nD → PrngReg), Pre_MixerDt m →
    θ_run (Cert.MixerDt.defs (F := Bits)) (onTc (τ := Cert.MixerDt.τ) (Cert.MixerDt.main (F := Bits))) ⟨m, fun _ => 0, g⟩ (fun r => (∀ c : Dev Cert.MixerDt.nD,
      r.2.mem ((c.tc : Thread Cert.MixerDt.nD Cert.MixerDt.τ).loc Cert.MixerDt.main_arg0) = m ((c.tc : Thread Cert.MixerDt.nD Cert.MixerDt.τ).loc Cert.MixerDt.main_arg0)
      ∧ r.2.mem ((c.tc : Thread Cert.MixerDt.nD Cert.MixerDt.τ).loc Cert.MixerDt.main_arg1) = m ((c.tc : Thread Cert.MixerDt.nD Cert.MixerDt.τ).loc Cert.MixerDt.main_arg1)
      ∧ r.2.mem ((c.tc : Thread Cert.MixerDt.nD Cert.MixerDt.τ).loc Cert.MixerDt.main_arg2) = m ((c.tc : Thread Cert.MixerDt.nD Cert.MixerDt.τ).loc Cert.MixerDt.main_arg2))
      ∧ r.2.sem = fun _ => 0)

def quiescent_MixerDtIdeal [hMixerDtIdeal : Cert.MixerDtIdeal.Facts] : Prop :=
  ∀ (m : (ℓ : Loc Cert.MixerDtIdeal.nD Cert.MixerDtIdeal.τ Cert.MixerDtIdeal.sig) → Buf (Elt Ideal) ℓ) (g : Dev Cert.MixerDtIdeal.nD → PrngReg), Pre_MixerDtIdeal m →
    θ_run (Cert.MixerDtIdeal.defs (F := Ideal)) (onTc (τ := Cert.MixerDtIdeal.τ) (Cert.MixerDtIdeal.main (F := Ideal))) ⟨m, fun _ => 0, g⟩ (fun r => (∀ c : Dev Cert.MixerDtIdeal.nD,
      r.2.mem ((c.tc : Thread Cert.MixerDtIdeal.nD Cert.MixerDtIdeal.τ).loc Cert.MixerDtIdeal.main_arg0) = m ((c.tc : Thread Cert.MixerDtIdeal.nD Cert.MixerDtIdeal.τ).loc Cert.MixerDtIdeal.main_arg0)
      ∧ r.2.mem ((c.tc : Thread Cert.MixerDtIdeal.nD Cert.MixerDtIdeal.τ).loc Cert.MixerDtIdeal.main_arg1) = m ((c.tc : Thread Cert.MixerDtIdeal.nD Cert.MixerDtIdeal.τ).loc Cert.MixerDtIdeal.main_arg1)
      ∧ r.2.mem ((c.tc : Thread Cert.MixerDtIdeal.nD Cert.MixerDtIdeal.τ).loc Cert.MixerDtIdeal.main_arg2) = m ((c.tc : Thread Cert.MixerDtIdeal.nD Cert.MixerDtIdeal.τ).loc Cert.MixerDtIdeal.main_arg2))
      ∧ r.2.sem = fun _ => 0)

def quiescent_MixerDtReferenceIdeal [hMixerDtReferenceIdeal : Cert.MixerDtReferenceIdeal.Facts] : Prop :=
  ∀ (m : (ℓ : Loc Cert.MixerDtReferenceIdeal.nD Cert.MixerDtReferenceIdeal.τ Cert.MixerDtReferenceIdeal.sig) → Buf (Elt Ideal) ℓ) (g : Dev Cert.MixerDtReferenceIdeal.nD → PrngReg), Pre_MixerDtReferenceIdeal m →
    θ_run (Cert.MixerDtReferenceIdeal.defs (F := Ideal)) (onTc (τ := Cert.MixerDtReferenceIdeal.τ) (Cert.MixerDtReferenceIdeal.main (F := Ideal))) ⟨m, fun _ => 0, g⟩ (fun r => (∀ c : Dev Cert.MixerDtReferenceIdeal.nD,
      r.2.mem ((c.tc : Thread Cert.MixerDtReferenceIdeal.nD Cert.MixerDtReferenceIdeal.τ).loc Cert.MixerDtReferenceIdeal.main_arg0) = m ((c.tc : Thread Cert.MixerDtReferenceIdeal.nD Cert.MixerDtReferenceIdeal.τ).loc Cert.MixerDtReferenceIdeal.main_arg0)
      ∧ r.2.mem ((c.tc : Thread Cert.MixerDtReferenceIdeal.nD Cert.MixerDtReferenceIdeal.τ).loc Cert.MixerDtReferenceIdeal.main_arg1) = m ((c.tc : Thread Cert.MixerDtReferenceIdeal.nD Cert.MixerDtReferenceIdeal.τ).loc Cert.MixerDtReferenceIdeal.main_arg1)
      ∧ r.2.mem ((c.tc : Thread Cert.MixerDtReferenceIdeal.nD Cert.MixerDtReferenceIdeal.τ).loc Cert.MixerDtReferenceIdeal.main_arg2) = m ((c.tc : Thread Cert.MixerDtReferenceIdeal.nD Cert.MixerDtReferenceIdeal.τ).loc Cert.MixerDtReferenceIdeal.main_arg2))
      ∧ r.2.sem = fun _ => 0)

def quiescent_FoxGates [hFoxGates : Cert.FoxGates.Facts] : Prop :=
  ∀ (m : (ℓ : Loc Cert.FoxGates.nD Cert.FoxGates.τ Cert.FoxGates.sig) → Buf (Elt Bits) ℓ) (g : Dev Cert.FoxGates.nD → PrngReg), Pre_FoxGates m →
    θ_run (Cert.FoxGates.defs (F := Bits)) (onTc (τ := Cert.FoxGates.τ) (Cert.FoxGates.main (F := Bits))) ⟨m, fun _ => 0, g⟩ (fun r => (∀ c : Dev Cert.FoxGates.nD,
      r.2.mem ((c.tc : Thread Cert.FoxGates.nD Cert.FoxGates.τ).loc Cert.FoxGates.main_arg0) = m ((c.tc : Thread Cert.FoxGates.nD Cert.FoxGates.τ).loc Cert.FoxGates.main_arg0)
      ∧ r.2.mem ((c.tc : Thread Cert.FoxGates.nD Cert.FoxGates.τ).loc Cert.FoxGates.main_arg1) = m ((c.tc : Thread Cert.FoxGates.nD Cert.FoxGates.τ).loc Cert.FoxGates.main_arg1)
      ∧ r.2.mem ((c.tc : Thread Cert.FoxGates.nD Cert.FoxGates.τ).loc Cert.FoxGates.main_arg2) = m ((c.tc : Thread Cert.FoxGates.nD Cert.FoxGates.τ).loc Cert.FoxGates.main_arg2))
      ∧ r.2.sem = fun _ => 0)

def quiescent_FoxGatesIdeal [hFoxGatesIdeal : Cert.FoxGatesIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg), Pre_FoxGatesIdeal m →
    θ_run (Cert.FoxGatesIdeal.defs (F := Ideal)) (onTc (τ := Cert.FoxGatesIdeal.τ) (Cert.FoxGatesIdeal.main (F := Ideal))) ⟨m, fun _ => 0, g⟩ (fun r => (∀ c : Dev Cert.FoxGatesIdeal.nD,
      r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
      ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1)
      ∧ r.2.mem ((c.tc : Thread Cert.FoxGatesIdeal.nD Cert.FoxGatesIdeal.τ).loc Cert.FoxGatesIdeal.main_arg2) = m ((c.tc : Thread Cert.FoxGatesIdeal.nD Cert.FoxGatesIdeal.τ).loc Cert.FoxGatesIdeal.main_arg2))
      ∧ r.2.sem = fun _ => 0)

def quiescent_FoxGatesReferenceIdeal [hFoxGatesReferenceIdeal : Cert.FoxGatesReferenceIdeal.Facts] : Prop :=
  ∀ (m : (ℓ : Loc Cert.FoxGatesReferenceIdeal.nD Cert.FoxGatesReferenceIdeal.τ Cert.FoxGatesReferenceIdeal.sig) → Buf (Elt Ideal) ℓ) (g : Dev Cert.FoxGatesReferenceIdeal.nD → PrngReg), Pre_FoxGatesReferenceIdeal m →
    θ_run (Cert.FoxGatesReferenceIdeal.defs (F := Ideal)) (onTc (τ := Cert.FoxGatesReferenceIdeal.τ) (Cert.FoxGatesReferenceIdeal.main (F := Ideal))) ⟨m, fun _ => 0, g⟩ (fun r => (∀ c : Dev Cert.FoxGatesReferenceIdeal.nD,
      r.2.mem ((c.tc : Thread Cert.FoxGatesReferenceIdeal.nD Cert.FoxGatesReferenceIdeal.τ).loc Cert.FoxGatesReferenceIdeal.main_arg0) = m ((c.tc : Thread Cert.FoxGatesReferenceIdeal.nD Cert.FoxGatesReferenceIdeal.τ).loc Cert.FoxGatesReferenceIdeal.main_arg0)
      ∧ r.2.mem ((c.tc : Thread Cert.FoxGatesReferenceIdeal.nD Cert.FoxGatesReferenceIdeal.τ).loc Cert.FoxGatesReferenceIdeal.main_arg1) = m ((c.tc : Thread Cert.FoxGatesReferenceIdeal.nD Cert.FoxGatesReferenceIdeal.τ).loc Cert.FoxGatesReferenceIdeal.main_arg1)
      ∧ r.2.mem ((c.tc : Thread Cert.FoxGatesReferenceIdeal.nD Cert.FoxGatesReferenceIdeal.τ).loc Cert.FoxGatesReferenceIdeal.main_arg2) = m ((c.tc : Thread Cert.FoxGatesReferenceIdeal.nD Cert.FoxGatesReferenceIdeal.τ).loc Cert.FoxGatesReferenceIdeal.main_arg2))
      ∧ r.2.sem = fun _ => 0)

def quiescent_FoxSums [hFoxSums : Cert.FoxSums.Facts] : Prop :=
  ∀ (m : (ℓ : Loc Cert.FoxSums.nD Cert.FoxSums.τ Cert.FoxSums.sig) → Buf (Elt Bits) ℓ) (g : Dev Cert.FoxSums.nD → PrngReg), Pre_FoxSums m →
    θ_run (Cert.FoxSums.defs (F := Bits)) (onTc (τ := Cert.FoxSums.τ) (Cert.FoxSums.main (F := Bits))) ⟨m, fun _ => 0, g⟩ (fun r => (∀ c : Dev Cert.FoxSums.nD,
      r.2.mem ((c.tc : Thread Cert.FoxSums.nD Cert.FoxSums.τ).loc Cert.FoxSums.main_arg0) = m ((c.tc : Thread Cert.FoxSums.nD Cert.FoxSums.τ).loc Cert.FoxSums.main_arg0)
      ∧ r.2.mem ((c.tc : Thread Cert.FoxSums.nD Cert.FoxSums.τ).loc Cert.FoxSums.main_arg1) = m ((c.tc : Thread Cert.FoxSums.nD Cert.FoxSums.τ).loc Cert.FoxSums.main_arg1))
      ∧ r.2.sem = fun _ => 0)

def quiescent_FoxSumsIdeal [hFoxSumsIdeal : Cert.FoxSumsIdeal.Facts] : Prop :=
  ∀ (m : (ℓ : Loc Cert.FoxSumsIdeal.nD Cert.FoxSumsIdeal.τ Cert.FoxSumsIdeal.sig) → Buf (Elt Ideal) ℓ) (g : Dev Cert.FoxSumsIdeal.nD → PrngReg), Pre_FoxSumsIdeal m →
    θ_run (Cert.FoxSumsIdeal.defs (F := Ideal)) (onTc (τ := Cert.FoxSumsIdeal.τ) (Cert.FoxSumsIdeal.main (F := Ideal))) ⟨m, fun _ => 0, g⟩ (fun r => (∀ c : Dev Cert.FoxSumsIdeal.nD,
      r.2.mem ((c.tc : Thread Cert.FoxSumsIdeal.nD Cert.FoxSumsIdeal.τ).loc Cert.FoxSumsIdeal.main_arg0) = m ((c.tc : Thread Cert.FoxSumsIdeal.nD Cert.FoxSumsIdeal.τ).loc Cert.FoxSumsIdeal.main_arg0)
      ∧ r.2.mem ((c.tc : Thread Cert.FoxSumsIdeal.nD Cert.FoxSumsIdeal.τ).loc Cert.FoxSumsIdeal.main_arg1) = m ((c.tc : Thread Cert.FoxSumsIdeal.nD Cert.FoxSumsIdeal.τ).loc Cert.FoxSumsIdeal.main_arg1))
      ∧ r.2.sem = fun _ => 0)

def quiescent_FoxSumsReferenceIdeal [hFoxSumsReferenceIdeal : Cert.FoxSumsReferenceIdeal.Facts] : Prop :=
  ∀ (m : (ℓ : Loc Cert.FoxSumsReferenceIdeal.nD Cert.FoxSumsReferenceIdeal.τ Cert.FoxSumsReferenceIdeal.sig) → Buf (Elt Ideal) ℓ) (g : Dev Cert.FoxSumsReferenceIdeal.nD → PrngReg), Pre_FoxSumsReferenceIdeal m →
    θ_run (Cert.FoxSumsReferenceIdeal.defs (F := Ideal)) (onTc (τ := Cert.FoxSumsReferenceIdeal.τ) (Cert.FoxSumsReferenceIdeal.main (F := Ideal))) ⟨m, fun _ => 0, g⟩ (fun r => (∀ c : Dev Cert.FoxSumsReferenceIdeal.nD,
      r.2.mem ((c.tc : Thread Cert.FoxSumsReferenceIdeal.nD Cert.FoxSumsReferenceIdeal.τ).loc Cert.FoxSumsReferenceIdeal.main_arg0) = m ((c.tc : Thread Cert.FoxSumsReferenceIdeal.nD Cert.FoxSumsReferenceIdeal.τ).loc Cert.FoxSumsReferenceIdeal.main_arg0)
      ∧ r.2.mem ((c.tc : Thread Cert.FoxSumsReferenceIdeal.nD Cert.FoxSumsReferenceIdeal.τ).loc Cert.FoxSumsReferenceIdeal.main_arg1) = m ((c.tc : Thread Cert.FoxSumsReferenceIdeal.nD Cert.FoxSumsReferenceIdeal.τ).loc Cert.FoxSumsReferenceIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v12) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)) →
    ∃ (v0 : (c : Dev Cert.MixerOutIdeal.nD) → Buf (Elt Ideal) ((c.tc : Thread Cert.MixerOutIdeal.nD Cert.MixerOutIdeal.τ).loc Cert.MixerOutIdeal.main_v1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v1) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v2) = v0 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2))

def preserves_FoxOut_FoxOutIdeal : Prop :=
  True

def algebraic_FoxOutIdeal_FoxOutReferenceIdeal [hFoxOutIdeal : Cert.FoxOutIdeal.Facts] [hFoxOutReferenceIdeal : Cert.FoxOutReferenceIdeal.Facts] : Prop :=
  ∀ (m : (ℓ : Loc Cert.FoxOutIdeal.nD Cert.FoxOutIdeal.τ Cert.FoxOutIdeal.sig) → Buf (Elt Ideal) ℓ) (g : Dev Cert.FoxOutIdeal.nD → PrngReg)
    (m' : (ℓ : Loc Cert.FoxOutReferenceIdeal.nD Cert.FoxOutReferenceIdeal.τ Cert.FoxOutReferenceIdeal.sig) → Buf (Elt Ideal) ℓ) (g' : Dev Cert.FoxOutReferenceIdeal.nD → PrngReg), Pre_FoxOutIdeal m →
    (∀ c : Dev Cert.FoxOutIdeal.nD,
      m' ((c.tc : Thread Cert.FoxOutReferenceIdeal.nD Cert.FoxOutReferenceIdeal.τ).loc Cert.FoxOutReferenceIdeal.main_arg0) = m ((c.tc : Thread Cert.FoxOutIdeal.nD Cert.FoxOutIdeal.τ).loc Cert.FoxOutIdeal.main_arg0)
      ∧ m' ((c.tc : Thread Cert.FoxOutReferenceIdeal.nD Cert.FoxOutReferenceIdeal.τ).loc Cert.FoxOutReferenceIdeal.main_arg1) = m ((c.tc : Thread Cert.FoxOutIdeal.nD Cert.FoxOutIdeal.τ).loc Cert.FoxOutIdeal.main_arg1)
      ∧ m' ((c.tc : Thread Cert.FoxOutReferenceIdeal.nD Cert.FoxOutReferenceIdeal.τ).loc Cert.FoxOutReferenceIdeal.main_arg2) = m ((c.tc : Thread Cert.FoxOutIdeal.nD Cert.FoxOutIdeal.τ).loc Cert.FoxOutIdeal.main_arg2)) →
    ∃ (v0 : (c : Dev Cert.FoxOutIdeal.nD) → Buf (Elt Ideal) ((c.tc : Thread Cert.FoxOutIdeal.nD Cert.FoxOutIdeal.τ).loc Cert.FoxOutIdeal.main_v1)),
      θ_run (Cert.FoxOutIdeal.defs (F := Ideal)) (onTc (τ := Cert.FoxOutIdeal.τ) (Cert.FoxOutIdeal.main (F := Ideal))) ⟨m, fun _ => 0, g⟩ (fun r => ∀ c : Dev Cert.FoxOutIdeal.nD,
          r.2.mem ((c.tc : Thread Cert.FoxOutIdeal.nD Cert.FoxOutIdeal.τ).loc Cert.FoxOutIdeal.main_v1) = v0 c
          ∧ r.2.mem ((c.tc : Thread Cert.FoxOutIdeal.nD Cert.FoxOutIdeal.τ).loc Cert.FoxOutIdeal.main_arg0) = m ((c.tc : Thread Cert.FoxOutIdeal.nD Cert.FoxOutIdeal.τ).loc Cert.FoxOutIdeal.main_arg0)
          ∧ r.2.mem ((c.tc : Thread Cert.FoxOutIdeal.nD Cert.FoxOutIdeal.τ).loc Cert.FoxOutIdeal.main_arg1) = m ((c.tc : Thread Cert.FoxOutIdeal.nD Cert.FoxOutIdeal.τ).loc Cert.FoxOutIdeal.main_arg1)
          ∧ r.2.mem ((c.tc : Thread Cert.FoxOutIdeal.nD Cert.FoxOutIdeal.τ).loc Cert.FoxOutIdeal.main_arg2) = m ((c.tc : Thread Cert.FoxOutIdeal.nD Cert.FoxOutIdeal.τ).loc Cert.FoxOutIdeal.main_arg2))
      ∧ θ_run (Cert.FoxOutReferenceIdeal.defs (F := Ideal)) (onTc (τ := Cert.FoxOutReferenceIdeal.τ) (Cert.FoxOutReferenceIdeal.main (F := Ideal))) ⟨m', fun _ => 0, g'⟩ (fun r => ∀ c : Dev Cert.FoxOutReferenceIdeal.nD,
          r.2.mem ((c.tc : Thread Cert.FoxOutReferenceIdeal.nD Cert.FoxOutReferenceIdeal.τ).loc Cert.FoxOutReferenceIdeal.main_v2) = v0 c
          ∧ r.2.mem ((c.tc : Thread Cert.FoxOutReferenceIdeal.nD Cert.FoxOutReferenceIdeal.τ).loc Cert.FoxOutReferenceIdeal.main_arg0) = m' ((c.tc : Thread Cert.FoxOutReferenceIdeal.nD Cert.FoxOutReferenceIdeal.τ).loc Cert.FoxOutReferenceIdeal.main_arg0)
          ∧ r.2.mem ((c.tc : Thread Cert.FoxOutReferenceIdeal.nD Cert.FoxOutReferenceIdeal.τ).loc Cert.FoxOutReferenceIdeal.main_arg1) = m' ((c.tc : Thread Cert.FoxOutReferenceIdeal.nD Cert.FoxOutReferenceIdeal.τ).loc Cert.FoxOutReferenceIdeal.main_arg1)
          ∧ r.2.mem ((c.tc : Thread Cert.FoxOutReferenceIdeal.nD Cert.FoxOutReferenceIdeal.τ).loc Cert.FoxOutReferenceIdeal.main_arg2) = m' ((c.tc : Thread Cert.FoxOutReferenceIdeal.nD Cert.FoxOutReferenceIdeal.τ).loc Cert.FoxOutReferenceIdeal.main_arg2))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)
      ∧ m' ((c.tc : Thread Cert.MixerInReferenceIdeal.nD Cert.MixerInReferenceIdeal.τ).loc Cert.MixerInReferenceIdeal.main_arg2) = m ((c.tc : Thread Cert.MixerInIdeal.nD Cert.MixerInIdeal.τ).loc Cert.MixerInIdeal.main_arg2)) →
    ∃ (v0 : (c : Dev Cert.MixerInIdeal.nD) → Buf (Elt Ideal) ((c.tc : Thread Cert.MixerInIdeal.nD Cert.MixerInIdeal.τ).loc Cert.MixerInIdeal.main_v3)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v3) = v0 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v15) = v0 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1)
          ∧ r.2.mem ((c.tc : Thread Cert.MixerInReferenceIdeal.nD Cert.MixerInReferenceIdeal.τ).loc Cert.MixerInReferenceIdeal.main_arg2) = m' ((c.tc : Thread Cert.MixerInReferenceIdeal.nD Cert.MixerInReferenceIdeal.τ).loc Cert.MixerInReferenceIdeal.main_arg2))

def preserves_FoxKv_FoxKvIdeal : Prop :=
  True

def algebraic_FoxKvIdeal_FoxKvReferenceIdeal [hFoxKvIdeal : Cert.FoxKvIdeal.Facts] [hFoxKvReferenceIdeal : Cert.FoxKvReferenceIdeal.Facts] : Prop :=
  ∀ (m : (ℓ : Loc Cert.FoxKvIdeal.nD Cert.FoxKvIdeal.τ Cert.FoxKvIdeal.sig) → Buf (Elt Ideal) ℓ) (g : Dev Cert.FoxKvIdeal.nD → PrngReg)
    (m' : (ℓ : Loc Cert.FoxKvReferenceIdeal.nD Cert.FoxKvReferenceIdeal.τ Cert.FoxKvReferenceIdeal.sig) → Buf (Elt Ideal) ℓ) (g' : Dev Cert.FoxKvReferenceIdeal.nD → PrngReg), Pre_FoxKvIdeal m →
    (∀ c : Dev Cert.FoxKvIdeal.nD,
      m' ((c.tc : Thread Cert.FoxKvReferenceIdeal.nD Cert.FoxKvReferenceIdeal.τ).loc Cert.FoxKvReferenceIdeal.main_arg0) = m ((c.tc : Thread Cert.FoxKvIdeal.nD Cert.FoxKvIdeal.τ).loc Cert.FoxKvIdeal.main_arg0)
      ∧ m' ((c.tc : Thread Cert.FoxKvReferenceIdeal.nD Cert.FoxKvReferenceIdeal.τ).loc Cert.FoxKvReferenceIdeal.main_arg1) = m ((c.tc : Thread Cert.FoxKvIdeal.nD Cert.FoxKvIdeal.τ).loc Cert.FoxKvIdeal.main_arg1)
      ∧ m' ((c.tc : Thread Cert.FoxKvReferenceIdeal.nD Cert.FoxKvReferenceIdeal.τ).loc Cert.FoxKvReferenceIdeal.main_arg2) = m ((c.tc : Thread Cert.FoxKvIdeal.nD Cert.FoxKvIdeal.τ).loc Cert.FoxKvIdeal.main_arg2)) →
    ∃ (v0 : (c : Dev Cert.FoxKvIdeal.nD) → Buf (Elt Ideal) ((c.tc : Thread Cert.FoxKvIdeal.nD Cert.FoxKvIdeal.τ).loc Cert.FoxKvIdeal.main_v3)),
      θ_run (Cert.FoxKvIdeal.defs (F := Ideal)) (onTc (τ := Cert.FoxKvIdeal.τ) (Cert.FoxKvIdeal.main (F := Ideal))) ⟨m, fun _ => 0, g⟩ (fun r => ∀ c : Dev Cert.FoxKvIdeal.nD,
          r.2.mem ((c.tc : Thread Cert.FoxKvIdeal.nD Cert.FoxKvIdeal.τ).loc Cert.FoxKvIdeal.main_v3) = v0 c
          ∧ r.2.mem ((c.tc : Thread Cert.FoxKvIdeal.nD Cert.FoxKvIdeal.τ).loc Cert.FoxKvIdeal.main_arg0) = m ((c.tc : Thread Cert.FoxKvIdeal.nD Cert.FoxKvIdeal.τ).loc Cert.FoxKvIdeal.main_arg0)
          ∧ r.2.mem ((c.tc : Thread Cert.FoxKvIdeal.nD Cert.FoxKvIdeal.τ).loc Cert.FoxKvIdeal.main_arg1) = m ((c.tc : Thread Cert.FoxKvIdeal.nD Cert.FoxKvIdeal.τ).loc Cert.FoxKvIdeal.main_arg1)
          ∧ r.2.mem ((c.tc : Thread Cert.FoxKvIdeal.nD Cert.FoxKvIdeal.τ).loc Cert.FoxKvIdeal.main_arg2) = m ((c.tc : Thread Cert.FoxKvIdeal.nD Cert.FoxKvIdeal.τ).loc Cert.FoxKvIdeal.main_arg2))
      ∧ θ_run (Cert.FoxKvReferenceIdeal.defs (F := Ideal)) (onTc (τ := Cert.FoxKvReferenceIdeal.τ) (Cert.FoxKvReferenceIdeal.main (F := Ideal))) ⟨m', fun _ => 0, g'⟩ (fun r => ∀ c : Dev Cert.FoxKvReferenceIdeal.nD,
          r.2.mem ((c.tc : Thread Cert.FoxKvReferenceIdeal.nD Cert.FoxKvReferenceIdeal.τ).loc Cert.FoxKvReferenceIdeal.main_v15) = v0 c
          ∧ r.2.mem ((c.tc : Thread Cert.FoxKvReferenceIdeal.nD Cert.FoxKvReferenceIdeal.τ).loc Cert.FoxKvReferenceIdeal.main_arg0) = m' ((c.tc : Thread Cert.FoxKvReferenceIdeal.nD Cert.FoxKvReferenceIdeal.τ).loc Cert.FoxKvReferenceIdeal.main_arg0)
          ∧ r.2.mem ((c.tc : Thread Cert.FoxKvReferenceIdeal.nD Cert.FoxKvReferenceIdeal.τ).loc Cert.FoxKvReferenceIdeal.main_arg1) = m' ((c.tc : Thread Cert.FoxKvReferenceIdeal.nD Cert.FoxKvReferenceIdeal.τ).loc Cert.FoxKvReferenceIdeal.main_arg1)
          ∧ r.2.mem ((c.tc : Thread Cert.FoxKvReferenceIdeal.nD Cert.FoxKvReferenceIdeal.τ).loc Cert.FoxKvReferenceIdeal.main_arg2) = m' ((c.tc : Thread Cert.FoxKvReferenceIdeal.nD Cert.FoxKvReferenceIdeal.τ).loc Cert.FoxKvReferenceIdeal.main_arg2))

def preserves_FoxQ_FoxQIdeal : Prop :=
  IdealRules.named_const.Statement Cert.FoxQIdeal.κ "q_scale" .f32 0x3E0293EE#32 (((Real.sqrt 128)⁻¹ * (Real.log 2)⁻¹ : ℝ) : EReal)

def algebraic_FoxQIdeal_FoxQReferenceIdeal [hFoxQIdeal : Cert.FoxQIdeal.Facts] [hFoxQReferenceIdeal : Cert.FoxQReferenceIdeal.Facts] : Prop :=
  ∀ (m : (ℓ : Loc Cert.FoxQIdeal.nD Cert.FoxQIdeal.τ Cert.FoxQIdeal.sig) → Buf (Elt Ideal) ℓ) (g : Dev Cert.FoxQIdeal.nD → PrngReg)
    (m' : (ℓ : Loc Cert.FoxQReferenceIdeal.nD Cert.FoxQReferenceIdeal.τ Cert.FoxQReferenceIdeal.sig) → Buf (Elt Ideal) ℓ) (g' : Dev Cert.FoxQReferenceIdeal.nD → PrngReg), Pre_FoxQIdeal m →
    (∀ c : Dev Cert.FoxQIdeal.nD,
      m' ((c.tc : Thread Cert.FoxQReferenceIdeal.nD Cert.FoxQReferenceIdeal.τ).loc Cert.FoxQReferenceIdeal.main_arg0) = m ((c.tc : Thread Cert.FoxQIdeal.nD Cert.FoxQIdeal.τ).loc Cert.FoxQIdeal.main_arg0)
      ∧ m' ((c.tc : Thread Cert.FoxQReferenceIdeal.nD Cert.FoxQReferenceIdeal.τ).loc Cert.FoxQReferenceIdeal.main_arg1) = m ((c.tc : Thread Cert.FoxQIdeal.nD Cert.FoxQIdeal.τ).loc Cert.FoxQIdeal.main_arg1)
      ∧ m' ((c.tc : Thread Cert.FoxQReferenceIdeal.nD Cert.FoxQReferenceIdeal.τ).loc Cert.FoxQReferenceIdeal.main_arg2) = m ((c.tc : Thread Cert.FoxQIdeal.nD Cert.FoxQIdeal.τ).loc Cert.FoxQIdeal.main_arg2)) →
    ∃ (v0 : (c : Dev Cert.FoxQIdeal.nD) → Buf (Elt Ideal) ((c.tc : Thread Cert.FoxQIdeal.nD Cert.FoxQIdeal.τ).loc Cert.FoxQIdeal.main_v2)),
      θ_run (Cert.FoxQIdeal.defs (F := Ideal)) (onTc (τ := Cert.FoxQIdeal.τ) (Cert.FoxQIdeal.main (F := Ideal))) ⟨m, fun _ => 0, g⟩ (fun r => ∀ c : Dev Cert.FoxQIdeal.nD,
          r.2.mem ((c.tc : Thread Cert.FoxQIdeal.nD Cert.FoxQIdeal.τ).loc Cert.FoxQIdeal.main_v2) = v0 c
          ∧ r.2.mem ((c.tc : Thread Cert.FoxQIdeal.nD Cert.FoxQIdeal.τ).loc Cert.FoxQIdeal.main_arg0) = m ((c.tc : Thread Cert.FoxQIdeal.nD Cert.FoxQIdeal.τ).loc Cert.FoxQIdeal.main_arg0)
          ∧ r.2.mem ((c.tc : Thread Cert.FoxQIdeal.nD Cert.FoxQIdeal.τ).loc Cert.FoxQIdeal.main_arg1) = m ((c.tc : Thread Cert.FoxQIdeal.nD Cert.FoxQIdeal.τ).loc Cert.FoxQIdeal.main_arg1)
          ∧ r.2.mem ((c.tc : Thread Cert.FoxQIdeal.nD Cert.FoxQIdeal.τ).loc Cert.FoxQIdeal.main_arg2) = m ((c.tc : Thread Cert.FoxQIdeal.nD Cert.FoxQIdeal.τ).loc Cert.FoxQIdeal.main_arg2))
      ∧ θ_run (Cert.FoxQReferenceIdeal.defs (F := Ideal)) (onTc (τ := Cert.FoxQReferenceIdeal.τ) (Cert.FoxQReferenceIdeal.main (F := Ideal))) ⟨m', fun _ => 0, g'⟩ (fun r => ∀ c : Dev Cert.FoxQReferenceIdeal.nD,
          r.2.mem ((c.tc : Thread Cert.FoxQReferenceIdeal.nD Cert.FoxQReferenceIdeal.τ).loc Cert.FoxQReferenceIdeal.main_v20) = v0 c
          ∧ r.2.mem ((c.tc : Thread Cert.FoxQReferenceIdeal.nD Cert.FoxQReferenceIdeal.τ).loc Cert.FoxQReferenceIdeal.main_arg0) = m' ((c.tc : Thread Cert.FoxQReferenceIdeal.nD Cert.FoxQReferenceIdeal.τ).loc Cert.FoxQReferenceIdeal.main_arg0)
          ∧ r.2.mem ((c.tc : Thread Cert.FoxQReferenceIdeal.nD Cert.FoxQReferenceIdeal.τ).loc Cert.FoxQReferenceIdeal.main_arg1) = m' ((c.tc : Thread Cert.FoxQReferenceIdeal.nD Cert.FoxQReferenceIdeal.τ).loc Cert.FoxQReferenceIdeal.main_arg1)
          ∧ r.2.mem ((c.tc : Thread Cert.FoxQReferenceIdeal.nD Cert.FoxQReferenceIdeal.τ).loc Cert.FoxQReferenceIdeal.main_arg2) = m' ((c.tc : Thread Cert.FoxQReferenceIdeal.nD Cert.FoxQReferenceIdeal.τ).loc Cert.FoxQReferenceIdeal.main_arg2))

def preserves_PeerQ_PeerQIdeal : Prop :=
  True

def algebraic_PeerQIdeal_PeerQReferenceIdeal [hPeerQIdeal : Cert.PeerQIdeal.Facts] [hPeerQReferenceIdeal : Cert.PeerQReferenceIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQReferenceIdeal.nD Cert.PeerQReferenceIdeal.τ Cert.PeerQReferenceIdeal.sig) → Buf (Elt Ideal) ℓ) (g' : Dev Cert.PeerQReferenceIdeal.nD → PrngReg), Pre_PeerQIdeal m →
    (∀ c : Dev Cert.PeerQIdeal.nD,
      m' ((c.tc : Thread Cert.PeerQReferenceIdeal.nD Cert.PeerQReferenceIdeal.τ).loc Cert.PeerQReferenceIdeal.main_arg0) = m ((c.tc : Thread Cert.PeerQIdeal.nD Cert.PeerQIdeal.τ).loc Cert.PeerQIdeal.main_arg0)
      ∧ m' ((c.tc : Thread Cert.PeerQReferenceIdeal.nD Cert.PeerQReferenceIdeal.τ).loc Cert.PeerQReferenceIdeal.main_arg1) = m ((c.tc : Thread Cert.PeerQIdeal.nD Cert.PeerQIdeal.τ).loc Cert.PeerQIdeal.main_arg1)
      ∧ m' ((c.tc : Thread Cert.PeerQReferenceIdeal.nD Cert.PeerQReferenceIdeal.τ).loc Cert.PeerQReferenceIdeal.main_arg2) = m ((c.tc : Thread Cert.PeerQIdeal.nD Cert.PeerQIdeal.τ).loc Cert.PeerQIdeal.main_arg2)) →
    ∃ (v0 : (c : Dev Cert.PeerQIdeal.nD) → Buf (Elt Ideal) ((c.tc : Thread Cert.PeerQIdeal.nD Cert.PeerQIdeal.τ).loc Cert.PeerQIdeal.main_v2_0)) (v1 : (c : Dev Cert.PeerQIdeal.nD) → Buf (Elt Ideal) ((c.tc : Thread Cert.PeerQIdeal.nD Cert.PeerQIdeal.τ).loc Cert.PeerQIdeal.main_v2_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v2_0) = v0 c
          ∧ r.2.mem ((c.tc : Thread Cert.PeerQIdeal.nD Cert.PeerQIdeal.τ).loc Cert.PeerQIdeal.main_v2_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2))
      ∧ θ_run (Cert.PeerQReferenceIdeal.defs (F := Ideal)) (onTc (τ := Cert.PeerQReferenceIdeal.τ) (Cert.PeerQReferenceIdeal.main (F := Ideal))) ⟨m', fun _ => 0, g'⟩ (fun r => ∀ c : Dev Cert.PeerQReferenceIdeal.nD,
          r.2.mem ((c.tc : Thread Cert.PeerQReferenceIdeal.nD Cert.PeerQReferenceIdeal.τ).loc Cert.PeerQReferenceIdeal.main_v14) = v0 c
          ∧ r.2.mem ((c.tc : Thread Cert.PeerQReferenceIdeal.nD Cert.PeerQReferenceIdeal.τ).loc Cert.PeerQReferenceIdeal.main_v15) = v1 c
          ∧ r.2.mem ((c.tc : Thread Cert.PeerQReferenceIdeal.nD Cert.PeerQReferenceIdeal.τ).loc Cert.PeerQReferenceIdeal.main_arg0) = m' ((c.tc : Thread Cert.PeerQReferenceIdeal.nD Cert.PeerQReferenceIdeal.τ).loc Cert.PeerQReferenceIdeal.main_arg0)
          ∧ r.2.mem ((c.tc : Thread Cert.PeerQReferenceIdeal.nD Cert.PeerQReferenceIdeal.τ).loc Cert.PeerQReferenceIdeal.main_arg1) = m' ((c.tc : Thread Cert.PeerQReferenceIdeal.nD Cert.PeerQReferenceIdeal.τ).loc Cert.PeerQReferenceIdeal.main_arg1)
          ∧ r.2.mem ((c.tc : Thread Cert.PeerQReferenceIdeal.nD Cert.PeerQReferenceIdeal.τ).loc Cert.PeerQReferenceIdeal.main_arg2) = m' ((c.tc : Thread Cert.PeerQReferenceIdeal.nD Cert.PeerQReferenceIdeal.τ).loc Cert.PeerQReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)
      ∧ m' ((c.tc : Thread Cert.PleReferenceIdeal.nD Cert.PleReferenceIdeal.τ).loc Cert.PleReferenceIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v26) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6))

def preserves_MixerDt_MixerDtIdeal : Prop :=
  True

def algebraic_MixerDtIdeal_MixerDtReferenceIdeal [hMixerDtIdeal : Cert.MixerDtIdeal.Facts] [hMixerDtReferenceIdeal : Cert.MixerDtReferenceIdeal.Facts] : Prop :=
  ∀ (m : (ℓ : Loc Cert.MixerDtIdeal.nD Cert.MixerDtIdeal.τ Cert.MixerDtIdeal.sig) → Buf (Elt Ideal) ℓ) (g : Dev Cert.MixerDtIdeal.nD → PrngReg)
    (m' : (ℓ : Loc Cert.MixerDtReferenceIdeal.nD Cert.MixerDtReferenceIdeal.τ Cert.MixerDtReferenceIdeal.sig) → Buf (Elt Ideal) ℓ) (g' : Dev Cert.MixerDtReferenceIdeal.nD → PrngReg), Pre_MixerDtIdeal m →
    (∀ c : Dev Cert.MixerDtIdeal.nD,
      m' ((c.tc : Thread Cert.MixerDtReferenceIdeal.nD Cert.MixerDtReferenceIdeal.τ).loc Cert.MixerDtReferenceIdeal.main_arg0) = m ((c.tc : Thread Cert.MixerDtIdeal.nD Cert.MixerDtIdeal.τ).loc Cert.MixerDtIdeal.main_arg0)
      ∧ m' ((c.tc : Thread Cert.MixerDtReferenceIdeal.nD Cert.MixerDtReferenceIdeal.τ).loc Cert.MixerDtReferenceIdeal.main_arg1) = m ((c.tc : Thread Cert.MixerDtIdeal.nD Cert.MixerDtIdeal.τ).loc Cert.MixerDtIdeal.main_arg1)
      ∧ m' ((c.tc : Thread Cert.MixerDtReferenceIdeal.nD Cert.MixerDtReferenceIdeal.τ).loc Cert.MixerDtReferenceIdeal.main_arg2) = m ((c.tc : Thread Cert.MixerDtIdeal.nD Cert.MixerDtIdeal.τ).loc Cert.MixerDtIdeal.main_arg2)) →
    ∃ (v0 : (c : Dev Cert.MixerDtIdeal.nD) → Buf (Elt Ideal) ((c.tc : Thread Cert.MixerDtIdeal.nD Cert.MixerDtIdeal.τ).loc Cert.MixerDtIdeal.main_v4)),
      θ_run (Cert.MixerDtIdeal.defs (F := Ideal)) (onTc (τ := Cert.MixerDtIdeal.τ) (Cert.MixerDtIdeal.main (F := Ideal))) ⟨m, fun _ => 0, g⟩ (fun r => ∀ c : Dev Cert.MixerDtIdeal.nD,
          r.2.mem ((c.tc : Thread Cert.MixerDtIdeal.nD Cert.MixerDtIdeal.τ).loc Cert.MixerDtIdeal.main_v4) = v0 c
          ∧ r.2.mem ((c.tc : Thread Cert.MixerDtIdeal.nD Cert.MixerDtIdeal.τ).loc Cert.MixerDtIdeal.main_arg0) = m ((c.tc : Thread Cert.MixerDtIdeal.nD Cert.MixerDtIdeal.τ).loc Cert.MixerDtIdeal.main_arg0)
          ∧ r.2.mem ((c.tc : Thread Cert.MixerDtIdeal.nD Cert.MixerDtIdeal.τ).loc Cert.MixerDtIdeal.main_arg1) = m ((c.tc : Thread Cert.MixerDtIdeal.nD Cert.MixerDtIdeal.τ).loc Cert.MixerDtIdeal.main_arg1)
          ∧ r.2.mem ((c.tc : Thread Cert.MixerDtIdeal.nD Cert.MixerDtIdeal.τ).loc Cert.MixerDtIdeal.main_arg2) = m ((c.tc : Thread Cert.MixerDtIdeal.nD Cert.MixerDtIdeal.τ).loc Cert.MixerDtIdeal.main_arg2))
      ∧ θ_run (Cert.MixerDtReferenceIdeal.defs (F := Ideal)) (onTc (τ := Cert.MixerDtReferenceIdeal.τ) (Cert.MixerDtReferenceIdeal.main (F := Ideal))) ⟨m', fun _ => 0, g'⟩ (fun r => ∀ c : Dev Cert.MixerDtReferenceIdeal.nD,
          r.2.mem ((c.tc : Thread Cert.MixerDtReferenceIdeal.nD Cert.MixerDtReferenceIdeal.τ).loc Cert.MixerDtReferenceIdeal.main_v15) = v0 c
          ∧ r.2.mem ((c.tc : Thread Cert.MixerDtReferenceIdeal.nD Cert.MixerDtReferenceIdeal.τ).loc Cert.MixerDtReferenceIdeal.main_arg0) = m' ((c.tc : Thread Cert.MixerDtReferenceIdeal.nD Cert.MixerDtReferenceIdeal.τ).loc Cert.MixerDtReferenceIdeal.main_arg0)
          ∧ r.2.mem ((c.tc : Thread Cert.MixerDtReferenceIdeal.nD Cert.MixerDtReferenceIdeal.τ).loc Cert.MixerDtReferenceIdeal.main_arg1) = m' ((c.tc : Thread Cert.MixerDtReferenceIdeal.nD Cert.MixerDtReferenceIdeal.τ).loc Cert.MixerDtReferenceIdeal.main_arg1)
          ∧ r.2.mem ((c.tc : Thread Cert.MixerDtReferenceIdeal.nD Cert.MixerDtReferenceIdeal.τ).loc Cert.MixerDtReferenceIdeal.main_arg2) = m' ((c.tc : Thread Cert.MixerDtReferenceIdeal.nD Cert.MixerDtReferenceIdeal.τ).loc Cert.MixerDtReferenceIdeal.main_arg2))

def preserves_FoxGates_FoxGatesIdeal : Prop :=
  True

def algebraic_FoxGatesIdeal_FoxGatesReferenceIdeal [hFoxGatesIdeal : Cert.FoxGatesIdeal.Facts] [hFoxGatesReferenceIdeal : Cert.FoxGatesReferenceIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg)
    (m' : (ℓ : Loc Cert.FoxGatesReferenceIdeal.nD Cert.FoxGatesReferenceIdeal.τ Cert.FoxGatesReferenceIdeal.sig) → Buf (Elt Ideal) ℓ) (g' : Dev Cert.FoxGatesReferenceIdeal.nD → PrngReg), Pre_FoxGatesIdeal m →
    (∀ c : Dev Cert.FoxGatesIdeal.nD,
      m' ((c.tc : Thread Cert.FoxGatesReferenceIdeal.nD Cert.FoxGatesReferenceIdeal.τ).loc Cert.FoxGatesReferenceIdeal.main_arg0) = m ((c.tc : Thread Cert.FoxGatesIdeal.nD Cert.FoxGatesIdeal.τ).loc Cert.FoxGatesIdeal.main_arg0)
      ∧ m' ((c.tc : Thread Cert.FoxGatesReferenceIdeal.nD Cert.FoxGatesReferenceIdeal.τ).loc Cert.FoxGatesReferenceIdeal.main_arg1) = m ((c.tc : Thread Cert.FoxGatesIdeal.nD Cert.FoxGatesIdeal.τ).loc Cert.FoxGatesIdeal.main_arg1)
      ∧ m' ((c.tc : Thread Cert.FoxGatesReferenceIdeal.nD Cert.FoxGatesReferenceIdeal.τ).loc Cert.FoxGatesReferenceIdeal.main_arg2) = m ((c.tc : Thread Cert.FoxGatesIdeal.nD Cert.FoxGatesIdeal.τ).loc Cert.FoxGatesIdeal.main_arg2)) →
    ∃ (v0 : (c : Dev Cert.FoxGatesIdeal.nD) → Buf (Elt Ideal) ((c.tc : Thread Cert.FoxGatesIdeal.nD Cert.FoxGatesIdeal.τ).loc Cert.FoxGatesIdeal.main_v4)),
      θ_run (Cert.FoxGatesIdeal.defs (F := Ideal)) (onTc (τ := Cert.FoxGatesIdeal.τ) (Cert.FoxGatesIdeal.main (F := Ideal))) ⟨m, fun _ => 0, g⟩ (fun r => ∀ c : Dev Cert.FoxGatesIdeal.nD,
          r.2.mem ((c.tc : Thread Cert.FoxGatesIdeal.nD Cert.FoxGatesIdeal.τ).loc Cert.FoxGatesIdeal.main_v4) = v0 c
          ∧ r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
          ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1)
          ∧ r.2.mem ((c.tc : Thread Cert.FoxGatesIdeal.nD Cert.FoxGatesIdeal.τ).loc Cert.FoxGatesIdeal.main_arg2) = m ((c.tc : Thread Cert.FoxGatesIdeal.nD Cert.FoxGatesIdeal.τ).loc Cert.FoxGatesIdeal.main_arg2))
      ∧ θ_run (Cert.FoxGatesReferenceIdeal.defs (F := Ideal)) (onTc (τ := Cert.FoxGatesReferenceIdeal.τ) (Cert.FoxGatesReferenceIdeal.main (F := Ideal))) ⟨m', fun _ => 0, g'⟩ (fun r => ∀ c : Dev Cert.FoxGatesReferenceIdeal.nD,
          r.2.mem ((c.tc : Thread Cert.FoxGatesReferenceIdeal.nD Cert.FoxGatesReferenceIdeal.τ).loc Cert.FoxGatesReferenceIdeal.main_v15) = v0 c
          ∧ r.2.mem ((c.tc : Thread Cert.FoxGatesReferenceIdeal.nD Cert.FoxGatesReferenceIdeal.τ).loc Cert.FoxGatesReferenceIdeal.main_arg0) = m' ((c.tc : Thread Cert.FoxGatesReferenceIdeal.nD Cert.FoxGatesReferenceIdeal.τ).loc Cert.FoxGatesReferenceIdeal.main_arg0)
          ∧ r.2.mem ((c.tc : Thread Cert.FoxGatesReferenceIdeal.nD Cert.FoxGatesReferenceIdeal.τ).loc Cert.FoxGatesReferenceIdeal.main_arg1) = m' ((c.tc : Thread Cert.FoxGatesReferenceIdeal.nD Cert.FoxGatesReferenceIdeal.τ).loc Cert.FoxGatesReferenceIdeal.main_arg1)
          ∧ r.2.mem ((c.tc : Thread Cert.FoxGatesReferenceIdeal.nD Cert.FoxGatesReferenceIdeal.τ).loc Cert.FoxGatesReferenceIdeal.main_arg2) = m' ((c.tc : Thread Cert.FoxGatesReferenceIdeal.nD Cert.FoxGatesReferenceIdeal.τ).loc Cert.FoxGatesReferenceIdeal.main_arg2))

def preserves_FoxSums_FoxSumsIdeal : Prop :=
  True

def algebraic_FoxSumsIdeal_FoxSumsReferenceIdeal [hFoxSumsIdeal : Cert.FoxSumsIdeal.Facts] [hFoxSumsReferenceIdeal : Cert.FoxSumsReferenceIdeal.Facts] : Prop :=
  ∀ (m : (ℓ : Loc Cert.FoxSumsIdeal.nD Cert.FoxSumsIdeal.τ Cert.FoxSumsIdeal.sig) → Buf (Elt Ideal) ℓ) (g : Dev Cert.FoxSumsIdeal.nD → PrngReg)
    (m' : (ℓ : Loc Cert.FoxSumsReferenceIdeal.nD Cert.FoxSumsReferenceIdeal.τ Cert.FoxSumsReferenceIdeal.sig) → Buf (Elt Ideal) ℓ) (g' : Dev Cert.FoxSumsReferenceIdeal.nD → PrngReg), Pre_FoxSumsIdeal m →
    (∀ c : Dev Cert.FoxSumsIdeal.nD,
      m' ((c.tc : Thread Cert.FoxSumsReferenceIdeal.nD Cert.FoxSumsReferenceIdeal.τ).loc Cert.FoxSumsReferenceIdeal.main_arg0) = m ((c.tc : Thread Cert.FoxSumsIdeal.nD Cert.FoxSumsIdeal.τ).loc Cert.FoxSumsIdeal.main_arg0)
      ∧ m' ((c.tc : Thread Cert.FoxSumsReferenceIdeal.nD Cert.FoxSumsReferenceIdeal.τ).loc Cert.FoxSumsReferenceIdeal.main_arg1) = m ((c.tc : Thread Cert.FoxSumsIdeal.nD Cert.FoxSumsIdeal.τ).loc Cert.FoxSumsIdeal.main_arg1)) →
    ∃ (v0 : (c : Dev Cert.FoxSumsIdeal.nD) → Buf (Elt Ideal) ((c.tc : Thread Cert.FoxSumsIdeal.nD Cert.FoxSumsIdeal.τ).loc Cert.FoxSumsIdeal.main_v2)),
      θ_run (Cert.FoxSumsIdeal.defs (F := Ideal)) (onTc (τ := Cert.FoxSumsIdeal.τ) (Cert.FoxSumsIdeal.main (F := Ideal))) ⟨m, fun _ => 0, g⟩ (fun r => ∀ c : Dev Cert.FoxSumsIdeal.nD,
          r.2.mem ((c.tc : Thread Cert.FoxSumsIdeal.nD Cert.FoxSumsIdeal.τ).loc Cert.FoxSumsIdeal.main_v2) = v0 c
          ∧ r.2.mem ((c.tc : Thread Cert.FoxSumsIdeal.nD Cert.FoxSumsIdeal.τ).loc Cert.FoxSumsIdeal.main_arg0) = m ((c.tc : Thread Cert.FoxSumsIdeal.nD Cert.FoxSumsIdeal.τ).loc Cert.FoxSumsIdeal.main_arg0)
          ∧ r.2.mem ((c.tc : Thread Cert.FoxSumsIdeal.nD Cert.FoxSumsIdeal.τ).loc Cert.FoxSumsIdeal.main_arg1) = m ((c.tc : Thread Cert.FoxSumsIdeal.nD Cert.FoxSumsIdeal.τ).loc Cert.FoxSumsIdeal.main_arg1))
      ∧ θ_run (Cert.FoxSumsReferenceIdeal.defs (F := Ideal)) (onTc (τ := Cert.FoxSumsReferenceIdeal.τ) (Cert.FoxSumsReferenceIdeal.main (F := Ideal))) ⟨m', fun _ => 0, g'⟩ (fun r => ∀ c : Dev Cert.FoxSumsReferenceIdeal.nD,
          r.2.mem ((c.tc : Thread Cert.FoxSumsReferenceIdeal.nD Cert.FoxSumsReferenceIdeal.τ).loc Cert.FoxSumsReferenceIdeal.main_v14) = v0 c
          ∧ r.2.mem ((c.tc : Thread Cert.FoxSumsReferenceIdeal.nD Cert.FoxSumsReferenceIdeal.τ).loc Cert.FoxSumsReferenceIdeal.main_arg0) = m' ((c.tc : Thread Cert.FoxSumsReferenceIdeal.nD Cert.FoxSumsReferenceIdeal.τ).loc Cert.FoxSumsReferenceIdeal.main_arg0)
          ∧ r.2.mem ((c.tc : Thread Cert.FoxSumsReferenceIdeal.nD Cert.FoxSumsReferenceIdeal.τ).loc Cert.FoxSumsReferenceIdeal.main_arg1) = m' ((c.tc : Thread Cert.FoxSumsReferenceIdeal.nD Cert.FoxSumsReferenceIdeal.τ).loc Cert.FoxSumsReferenceIdeal.main_arg1))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hMixerOut : Cert.MixerOut.Facts) (hMixerOutIdeal : Cert.MixerOutIdeal.Facts) (hMixerOutReferenceIdeal : Cert.MixerOutReferenceIdeal.Facts) (hFoxOut : Cert.FoxOut.Facts) (hFoxOutIdeal : Cert.FoxOutIdeal.Facts) (hFoxOutReferenceIdeal : Cert.FoxOutReferenceIdeal.Facts) (hMixerIn : Cert.MixerIn.Facts) (hMixerInIdeal : Cert.MixerInIdeal.Facts) (hMixerInReferenceIdeal : Cert.MixerInReferenceIdeal.Facts) (hFoxKv : Cert.FoxKv.Facts) (hFoxKvIdeal : Cert.FoxKvIdeal.Facts) (hFoxKvReferenceIdeal : Cert.FoxKvReferenceIdeal.Facts) (hFoxQ : Cert.FoxQ.Facts) (hFoxQIdeal : Cert.FoxQIdeal.Facts) (hFoxQReferenceIdeal : Cert.FoxQReferenceIdeal.Facts) (hPeerQ : Cert.PeerQ.Facts) (hPeerQIdeal : Cert.PeerQIdeal.Facts) (hPeerQReferenceIdeal : Cert.PeerQReferenceIdeal.Facts) (hPle : Cert.Ple.Facts) (hPleIdeal : Cert.PleIdeal.Facts) (hPleReferenceIdeal : Cert.PleReferenceIdeal.Facts) (hMixerDt : Cert.MixerDt.Facts) (hMixerDtIdeal : Cert.MixerDtIdeal.Facts) (hMixerDtReferenceIdeal : Cert.MixerDtReferenceIdeal.Facts) (hFoxGates : Cert.FoxGates.Facts) (hFoxGatesIdeal : Cert.FoxGatesIdeal.Facts) (hFoxGatesReferenceIdeal : Cert.FoxGatesReferenceIdeal.Facts) (hFoxSums : Cert.FoxSums.Facts) (hFoxSumsIdeal : Cert.FoxSumsIdeal.Facts) (hFoxSumsReferenceIdeal : Cert.FoxSumsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Final (hFinal := hFinal)
    ∧ quiescent_FinalIdeal (hFinalIdeal := hFinalIdeal)
    ∧ quiescent_FinalReferenceIdeal (hFinalReferenceIdeal := hFinalReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_FoxOut (hFoxOut := hFoxOut)
    ∧ quiescent_FoxOutIdeal (hFoxOutIdeal := hFoxOutIdeal)
    ∧ quiescent_FoxOutReferenceIdeal (hFoxOutReferenceIdeal := hFoxOutReferenceIdeal)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ quiescent_FoxKv (hFoxKv := hFoxKv)
    ∧ quiescent_FoxKvIdeal (hFoxKvIdeal := hFoxKvIdeal)
    ∧ quiescent_FoxKvReferenceIdeal (hFoxKvReferenceIdeal := hFoxKvReferenceIdeal)
    ∧ quiescent_FoxQ (hFoxQ := hFoxQ)
    ∧ quiescent_FoxQIdeal (hFoxQIdeal := hFoxQIdeal)
    ∧ quiescent_FoxQReferenceIdeal (hFoxQReferenceIdeal := hFoxQReferenceIdeal)
    ∧ quiescent_PeerQ (hPeerQ := hPeerQ)
    ∧ quiescent_PeerQIdeal (hPeerQIdeal := hPeerQIdeal)
    ∧ quiescent_PeerQReferenceIdeal (hPeerQReferenceIdeal := hPeerQReferenceIdeal)
    ∧ quiescent_Ple (hPle := hPle)
    ∧ quiescent_PleIdeal (hPleIdeal := hPleIdeal)
    ∧ quiescent_PleReferenceIdeal (hPleReferenceIdeal := hPleReferenceIdeal)
    ∧ quiescent_MixerDt (hMixerDt := hMixerDt)
    ∧ quiescent_MixerDtIdeal (hMixerDtIdeal := hMixerDtIdeal)
    ∧ quiescent_MixerDtReferenceIdeal (hMixerDtReferenceIdeal := hMixerDtReferenceIdeal)
    ∧ quiescent_FoxGates (hFoxGates := hFoxGates)
    ∧ quiescent_FoxGatesIdeal (hFoxGatesIdeal := hFoxGatesIdeal)
    ∧ quiescent_FoxGatesReferenceIdeal (hFoxGatesReferenceIdeal := hFoxGatesReferenceIdeal)
    ∧ quiescent_FoxSums (hFoxSums := hFoxSums)
    ∧ quiescent_FoxSumsIdeal (hFoxSumsIdeal := hFoxSumsIdeal)
    ∧ quiescent_FoxSumsReferenceIdeal (hFoxSumsReferenceIdeal := hFoxSumsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Final_FinalIdeal
    ∧ algebraic_FinalIdeal_FinalReferenceIdeal (hFinalIdeal := hFinalIdeal) (hFinalReferenceIdeal := hFinalReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_FoxOut_FoxOutIdeal
    ∧ algebraic_FoxOutIdeal_FoxOutReferenceIdeal (hFoxOutIdeal := hFoxOutIdeal) (hFoxOutReferenceIdeal := hFoxOutReferenceIdeal)
    ∧ preserves_MixerIn_MixerInIdeal
    ∧ algebraic_MixerInIdeal_MixerInReferenceIdeal (hMixerInIdeal := hMixerInIdeal) (hMixerInReferenceIdeal := hMixerInReferenceIdeal)
    ∧ preserves_FoxKv_FoxKvIdeal
    ∧ algebraic_FoxKvIdeal_FoxKvReferenceIdeal (hFoxKvIdeal := hFoxKvIdeal) (hFoxKvReferenceIdeal := hFoxKvReferenceIdeal)
    ∧ preserves_FoxQ_FoxQIdeal
    ∧ algebraic_FoxQIdeal_FoxQReferenceIdeal (hFoxQIdeal := hFoxQIdeal) (hFoxQReferenceIdeal := hFoxQReferenceIdeal)
    ∧ preserves_PeerQ_PeerQIdeal
    ∧ algebraic_PeerQIdeal_PeerQReferenceIdeal (hPeerQIdeal := hPeerQIdeal) (hPeerQReferenceIdeal := hPeerQReferenceIdeal)
    ∧ preserves_Ple_PleIdeal
    ∧ algebraic_PleIdeal_PleReferenceIdeal (hPleIdeal := hPleIdeal) (hPleReferenceIdeal := hPleReferenceIdeal)
    ∧ preserves_MixerDt_MixerDtIdeal
    ∧ algebraic_MixerDtIdeal_MixerDtReferenceIdeal (hMixerDtIdeal := hMixerDtIdeal) (hMixerDtReferenceIdeal := hMixerDtReferenceIdeal)
    ∧ preserves_FoxGates_FoxGatesIdeal
    ∧ algebraic_FoxGatesIdeal_FoxGatesReferenceIdeal (hFoxGatesIdeal := hFoxGatesIdeal) (hFoxGatesReferenceIdeal := hFoxGatesReferenceIdeal)
    ∧ preserves_FoxSums_FoxSumsIdeal
    ∧ algebraic_FoxSumsIdeal_FoxSumsReferenceIdeal (hFoxSumsIdeal := hFoxSumsIdeal) (hFoxSumsReferenceIdeal := hFoxSumsReferenceIdeal)
-- ==== Pre_finite.lean ====
abbrev S8192x2048 : Shape := ⟨2, ![8192, 2048]⟩
abbrev S8192x4096 : Shape := ⟨2, ![8192, 4096]⟩
abbrev S8192x16 : Shape := ⟨2, ![8192, 16]⟩
abbrev S_ : Shape := ⟨0, ![]⟩
abbrev S8192x16x1 : Shape := ⟨3, ![8192, 16, 1]⟩
abbrev S8192x16x128 : Shape := ⟨3, ![8192, 16, 128]⟩

class Facts : Prop where
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  bcast_S8192x16x1_S8192x16x128_0_1_2 : S8192x16x1.BroadcastsInDim S8192x16x128 (![0, 1, 2] : Fin 3 → Fin S8192x16x128.rank)
  shapeCasts_S8192x16x128_S8192x2048 : S8192x16x128.ShapeCasts S8192x2048
  bcast_S_S8192x2048 : S_.BroadcastsInDim S8192x2048 (![] : Fin 0 → Fin S8192x2048.rank)
  slices_S8192x4096_S8192x2048_0_0 : S8192x4096.Slices ![0, 0] S8192x2048

variable [Facts]

def fn {F : FTy → Type} [FloatOps F] (main_arg0 : FVec F S8192x2048 .bf16) (main_arg1 : FVec F S8192x4096 .bf16) (main_arg2 : FVec F S8192x16 .f32) : IVec S8192x2048 1 :=
  let main_v0 : FVec F S8192x16 .f32 := Host.absf main_arg2
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_v3 : IVec S8192x16x1 1 := broadcastInDim S8192x16x1 ![0, 1] bcast_S8192x16_S8192x16x1_0_1 main_v2
  let main_v4 : IVec S8192x16x128 1 := broadcastInDim S8192x16x128 ![0, 1, 2] bcast_S8192x16x1_S8192x16x128_0_1_2 main_v3
  let main_v5 : IVec S8192x2048 1 := shapeCast S8192x2048 main_v4 shapeCasts_S8192x16x128_S8192x2048
  let main_v6 : FVec F S8192x2048 .bf16 := Host.absf main_arg0
  let main_cst_0 : FVec F S_ .bf16 := constant S_ .bf16 0x7F80#16
  let main_v7 : FVec F S8192x2048 .bf16 := broadcastInDim S8192x2048 ![] bcast_S_S8192x2048 main_cst_0
  let main_v8 : IVec S8192x2048 1 := cmpf .olt main_v6 main_v7
  let main_v9 : FVec F S8192x2048 .bf16 := (extractStridedSlice S8192x2048 ![0, 0] · slices_S8192x4096_S8192x2048_0_0) main_arg1
  let main_v10 : FVec F S8192x2048 .bf16 := Host.absf main_v9
  let main_cst_1 : FVec F S_ .bf16 := constant S_ .bf16 0x7F80#16
  let main_v11 : FVec F S8192x2048 .bf16 := broadcastInDim S8192x2048 ![] bcast_S_S8192x2048 main_cst_1
  let main_v12 : IVec S8192x2048 1 := cmpf .olt main_v10 main_v11
  let main_v13 : IVec S8192x2048 1 := andi main_v8 main_v12
  let main_v14 : IVec S8192x2048 1 := andi main_v13 main_v5
  main_v14
-- ==== Kernel.lean ====
abbrev S8192x2048 : Shape := ⟨2, ![8192, 2048]⟩
abbrev S8192x4096 : Shape := ⟨2, ![8192, 4096]⟩
abbrev S8192x16 : Shape := ⟨2, ![8192, 16]⟩
abbrev S16x8192 : Shape := ⟨2, ![16, 8192]⟩
abbrev S16x1x8192 : Shape := ⟨3, ![16, 1, 8192]⟩
abbrev S16x8192x1 : Shape := ⟨3, ![16, 8192, 1]⟩
abbrev S512x128 : Shape := ⟨2, ![512, 128]⟩
abbrev S8192x128 : Shape := ⟨2, ![8192, 128]⟩
abbrev S1x1x512 : Shape := ⟨3, ![1, 1, 512]⟩
abbrev S1x8192x1 : Shape := ⟨3, ![1, 8192, 1]⟩
abbrev S8192x256 : Shape := ⟨2, ![8192, 256]⟩
abbrev S128x8192 : Shape := ⟨2, ![128, 8192]⟩
abbrev S512x256 : Shape := ⟨2, ![512, 256]⟩
abbrev S512x512 : Shape := ⟨2, ![512, 512]⟩
abbrev S1x512 : Shape := ⟨2, ![1, 512]⟩
abbrev S128x512 : Shape := ⟨2, ![128, 512]⟩
abbrev S1x128 : Shape := ⟨2, ![1, 128]⟩
abbrev S8192x1 : Shape := ⟨2, ![8192, 1]⟩
abbrev S512 : Shape := ⟨1, ![512]⟩

abbrev nBuf : Space → Nat
  | .hbm => 8
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x16, .f32⟩
  | .hbm, ⟨3, _⟩ => ⟨S16x8192, .f32⟩
  | .hbm, ⟨4, _⟩ => ⟨S16x1x8192, .f32⟩
  | .hbm, ⟨5, _⟩ => ⟨S16x8192, .f32⟩
  | .hbm, ⟨6, _⟩ => ⟨S16x8192x1, .f32⟩
  | .hbm, ⟨7, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x512, .f32⟩
  | .local _ .vmem, ⟨7, _⟩ => ⟨S1x1x512, .f32⟩
  | .local _ .vmem, ⟨8, _⟩ => ⟨S1x8192x1, .f32⟩
  | .local _ .vmem, ⟨9, _⟩ => ⟨S1x8192x1, .f32⟩
  | .local _ .vmem, ⟨10, _⟩ => ⟨S512x128, .bf16⟩
  | .local _ .vmem, ⟨11, _⟩ => ⟨S512x128, .bf16⟩
  | .local _ .vmem, ⟨12, _⟩ => ⟨S8192x256, .bf16⟩
  | .local _ .vmem, ⟨13, _⟩ => ⟨S128x8192, .bf16⟩
  | .local _ .vmem, ⟨14, _⟩ => ⟨S512x256, .bf16⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S128x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_mult1 : BitVec 32 :=
  let c0_i32_19 : BitVec 32 := 0#32
  c0_i32_19
@[reducible] def k0_t1_loop (i : grid0.Coords) : Scf.Loop 32 :=
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_34 : BitVec 32 := 1#32
  ⟨c0_i32_32, v64, c1_i32_34⟩
def k0_mult2 (i : grid0.Coords) (k0_t1 : Fin (k0_t1_loop i).trips) : BitVec 32 :=
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c1_i32_59 : BitVec 32 := 1#32
  let v99 : BitVec 32 := Scalar.addi v98 c1_i32_59
  let c512_i32 : BitVec 32 := 512#32
  let v100 : BitVec 32 := Scalar.muli v99 c512_i32
  v100
def k0_off1 (i : grid0.Coords) (k0_t1 : Fin (k0_t1_loop i).trips) (c1_i32_59 : BitVec 32) : Fin 2 → Nat :=
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let v99 : BitVec 32 := Scalar.addi v98 c1_i32_59
  let c512_i32 : BitVec 32 := 512#32
  let v100 : BitVec 32 := Scalar.muli v99 c512_i32
  let v101 : BitVec 32 := v100
  let v102 : Index := Scalar.indexCast v101
  let c0_60 : Index := 0#32
  ![v102.toNat, 0]
def k0_mult3 (i : grid0.Coords) (k0_t1 : Fin (k0_t1_loop i).trips) : BitVec 32 :=
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c512_i32_66 : BitVec 32 := 512#32
  let v109 : BitVec 32 := Scalar.muli v98 c512_i32_66
  v109
def k0_off2 (i : grid0.Coords) (k0_t1 : Fin (k0_t1_loop i).trips) : Fin 2 → Nat :=
  let c0_79 : Index := 0#32
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c512_i32_66 : BitVec 32 := 512#32
  let v109 : BitVec 32 := Scalar.muli v98 c512_i32_66
  let v110 : BitVec 32 := v109
  let v134 : Index := Scalar.indexCast v110
  ![0, v134.toNat]
def k0_mult4 (i : grid0.Coords) (k0_t1 : Fin (k0_t1_loop i).trips) : BitVec 32 :=
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c2_i32_85 : BitVec 32 := 2#32
  let v145 : BitVec 32 := Scalar.addi v98 c2_i32_85
  let c512_i32_86 : BitVec 32 := 512#32
  let v146 : BitVec 32 := Scalar.muli v145 c512_i32_86
  v146
def k0_mult5 (i : grid0.Coords) (k0_t1 : Fin (k0_t1_loop i).trips) : BitVec 32 :=
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c1_i32_93 : BitVec 32 := 1#32
  let v155 : BitVec 32 := Scalar.addi v98 c1_i32_93
  let c512_i32_94 : BitVec 32 := 512#32
  let v156 : BitVec 32 := Scalar.muli v155 c512_i32_94
  v156
def k0_off3 (i : grid0.Coords) (k0_t1 : Fin (k0_t1_loop i).trips) : Fin 2 → Nat :=
  let c0_107 : Index := 0#32
  let c2_i32_58 : BitVec 32 := 2#32
  let c0_i32_32 : BitVec 32 := 0#32
  let c1_i32_34 : BitVec 32 := 1#32
  let arg16 : BitVec 32 := Scf.iv c0_i32_32 c1_i32_34 k0_t1
  let v98 : BitVec 32 := Scalar.muli c2_i32_58 arg16
  let c1_i32_93 : BitVec 32 := 1#32
  let v155 : BitVec 32 := Scalar.addi v98 c1_i32_93
  let c512_i32_94 : BitVec 32 := 512#32
  let v156 : BitVec 32 := Scalar.muli v155 c512_i32_94
  let v157 : BitVec 32 := v156
  let v181 : Index := Scalar.indexCast v157
  ![0, v181.toNat]
@[reducible] def k0_t2_loop (i : grid0.Coords) : Scf.Loop 32 :=
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let v61 : BitVec 32 := Scalar.addi c0_i32_32 v60
  let c1_i32_35 : BitVec 32 := 1#32
  ⟨v64, v61, c1_i32_35⟩
def k0_mult6 (i : grid0.Coords) (k0_t2 : Fin (k0_t2_loop i).trips) : BitVec 32 :=
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c1_i32_59 : BitVec 32 := 1#32
  let v99 : BitVec 32 := Scalar.addi v98 c1_i32_59
  let c512_i32 : BitVec 32 := 512#32
  let v100 : BitVec 32 := Scalar.muli v99 c512_i32
  v100
def k0_off4 (i : grid0.Coords) (k0_t2 : Fin (k0_t2_loop i).trips) (c1_i32_59 : BitVec 32) : Fin 2 → Nat :=
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let v99 : BitVec 32 := Scalar.addi v98 c1_i32_59
  let c512_i32 : BitVec 32 := 512#32
  let v100 : BitVec 32 := Scalar.muli v99 c512_i32
  let v101 : BitVec 32 := v100
  let v102 : Index := Scalar.indexCast v101
  let c0_60 : Index := 0#32
  ![v102.toNat, 0]
def k0_mult7 (i : grid0.Coords) (k0_t2 : Fin (k0_t2_loop i).trips) : BitVec 32 :=
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c512_i32_66 : BitVec 32 := 512#32
  let v109 : BitVec 32 := Scalar.muli v98 c512_i32_66
  v109
def k0_off5 (i : grid0.Coords) (k0_t2 : Fin (k0_t2_loop i).trips) : Fin 2 → Nat :=
  let c0_79 : Index := 0#32
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c512_i32_66 : BitVec 32 := 512#32
  let v109 : BitVec 32 := Scalar.muli v98 c512_i32_66
  let v110 : BitVec 32 := v109
  let v134 : Index := Scalar.indexCast v110
  ![0, v134.toNat]
def k0_mult8 (i : grid0.Coords) (k0_t2 : Fin (k0_t2_loop i).trips) : BitVec 32 :=
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c2_i32_85 : BitVec 32 := 2#32
  let v145 : BitVec 32 := Scalar.addi v98 c2_i32_85
  let c512_i32_86 : BitVec 32 := 512#32
  let v146 : BitVec 32 := Scalar.muli v145 c512_i32_86
  v146
def k0_mult9 (i : grid0.Coords) (k0_t2 : Fin (k0_t2_loop i).trips) : BitVec 32 :=
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c1_i32_93 : BitVec 32 := 1#32
  let v155 : BitVec 32 := Scalar.addi v98 c1_i32_93
  let c512_i32_94 : BitVec 32 := 512#32
  let v156 : BitVec 32 := Scalar.muli v155 c512_i32_94
  v156
def k0_off6 (i : grid0.Coords) (k0_t2 : Fin (k0_t2_loop i).trips) : Fin 2 → Nat :=
  let c0_107 : Index := 0#32
  let c2_i32_58 : BitVec 32 := 2#32
  let c0_i32_32 : BitVec 32 := 0#32
  let arg1 : BitVec 32 := BitVec.ofNat 32 (i 1).val
  let c0_i32_26 : BitVec 32 := 0#32
  let v44 : BitVec 1 := Scalar.cmpi .sgt arg1 c0_i32_26
  let v45 : BitVec 32 := Scalar.extui v44
  let c0_i32_27 : BitVec 32 := 0#32
  let v46 : BitVec 1 := Scalar.cmpi .slt arg1 c0_i32_27
  let v47 : BitVec 32 := Scalar.extui v46
  let v48 : BitVec 32 := Scalar.subi v45 v47
  let c2_i32 : BitVec 32 := 2#32
  let c0_i32_28 : BitVec 32 := 0#32
  let v49 : BitVec 1 := Scalar.cmpi .sgt c2_i32 c0_i32_28
  let v50 : BitVec 32 := Scalar.extui v49
  let c0_i32_29 : BitVec 32 := 0#32
  let v51 : BitVec 1 := Scalar.cmpi .slt c2_i32 c0_i32_29
  let v52 : BitVec 32 := Scalar.extui v51
  let v53 : BitVec 32 := Scalar.subi v50 v52
  let v54 : BitVec 1 := Scalar.cmpi .ne v48 v53
  let v55 : BitVec 32 := Scalar.remsi arg1 c2_i32
  let c0_i32_30 : BitVec 32 := 0#32
  let v56 : BitVec 1 := Scalar.cmpi .ne v55 c0_i32_30
  let v57 : BitVec 1 := Scalar.andi v54 v56
  let v43 : BitVec 32 := Scalar.divsi arg1 c2_i32
  let c1_i32 : BitVec 32 := 1#32
  let v58 : BitVec 32 := Scalar.subi v43 c1_i32
  let v59 : BitVec 32 := Scalar.select v57 v58 v43
  let v60 : BitVec 32 := Scalar.subi v59 c0_i32_32
  let c1_i32_33 : BitVec 32 := 1#32
  let v62 : BitVec 32 := Scalar.divsi v60 c1_i32_33
  let v63 : BitVec 32 := Scalar.muli v62 c1_i32_33
  let v64 : BitVec 32 := Scalar.addi c0_i32_32 v63
  let c1_i32_35 : BitVec 32 := 1#32
  let arg16 : BitVec 32 := Scf.iv v64 c1_i32_35 k0_t2
  let v98 : BitVec 32 := Scalar.muli c2_i32_58 arg16
  let c1_i32_93 : BitVec 32 := 1#32
  let v155 : BitVec 32 := Scalar.addi v98 c1_i32_93
  let c512_i32_94 : BitVec 32 := 512#32
  let v156 : BitVec 32 := Scalar.muli v155 c512_i32_94
  let v157 : BitVec 32 := v156
  let v181 : Index := Scalar.indexCast v157
  ![0, v181.toNat]
def k0_cond2 (i : grid0.Coords) : BitVec 1 :=
  let arg1 : BitVec 32 := BitVec.ofNat 32 (i 1).val
  let c2_i32_36 : BitVec 32 := 2#32
  let c0_i32_37 : BitVec 32 := 0#32
  let v65 : BitVec 1 := Scalar.cmpi .eq c2_i32_36 c0_i32_37
  let c1_i32_38 : BitVec 32 := 1#32
  let v66 : BitVec 32 := Scalar.select v65 c1_i32_38 c2_i32_36
  let v67 : BitVec 32 := Scalar.remsi arg1 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  let c0_i32_42 : BitVec 32 := 0#32
  let v75 : BitVec 1 := Scalar.cmpi .eq v74 c0_i32_42
  let v76 : BitVec 32 := Scalar.extui v75
  let c0_i32_43 : BitVec 32 := 0#32
  let v77 : BitVec 1 := Scalar.cmpi .ne v76 c0_i32_43
  v77

def k0_mult10 (i : grid0.Coords) : BitVec 32 :=
  let arg1 : BitVec 32 := BitVec.ofNat 32 (i 1).val
  let c512_i32 : BitVec 32 := 512#32
  let v98 : BitVec 32 := Scalar.muli arg1 c512_i32
  v98
def k0_off7 (i : grid0.Coords) : Fin 2 → Nat :=
  let c0_71 : Index := 0#32
  let arg1 : BitVec 32 := BitVec.ofNat 32 (i 1).val
  let c512_i32 : BitVec 32 := 512#32
  let v98 : BitVec 32 := Scalar.muli arg1 c512_i32
  let v99 : BitVec 32 := v98
  let v128 : Index := Scalar.indexCast v99
  ![0, v128.toNat]
def k0_cond3 (i : grid0.Coords) : BitVec 1 :=
  let arg1 : BitVec 32 := BitVec.ofNat 32 (i 1).val
  let c2_i32_44 : BitVec 32 := 2#32
  let c0_i32_45 : BitVec 32 := 0#32
  let v78 : BitVec 1 := Scalar.cmpi .eq c2_i32_44 c0_i32_45
  let c1_i32_46 : BitVec 32 := 1#32
  let v79 : BitVec 32 := Scalar.select v78 c1_i32_46 c2_i32_44
  let v80 : BitVec 32 := Scalar.remsi arg1 v79
  let c0_i32_48 : BitVec 32 := 0#32
  let v82 : BitVec 1 := Scalar.cmpi .slt v80 c0_i32_48
  let c0_i32_49 : BitVec 32 := 0#32
  let v83 : BitVec 1 := Scalar.cmpi .slt v79 c0_i32_49
  let v84 : BitVec 1 := Scalar.xori v82 v83
  let c0_i32_47 : BitVec 32 := 0#32
  let v81 : BitVec 1 := Scalar.cmpi .ne v80 c0_i32_47
  let v85 : BitVec 1 := Scalar.andi v84 v81
  let v86 : BitVec 32 := Scalar.addi v80 v79
  let v87 : BitVec 32 := Scalar.select v85 v86 v80
  let c1_i32_50 : BitVec 32 := 1#32
  let v88 : BitVec 1 := Scalar.cmpi .eq v87 c1_i32_50
  let v89 : BitVec 32 := Scalar.extui v88
  let c0_i32_51 : BitVec 32 := 0#32
  let v90 : BitVec 1 := Scalar.cmpi .ne v89 c0_i32_51
  v90

def k0_mult11 (i : grid0.Coords) : BitVec 32 :=
  let arg1 : BitVec 32 := BitVec.ofNat 32 (i 1).val
  let c512_i32 : BitVec 32 := 512#32
  let v98 : BitVec 32 := Scalar.muli arg1 c512_i32
  v98
def k0_off8 (i : grid0.Coords) : Fin 2 → Nat :=
  let arg1 : BitVec 32 := BitVec.ofNat 32 (i 1).val
  let c512_i32 : BitVec 32 := 512#32
  let v98 : BitVec 32 := Scalar.muli arg1 c512_i32
  let v99 : BitVec 32 := v98
  let v100 : Index := Scalar.indexCast v99
  let c0_58 : Index := 0#32
  ![v100.toNat, 0]
def k0_mult12 (i : grid0.Coords) : BitVec 32 :=
  let arg1 : BitVec 32 := BitVec.ofNat 32 (i 1).val
  let c1_i32_64 : BitVec 32 := 1#32
  let v107 : BitVec 32 := Scalar.subi arg1 c1_i32_64
  let c512_i32_65 : BitVec 32 := 512#32
  let v108 : BitVec 32 := Scalar.muli v107 c512_i32_65
  v108
def k0_off9 (i : grid0.Coords) : Fin 2 → Nat :=
  let c0_78 : Index := 0#32
  let arg1 : BitVec 32 := BitVec.ofNat 32 (i 1).val
  let c1_i32_64 : BitVec 32 := 1#32
  let v107 : BitVec 32 := Scalar.subi arg1 c1_i32_64
  let c512_i32_65 : BitVec 32 := 512#32
  let v108 : BitVec 32 := Scalar.muli v107 c512_i32_65
  let v109 : BitVec 32 := v108
  let v133 : Index := Scalar.indexCast v109
  ![0, v133.toNat]
def k0_mult13 (i : grid0.Coords) : BitVec 32 :=
  let arg1 : BitVec 32 := BitVec.ofNat 32 (i 1).val
  let c512_i32_84 : BitVec 32 := 512#32
  let v144 : BitVec 32 := Scalar.muli arg1 c512_i32_84
  v144
def k0_off10 (i : grid0.Coords) : Fin 2 → Nat :=
  let c0_98 : Index := 0#32
  let arg1 : BitVec 32 := BitVec.ofNat 32 (i 1).val
  let c512_i32_84 : BitVec 32 := 512#32
  let v144 : BitVec 32 := Scalar.muli arg1 c512_i32_84
  let v145 : BitVec 32 := v144
  let v174 : Index := Scalar.indexCast v145
  ![0, v174.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S8192x2048 : Shape := ⟨2, ![8192, 2048]⟩
abbrev S8192x4096 : Shape := ⟨2, ![8192, 4096]⟩
abbrev S8192x16 : Shape := ⟨2, ![8192, 16]⟩
abbrev S8192x16x128 : Shape := ⟨3, ![8192, 16, 128]⟩
abbrev S8192 : Shape := ⟨1, ![8192]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x16, .f32⟩
  | .hbm, ⟨3, _⟩ => ⟨S8192x2048, .f32⟩
  | .hbm, ⟨4, _⟩ => ⟨S8192x16x128, .f32⟩
  | .hbm, ⟨5, _⟩ => ⟨S8192x2048, .bf16⟩
  | .hbm, ⟨6, _⟩ => ⟨S8192x2048, .f32⟩
  | .hbm, ⟨7, _⟩ => ⟨S8192x16x128, .f32⟩
  | .hbm, ⟨8, _⟩ => ⟨S8192x2048, .bf16⟩
  | .hbm, ⟨9, _⟩ => ⟨S8192x2048, .f32⟩
  | .hbm, ⟨10, _⟩ => ⟨S8192x16x128, .f32⟩
  | .hbm, ⟨11, _⟩ => ⟨S8192, .i32⟩
  | .hbm, ⟨12, _⟩ => ⟨S16x8192x8192, .f32⟩
  | .hbm, ⟨13, _⟩ => ⟨S_, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S16x8192, .f32⟩
  | .hbm, ⟨18, _⟩ => ⟨S16x8192x1, .f32⟩
  | .hbm, ⟨19, _⟩ => ⟨S16x8192x8192, .f32⟩
  | .hbm, ⟨20, _⟩ => ⟨S16x8192x8192, .f32⟩
  | .hbm, ⟨21, _⟩ => ⟨S16x8192, .f32⟩
  | .hbm, ⟨22, _⟩ => ⟨S16x1x8192, .f32⟩
  | .hbm, ⟨23, _⟩ => ⟨S16x8192x8192, .f32⟩
  | .hbm, ⟨24, _⟩ => ⟨S16x8192x8192, .f32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S16x8192x8192, .i1⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .f32⟩
  | .hbm, ⟨40, _⟩ => ⟨S16x8192x1, .f32⟩
  | .hbm, ⟨41, _⟩ => ⟨S16x8192x8192, .f32⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S16x8192, .f32⟩
  | .hbm, ⟨46, _⟩ => ⟨S16x8192x1, .f32⟩
  | .hbm, ⟨47, _⟩ => ⟨S16x8192x8192, .f32⟩
  | .hbm, ⟨48, _⟩ => ⟨S16x8192x8192, .f32⟩
  | .hbm, ⟨49, _⟩ => ⟨S16x128x8192, .f32⟩
  | .hbm, ⟨50, _⟩ => ⟨S8192x16x128, .f32⟩
  | .hbm, ⟨51, _⟩ => ⟨S8192x2048, .f32⟩
  | .hbm, ⟨52, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Final.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MixerOut.lean ====
abbrev S8192x4096 : Shape := ⟨2, ![8192, 4096]⟩
abbrev S4096x2048 : Shape := ⟨2, ![4096, 2048]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S4096x2048, .bf16⟩
  | .hbm, ⟨4, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixerOutReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S8192x4096, .f32⟩
  | .hbm, ⟨4, _⟩ => ⟨S8192x2048, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FoxOut.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxOutReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixerIn.lean ====
abbrev S8192x2048 : Shape := ⟨2, ![8192, 2048]⟩
abbrev S2048 : Shape := ⟨1, ![2048]⟩
abbrev S2048x10304 : Shape := ⟨2, ![2048, 10304]⟩
abbrev S2048x10240 : Shape := ⟨2, ![2048, 10240]⟩
abbrev S1x2048 : Shape := ⟨2, ![1, 2048]⟩
abbrev S8192x10240 : Shape := ⟨2, ![8192, 10240]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .f32⟩
  | .hbm, ⟨3, _⟩ => ⟨S2048x10240, .f32⟩
  | .hbm, ⟨4, _⟩ => ⟨S2048x10240, .bf16⟩
  | .hbm, ⟨5, _⟩ => ⟨S1x2048, .f32⟩
  | .hbm, ⟨6, _⟩ => ⟨S8192x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixerInReferenceIdeal.lean ====
abbrev S8192x2048 : Shape := ⟨2, ![8192, 2048]⟩
abbrev S2048 : Shape := ⟨1, ![2048]⟩
abbrev S2048x10304 : Shape := ⟨2, ![2048, 10304]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x10304 : Shape := ⟨2, ![8192, 10304]⟩
abbrev S8192x10240 : Shape := ⟨2, ![8192, 10240]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x10304, .f32⟩
  | .hbm, ⟨20, _⟩ => ⟨S8192x10240, .f32⟩
  | .hbm, ⟨21, _⟩ => ⟨S8192x10240, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FoxKv.lean ====
abbrev S8192x2048 : Shape := ⟨2, ![8192, 2048]⟩
abbrev S2048 : Shape := ⟨1, ![2048]⟩
abbrev S2048x4112 : Shape := ⟨2, ![2048, 4112]⟩
abbrev S2048x4096 : Shape := ⟨2, ![2048, 4096]⟩
abbrev S1x2048 : Shape := ⟨2, ![1, 2048]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4112, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxKvReferenceIdeal.lean ====
abbrev S8192x2048 : Shape := ⟨2, ![8192, 2048]⟩
abbrev S2048 : Shape := ⟨1, ![2048]⟩
abbrev S2048x4112 : Shape := ⟨2, ![2048, 4112]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4112 : Shape := ⟨2, ![8192, 4112]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4112, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4112, .f32⟩
  | .hbm, ⟨20, _⟩ => ⟨S8192x4096, .f32⟩
  | .hbm, ⟨21, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FoxQ.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxQIdeal.lean ====
variable {F : FTy → Type} [FloatOps F] [Named F]
def κ : String → Option EReal := fun
  | "q_scale" => some (((Real.sqrt 128)⁻¹ * (Real.log 2)⁻¹ : ℝ) : EReal)
  | _ => none
-- ==== FoxQReferenceIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== PeerQ.lean ====
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .bf16⟩
  | .hbm, ⟨4, _⟩ => ⟨S1x2048, .f32⟩
  | .hbm, ⟨5, _⟩ => ⟨S8192x2048, .bf16⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PeerQReferenceIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Ple.lean ====
abbrev S8192x2048 : Shape := ⟨2, ![8192, 2048]⟩
abbrev S2048 : Shape := ⟨1, ![2048]⟩
abbrev S2048x2048 : Shape := ⟨2, ![2048, 2048]⟩
abbrev S8192x256 : Shape := ⟨2, ![8192, 256]⟩
abbrev S256x2048 : Shape := ⟨2, ![256, 2048]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8192x256, .f32⟩
  | .hbm, ⟨6, _⟩ => ⟨S256x2048, .f32⟩
  | .hbm, ⟨7, _⟩ => ⟨S2048x2048, .bf16⟩
  | .hbm, ⟨8, _⟩ => ⟨S8192x256, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x256, .bf16⟩
  | .local _ .vmem, ⟨10, _⟩ => ⟨S512x256, .bf16⟩
  | .local _ .vmem, ⟨11, _⟩ => ⟨S256x512, .bf16⟩
  | .local _ .vmem, ⟨12, _⟩ => ⟨S256x512, .bf16⟩
  | .local _ .vmem, ⟨13, _⟩ => ⟨S512x512, .f32⟩
  | .local _ .vmem, ⟨14, _⟩ => ⟨S512x512, .f32⟩
  | .local _ .vmem, ⟨15, _⟩ => ⟨S512x2048, .f32⟩
  | .local _ .vmem, ⟨16, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v17 : BitVec 32 := Scalar.muli arg1 c512_i32
  v17
def k0_off1 (i : grid0.Coords) : Fin 2 → Nat :=
  let c0_11 : Index := 0#32
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  ![0, v19.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PleReferenceIdeal.lean ====
abbrev S8192x2048 : Shape := ⟨2, ![8192, 2048]⟩
abbrev S2048 : Shape := ⟨1, ![2048]⟩
abbrev S2048x2048 : Shape := ⟨2, ![2048, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8192x256, .f32⟩
  | .hbm, ⟨6, _⟩ => ⟨S256x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== MixerDt.lean ====
abbrev S8192x2048 : Shape := ⟨2, ![8192, 2048]⟩
abbrev S2048 : Shape := ⟨1, ![2048]⟩
abbrev S2048x10304 : Shape := ⟨2, ![2048, 10304]⟩
abbrev S2048x64 : Shape := ⟨2, ![2048, 64]⟩
abbrev S_ : Shape := ⟨0, ![]⟩
abbrev S2048x128 : Shape := ⟨2, ![2048, 128]⟩
abbrev S1x2048 : Shape := ⟨2, ![1, 2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .f32⟩
  | .hbm, ⟨3, _⟩ => ⟨S2048x64, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S1x2048, .f32⟩
  | .hbm, ⟨9, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixerDtReferenceIdeal.lean ====
abbrev S8192x2048 : Shape := ⟨2, ![8192, 2048]⟩
abbrev S2048 : Shape := ⟨1, ![2048]⟩
abbrev S2048x10304 : Shape := ⟨2, ![2048, 10304]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x10304 : Shape := ⟨2, ![8192, 10304]⟩
abbrev S8192x64 : Shape := ⟨2, ![8192, 64]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x10304, .f32⟩
  | .hbm, ⟨20, _⟩ => ⟨S8192x64, .f32⟩
  | .hbm, ⟨21, _⟩ => ⟨S_, .i32⟩
  | .hbm, ⟨22, _⟩ => ⟨S_, .f32⟩
  | .hbm, ⟨23, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== FoxGates.lean ====
abbrev S8192x2048 : Shape := ⟨2, ![8192, 2048]⟩
abbrev S2048 : Shape := ⟨1, ![2048]⟩
abbrev S2048x4112 : Shape := ⟨2, ![2048, 4112]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4112, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S1x2048, .f32⟩
  | .hbm, ⟨9, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxGatesReferenceIdeal.lean ====
abbrev S8192x2048 : Shape := ⟨2, ![8192, 2048]⟩
abbrev S2048 : Shape := ⟨1, ![2048]⟩
abbrev S2048x4112 : Shape := ⟨2, ![2048, 4112]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4112 : Shape := ⟨2, ![8192, 4112]⟩
abbrev S8192x16 : Shape := ⟨2, ![8192, 16]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4112, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4112, .f32⟩
  | .hbm, ⟨20, _⟩ => ⟨S8192x16, .f32⟩
  | .hbm, ⟨21, _⟩ => ⟨S_, .i32⟩
  | .hbm, ⟨22, _⟩ => ⟨S_, .f32⟩
  | .hbm, ⟨23, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== FoxSums.lean ====
abbrev S8192x128 : Shape := ⟨2, ![8192, 128]⟩
abbrev S16 : Shape := ⟨1, ![16]⟩
abbrev S_ : Shape := ⟨0, ![]⟩
abbrev S128 : Shape := ⟨1, ![128]⟩
abbrev S1x128 : Shape := ⟨2, ![1, 128]⟩
abbrev S256x128 : Shape := ⟨2, ![256, 128]⟩
abbrev S256x256 : Shape := ⟨2, ![256, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxSumsReferenceIdeal.lean ====
abbrev S8192x128 : Shape := ⟨2, ![8192, 128]⟩
abbrev S16 : Shape := ⟨1, ![16]⟩
abbrev S_ : Shape := ⟨0, ![]⟩
abbrev S128 : Shape := ⟨1, ![128]⟩
abbrev S1x128 : Shape := ⟨2, ![1, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S1x8192x128 : Shape := ⟨3, ![1, 8192, 128]⟩
abbrev S8192x8192x128 : Shape := ⟨3, ![8192, 8192, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .i1⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S8192x8192x1, .i1⟩
  | .hbm, ⟨31, _⟩ => ⟨S1x8192x128, .f32⟩
  | .hbm, ⟨32, _⟩ => ⟨S_, .f32⟩
  | .hbm, ⟨33, _⟩ => ⟨S_, .f32⟩
  | .hbm, ⟨34, _⟩ => ⟨S8192x8192x128, .i1⟩
  | .hbm, ⟨35, _⟩ => ⟨S8192x8192x128, .f32⟩
  | .hbm, ⟨36, _⟩ => ⟨S8192x8192x128, .f32⟩
  | .hbm, ⟨37, _⟩ => ⟨S8192x8192x128, .f32⟩
  | .hbm, ⟨38, _⟩ => ⟨S_, .f32⟩
  | .hbm, ⟨39, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩

abbrev nD : Nat := 1
abbrev τ : Topo := Topo.v7x

variable {F : FTy → Type} [FloatOps F]
-- ==== Proof.Loop.lean ====
module

public import proofs.«01_k».proof.Proof.Gen.KernelIdeal.Frame.Runs
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Whole-buffer reads at literal sizes -/

theorem off2 : (![0, 0] : Fin 2 → ℕ) = fun _ => 0 := by
  funext a; fin_cases a <;> rfl

theorem ld_row (X : Vec F S1x512 .f32) (h : ∀ a, (![0, 0] : Fin 2 → ℕ) a + (![1, 512] : Fin 2 → ℕ) a ≤ S1x512.size a) :
    View.ld X (Rect.unit (s := S1x512) ![0, 0] ![1, 512] h) = X := View.ld_unit_zero off2 h X

theorem ld_sq (X : Vec F S512x512 .f32) (h : ∀ a, (![0, 0] : Fin 2 → ℕ) a + (![512, 512] : Fin 2 → ℕ) a ≤ S512x512.size a) :
    View.ld X (Rect.unit (s := S512x512) ![0, 0] ![512, 512] h) = X := View.ld_unit_zero off2 h X

theorem ld_acc (X : Vec F S128x512 .f32) (h : ∀ a, (![0, 0] : Fin 2 → ℕ) a + (![128, 512] : Fin 2 → ℕ) a ≤ S128x512.size a) :
    View.ld X (Rect.unit (s := S128x512) ![0, 0] ![128, 512] h) = X := View.ld_unit_zero off2 h X

theorem ld_qaug (X : Vec F S512x256 .bf16) (h : ∀ a, (![0, 0] : Fin 2 → ℕ) a + (![512, 256] : Fin 2 → ℕ) a ≤ S512x256.size a) :
    View.ld X (Rect.unit (s := S512x256) ![0, 0] ![512, 256] h) = X := View.ld_unit_zero off2 h X

theorem cov_row (v : View sig .tc .vmem S1x512 .f32) (w : Vec F S1x512 .f32) (L : List (View.Piece (Elt F) S1x512 .f32))
    (h h' : ∀ a, (![0, 0] : Fin 2 → ℕ) a + (![1, 512] : Fin 2 → ℕ) a ≤ S1x512.size a) :
    v.readCov (⟨Rect.unit (s := S1x512) ![0, 0] ![1, 512] h, w⟩ :: L) (Rect.unit (s := S1x512) ![0, 0] ![1, 512] h').toLoadRect = w :=
  View.readCov_cons_unit_lit' v h h' w L (fun a => congrFun off2 a) (fun a => congrFun off2 a)

theorem cov_sq (v : View sig .tc .vmem S512x512 .f32) (w : Vec F S512x512 .f32) (L : List (View.Piece (Elt F) S512x512 .f32))
    (h h' : ∀ a, (![0, 0] : Fin 2 → ℕ) a + (![512, 512] : Fin 2 → ℕ) a ≤ S512x512.size a) :
    v.readCov (⟨Rect.unit (s := S512x512) ![0, 0] ![512, 512] h, w⟩ :: L) (Rect.unit (s := S512x512) ![0, 0] ![512, 512] h').toLoadRect = w :=
  View.readCov_cons_unit_lit' v h h' w L (fun a => congrFun off2 a) (fun a => congrFun off2 a)

theorem cov_acc (v : View sig .tc .vmem S128x512 .f32) (w : Vec F S128x512 .f32) (L : List (View.Piece (Elt F) S128x512 .f32))
    (h h' : ∀ a, (![0, 0] : Fin 2 → ℕ) a + (![128, 512] : Fin 2 → ℕ) a ≤ S128x512.size a) :
    v.readCov (⟨Rect.unit (s := S128x512) ![0, 0] ![128, 512] h, w⟩ :: L) (Rect.unit (s := S128x512) ![0, 0] ![128, 512] h').toLoadRect = w :=
  View.readCov_cons_unit_lit' v h h' w L (fun a => congrFun off2 a) (fun a => congrFun off2 a)

/-! ## The online softmax, one block of 512 keys after another -/

/-- The 512 rows of the extended keys from row `o` on. -/
def rows (x8 : Vec F S8192x256 .bf16) (o : ℕ) : Vec F S512x256 .bf16 :=
  fun y => x8 (ix2 (⟨(o + (y 0).val) % 8192, Nat.mod_lt _ (by norm_num)⟩ : Fin 8192) (y 1 : Fin 256))

/-- The 512 columns of the transposed values from column `o` on. -/
def cols (x9 : Vec F S128x8192 .bf16) (o : ℕ) : Vec F S128x512 .bf16 :=
  fun y => x9 (ix2 (y 0 : Fin 128) (⟨(o + (y 1).val) % 8192, Nat.mod_lt _ (by norm_num)⟩ : Fin 8192))

theorem ld_rows (x8 : Vec F S8192x256 .bf16) (o : ℕ) (off : Fin 2 → ℕ) (ho : off = ![o, 0])
    (h : ∀ a, off a + S512x256.size a ≤ S8192x256.size a) :
    View.ld x8 (Rect.unit (s := S8192x256) off S512x256.size h) = rows x8 o := by
  subst ho
  funext y
  have h0 : o + 512 ≤ 8192 := h 0
  have hy : (y 0).val < 512 := (y 0).isLt
  refine congrArg x8 (funext fun a => Fin.ext ?_)
  fin_cases a
  · show o + 1 * (y 0).val = (o + (y 0).val) % 8192
    omega
  · show 0 + 1 * (y 1).val = (y 1).val
    omega

theorem ld_cols (x9 : Vec F S128x8192 .bf16) (o : ℕ) (off : Fin 2 → ℕ) (ho : off = ![0, o])
    (h : ∀ a, off a + S128x512.size a ≤ S128x8192.size a) :
    View.ld x9 (Rect.unit (s := S128x8192) off S128x512.size h) = cols x9 o := by
  subst ho
  funext y
  have h0 : o + 512 ≤ 8192 := h 1
  have hy : (y 1).val < 512 := (y 1).isLt
  refine congrArg x9 (funext fun a => Fin.ext ?_)
  fin_cases a
  · show 0 + 1 * (y 0).val = (y 0).val
    omega
  · show o + 1 * (y 1).val = (o + (y 1).val) % 8192
    omega

/-- The logits of key block `j` against the query block, before the query's own bias. -/
def zAt (x8 : Vec F S8192x256 .bf16) (x10 : Vec F S512x256 .bf16) (j : ℕ) : Vec F S512x512 .f32 :=
  k0_pay57 (rows x8 (512 * j)) x10

/-- Running maximum, running denominator and running numerator of a query block. -/
abbrev St (F : FTy → Type) : Type := Vec F S1x512 .f32 × Vec F S1x512 .f32 × Vec F S128x512 .f32

/-- One step of the online softmax: the block of logits `z` and the block of values `vb` are taken in. -/
def stepS (v31 : Vec F S1x1x512 .f32) (z : Vec F S512x512 .f32) (vb : Vec F S128x512 .bf16) (s : St F) : St F :=
  (k0_pay14 (k0_pay8 (k0_pay56 v31) z s.1), k0_pay11 (k0_pay56 v31) z s.1 s.2.1,
    k0_pay13 (k0_pay9 (k0_pay56 v31) z s.1) s.2.2 (k0_pay12 (k0_pay56 v31) z s.1) vb)

/-- The state after the key blocks before `j`. -/
def sAt (x8 : Vec F S8192x256 .bf16) (x9 : Vec F S128x8192 .bf16) (x10 : Vec F S512x256 .bf16) (v31 : Vec F S1x1x512 .f32) : ℕ → St F
  | 0 => (k0_pay53, k0_pay54, k0_pay55)
  | j + 1 => stepS v31 (zAt x8 x10 j) (cols x9 (512 * j)) (sAt x8 x9 x10 v31 j)

theorem off_a : ∀ k : ℕ, k < 8 → BitVec.toNat (Scalar.indexCast (Scalar.muli (Scalar.muli 2#32 (Scf.iv 0#32 1#32 k)) 512#32)) = 512 * (2 * k) := by
  decide +kernel

theorem off_b : ∀ k : ℕ, k < 8 → BitVec.toNat (Scalar.indexCast (Scalar.muli (Scalar.addi (Scalar.muli 2#32 (Scf.iv 0#32 1#32 k)) 1#32) 512#32)) = 512 * (2 * k + 1) := by
  decide +kernel

theorem off_c : ∀ k : ℕ, k < 8 → BitVec.toNat (Scalar.indexCast (Scalar.muli (Scalar.addi (Scalar.muli 2#32 (Scf.iv 0#32 1#32 k)) 2#32) 512#32)) = 512 * (2 * k + 1 + 1) := by
  decide +kernel

/-- One trip of the loop takes in two key blocks and computes the logits of the block after them,
    whatever the buffers held besides. -/
theorem trip_reads (c : Dev nD) (i : grid0.Coords)
  (arg2 : Memref sig .tc .vmem S512x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x1x512 .f32) (harg5 : arg5.IsWhole)
  (arg6 : Memref sig .tc .vmem S1x8192x1 .f32) (harg6 : arg6.IsWhole)
  (arg7 : Memref sig .tc .vmem S512x128 .bf16) (harg7 : arg7.IsWhole)
  (arg8 : Memref sig .tc .vmem S8192x256 .bf16) (harg8 : arg8.IsWhole)
  (arg9 : Memref sig .tc .vmem S128x8192 .bf16) (harg9 : arg9.IsWhole)
  (arg10 : Memref sig .tc .vmem S512x256 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x512 .f32) (harg15 : arg15.IsWhole)
  (arg1 : BitVec 32) (v31 : Vec F S1x1x512 .f32)
  (k : Fin (k0_t1_loop i).trips)
  (x8 : Vec F S8192x256 .bf16) (x9 : Vec F S128x8192 .bf16) (x10 : Vec F S512x256 .bf16)
  (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
  (h11 : View.read (Elt F) arg11.view f11 = zAt x8 x10 (2 * k.val))
  (h : (View.read (Elt F) arg13.view f13, View.read (Elt F) arg14.view f14, View.read (Elt F) arg15.view f15) = sAt x8 x9 x10 v31 (2 * k.val))
  (L11 : List (View.Piece (Elt F) S512x512 .f32)) (L13 L14 : List (View.Piece (Elt F) S1x512 .f32)) (L15 : List (View.Piece (Elt F) S128x512 .f32))
  (g11 : BufTy.Contents (Elt F) arg11.view.ty) (g13 : BufTy.Contents (Elt F) arg13.view.ty)
  (g14 : BufTy.Contents (Elt F) arg14.view.ty) (g15 : BufTy.Contents (Elt F) arg15.view.ty) :
  View.read (Elt F) arg11.view (arg11.view.writes (Elt F) g11 ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) k f11 f12 f13 f14 f15).1 ++ L11)) = zAt x8 x10 (2 * (k.val + 1)) ∧
  (View.read (Elt F) arg13.view (arg13.view.writes (Elt F) g13 ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) k f11 f12 f13 f14 f15).2.2.1 ++ L13)),
   View.read (Elt F) arg14.view (arg14.view.writes (Elt F) g14 ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) k f11 f12 f13 f14 f15).2.2.2.1 ++ L14)),
   View.read (Elt F) arg15.view (arg15.view.writes (Elt F) g15 ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) k f11 f12 f13 f14 f15).2.2.2.2 ++ L15))) = sAt x8 x9 x10 v31 (2 * (k.val + 1)) := by
  have hk : k.val < 8 := by have := k.isLt; have := (k0_t1_abs i).2.1; omega
  have h2 : 2 * (k.val + 1) = 2 * k.val + 1 + 1 := by ring
  have e13 := congrArg Prod.fst h
  have e14 := congrArg (fun s => s.2.1) h
  have e15 := congrArg (fun s => s.2.2) h
  dsimp only at e13 e14 e15
  unfold tripL_k0_t1 trip_k0_t1
  dsimp only
  sl_unfold_words
  simp only [List.cons_append, View.readAt_eq_ld, harg8.read_unread, harg9.read_unread, harg10.read_unread, h11, e13, e14, e15]
  rw [View.read_writes_full, View.read_writes_full, View.read_writes_full, View.read_writes_full]
  simp only [ld_row, ld_sq, ld_acc, ld_qaug, cov_row, cov_sq, cov_acc]
  rw [h2, sAt, sAt]
  generalize sAt x8 x9 x10 v31 (2 * k.val) = s
  have r1 := ld_rows x8 (512 * (2 * k.val + 1)) (k0_off1 i k 1#32) (by show ![_, 0] = _; rw [off_b k.val hk]) (k0_off1_inb i k 0)
  have r2 := ld_rows x8 (512 * (2 * k.val + 1 + 1)) (k0_off1 i k 2#32) (by show ![_, 0] = _; rw [off_c k.val hk]) (k0_off1_inb i k 1)
  have c0 := ld_cols x9 (512 * (2 * k.val)) (k0_off2 i k) (by show ![0, _] = _; rw [off_a k.val hk]) (k0_off2_inb i k)
  have c1 := ld_cols x9 (512 * (2 * k.val + 1)) (k0_off3 i k) (by show ![0, _] = _; rw [off_b k.val hk]) (k0_off3_inb i k)
  rw [← c0, ← c1]
  generalize hz : zAt x8 x10 (2 * k.val) = z
  simp only [zAt]
  rw [← r1, ← r2]
  refine ⟨rfl, ?_⟩
  unfold stepS k0_pay8 k0_pay9 k0_pay11 k0_pay12 k0_pay13 k0_pay14 k0_pay10 k0_pay9 k0_pay8 k0_pay57
  rfl

/-- After `k` trips the buffers hold the state of the first `2 k` key blocks and the logits of the next one. -/
theorem loop_reads (c : Dev nD) (i : grid0.Coords)
  (arg2 : Memref sig .tc .vmem S512x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x1x512 .f32) (harg5 : arg5.IsWhole)
  (arg6 : Memref sig .tc .vmem S1x8192x1 .f32) (harg6 : arg6.IsWhole)
  (arg7 : Memref sig .tc .vmem S512x128 .bf16) (harg7 : arg7.IsWhole)
  (arg8 : Memref sig .tc .vmem S8192x256 .bf16) (harg8 : arg8.IsWhole)
  (arg9 : Memref sig .tc .vmem S128x8192 .bf16) (harg9 : arg9.IsWhole)
  (arg10 : Memref sig .tc .vmem S512x256 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x512 .f32) (harg15 : arg15.IsWhole)
  (arg1 : BitVec 32) (v31 : Vec F S1x1x512 .f32)
  (x8 : Vec F S8192x256 .bf16) (x9 : Vec F S128x8192 .bf16) (x10 : Vec F S512x256 .bf16)
  (g11 : BufTy.Contents (Elt F) arg11.view.ty) (g12 : BufTy.Contents (Elt F) arg12.view.ty) (g13 : BufTy.Contents (Elt F) arg13.view.ty)
  (g14 : BufTy.Contents (Elt F) arg14.view.ty) (g15 : BufTy.Contents (Elt F) arg15.view.ty)
  (h11 : View.read (Elt F) arg11.view g11 = zAt x8 x10 0)
  (h : (View.read (Elt F) arg13.view g13, View.read (Elt F) arg14.view g14, View.read (Elt F) arg15.view g15) = sAt x8 x9 x10 v31 0)
  (k : ℕ) (hk : k ≤ (k0_t1_loop i).trips) :
  View.read (Elt F) arg11.view (arg11.view.writes (Elt F) g11 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) g11 g12 g13 g14 g15 k).1) = zAt x8 x10 (2 * k) ∧
  (View.read (Elt F) arg13.view (arg13.view.writes (Elt F) g13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) g11 g12 g13 g14 g15 k).2.2.1),
   View.read (Elt F) arg14.view (arg14.view.writes (Elt F) g14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) g11 g12 g13 g14 g15 k).2.2.2.1),
   View.read (Elt F) arg15.view (arg15.view.writes (Elt F) g15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) g11 g12 g13 g14 g15 k).2.2.2.2)) = sAt x8 x9 x10 v31 (2 * k) := by
  induction k with
  | zero => exact ⟨h11, h⟩
  | succ k ih =>
    obtain ⟨i11, ih⟩ := ih (by omega)
    have hs := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v31 (harg8.unread x8) (harg9.unread x9) (harg10.unread x10) g11 g12 g13 g14 g15 ⟨k, by omega⟩
    dsimp only at hs
    rw [hs]
    exact trip_reads c i arg2 harg2 arg3 harg3 arg4 harg4 arg5 harg5 arg6 harg6 arg7 harg7 arg8 harg8 arg9 harg9 arg10 harg10 arg11 harg11 arg12 harg12 arg13 harg13 arg14 harg14 arg15 harg15 arg1 v31 ⟨k, by omega⟩ x8 x9 x10 _ _ _ _ _ i11 ih _ _ _ _ _ _ _ _

end Cert.KernelIdeal.Gen
end
-- ==== Proof.Reads.lean ====
module

public import proofs.«01_k».proof.Proof.Loop
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body loads and stores, and what a query block writes out -/

theorem off3 : (![0, 0, 0] : Fin 3 → ℕ) = fun _ => 0 := by
  funext a; fin_cases a <;> rfl

theorem ld_bias (X : Vec F S1x1x512 .f32) (h : ∀ a, (![0, 0, 0] : Fin 3 → ℕ) a + (![1, 1, 512] : Fin 3 → ℕ) a ≤ S1x1x512.size a) :
    View.ld X (Rect.unit (s := S1x1x512) ![0, 0, 0] ![1, 1, 512] h) = X := View.ld_unit_zero off3 h X

theorem ld_q (X : Vec F S512x128 .bf16) (h : ∀ a, (![0, 0] : Fin 2 → ℕ) a + (![512, 128] : Fin 2 → ℕ) a ≤ S512x128.size a) :
    View.ld X (Rect.unit (s := S512x128) ![0, 0] ![512, 128] h) = X := View.ld_unit_zero off2 h X

theorem cov_qaug (v : View sig .tc .vmem S512x256 .bf16) (L : List (View.Piece (Elt F) S512x256 .bf16))
    (h : ∀ a, (![0, 0] : Fin 2 → ℕ) a + (![512, 256] : Fin 2 → ℕ) a ≤ S512x256.size a) :
    v.readCov L (Rect.unit (s := S512x256) ![0, 0] ![512, 256] h).toLoadRect = View.canon L := by
  rw [View.readCov_eq_canon']
  exact ld_qaug (View.canon L) h

/-- The pieces of the extended query block: the queries on the left, ones in three lanes on the right. -/
def qPieces (x0 : Vec F S512x128 .bf16) : List (View.Piece (Elt F) S512x256 .bf16) :=
  [⟨Rect.unit (s := S512x256) ![0, 128] S512x128.size inb_S512x256_S512x128_0_128, k0_pay52⟩,
    ⟨Rect.unit (s := S512x256) ![0, 0] S512x128.size inb_S512x256_S512x128_0_0, k0_pay51 x0⟩]

/-- The extended query block. -/
def qaugOf (x0 : Vec F S512x128 .bf16) : Vec F S512x256 .bf16 := View.canon (qPieces x0)

/-- What a query block writes out: the last key block is masked above the diagonal, taken in, and the
    numerator divided by the denominator. -/
def outOf (x8 : Vec F S8192x256 .bf16) (x9 : Vec F S128x8192 .bf16) (x10 : Vec F S512x256 .bf16) (v31 : Vec F S1x1x512 .f32) (n : ℕ) :
    Vec F S512x128 .bf16 :=
  k0_pay4 (stepS v31 (k0_pay31 (zAt x8 x10 n)) (cols x9 (512 * n)) (sAt x8 x9 x10 v31 n)).2.2
    (stepS v31 (k0_pay31 (zAt x8 x10 n)) (cols x9 (512 * n)) (sAt x8 x9 x10 v31 n)).2.1

theorem whole_read_row (v : View sig .tc .vmem S1x512 .f32) (f : BufTy.Contents (Elt F) v.ty) (w : Vec F S1x512 .f32) (L : List (View.Piece (Elt F) S1x512 .f32))
    (h : ∀ a, (![0, 0] : Fin 2 → ℕ) a + (![1, 512] : Fin 2 → ℕ) a ≤ S1x512.size a) :
    View.read (Elt F) v (v.writes (Elt F) f (⟨Rect.unit (s := S1x512) ![0, 0] ![1, 512] h, w⟩ :: L)) = w :=
  View.read_writes_full v f h w L

theorem whole_read_acc (v : View sig .tc .vmem S128x512 .f32) (f : BufTy.Contents (Elt F) v.ty) (w : Vec F S128x512 .f32) (L : List (View.Piece (Elt F) S128x512 .f32))
    (h : ∀ a, (![0, 0] : Fin 2 → ℕ) a + (![128, 512] : Fin 2 → ℕ) a ≤ S128x512.size a) :
    View.read (Elt F) v (v.writes (Elt F) f (⟨Rect.unit (s := S128x512) ![0, 0] ![128, 512] h, w⟩ :: L)) = w :=
  View.read_writes_full v f h w L

theorem whole_read_sq (v : View sig .tc .vmem S512x512 .f32) (f : BufTy.Contents (Elt F) v.ty) (w : Vec F S512x512 .f32) (L : List (View.Piece (Elt F) S512x512 .f32))
    (h : ∀ a, (![0, 0] : Fin 2 → ℕ) a + (![512, 512] : Fin 2 → ℕ) a ≤ S512x512.size a) :
    View.read (Elt F) v (v.writes (Elt F) f (⟨Rect.unit (s := S512x512) ![0, 0] ![512, 512] h, w⟩ :: L)) = w :=
  View.read_writes_full v f h w L

theorem trips1 : ∀ i : grid0.Coords, (k0_t1_loop i).trips = (i 1).val / 2 := by
  intro i
  have h : ∀ n : Fin 16, ∀ i : grid0.Coords, (i 1).val = n.val → (k0_t1_loop i).trips = n.val / 2 := by
    intro n i hn
    unfold k0_t1_loop
    simp only [hn]
    clear hn i
    revert n
    decide +kernel
  exact h ⟨(i 1).val, (i 1).isLt⟩ i rfl

theorem trips2 : ∀ i : grid0.Coords, (k0_t2_loop i).trips = 0 := by
  intro i
  have h : ∀ n : Fin 16, ∀ i : grid0.Coords, (i 1).val = n.val → (k0_t2_loop i).trips = 0 := by
    intro n i hn
    unfold k0_t2_loop
    simp only [hn]
    clear hn i
    revert n
    decide +kernel
  exact h ⟨(i 1).val, (i 1).isLt⟩ i rfl

theorem off_d : ∀ n : ℕ, n < 16 → BitVec.toNat (Scalar.indexCast (Scalar.muli (BitVec.ofNat 32 n) 512#32)) = 512 * n := by
  decide +kernel

theorem off_e : ∀ n : ℕ, n < 15 → BitVec.toNat (Scalar.indexCast (Scalar.muli (Scalar.subi (BitVec.ofNat 32 (n + 1)) 1#32) 512#32)) = 512 * n := by
  decide +kernel

/-- The pieces of the extended keys: the keys on the left, the split key bias in three lanes on the right. -/
def kPieces (x1 : Vec F S8192x128 .bf16) (x4 : Vec F S1x8192x1 .f32) : List (View.Piece (Elt F) S8192x256 .bf16) :=
  [⟨Rect.unit (s := S8192x256) ![0, 128] ![8192, 128] inb_S8192x256_S8192x128_0_128, k0_pay6 (iota .tc S1x128 32 [1] iota_S1x128_d1_w32) x4⟩,
    ⟨Rect.unit (s := S8192x256) ![0, 0] ![8192, 128] inb_S8192x256_S8192x128_0_0, k0_pay5 x1⟩]

/-- The extended keys of a head. -/
def kaugOf (x1 : Vec F S8192x128 .bf16) (x4 : Vec F S1x8192x1 .f32) : Vec F S8192x256 .bf16 := View.canon (kPieces x1 x4)

theorem ld_kb (X : Vec F S1x8192x1 .f32) (h : ∀ a, (![0, 0, 0] : Fin 3 → ℕ) a + (![1, 8192, 1] : Fin 3 → ℕ) a ≤ S1x8192x1.size a) :
    View.ld X (Rect.unit (s := S1x8192x1) ![0, 0, 0] ![1, 8192, 1] h) = X := View.ld_unit_zero off3 h X

theorem ld_k (X : Vec F S8192x128 .bf16) (h : ∀ a, (![0, 0] : Fin 2 → ℕ) a + (![8192, 128] : Fin 2 → ℕ) a ≤ S8192x128.size a) :
    View.ld X (Rect.unit (s := S8192x128) ![0, 0] ![8192, 128] h) = X := View.ld_unit_zero off2 h X

theorem cov_k (v : View sig .tc .vmem S8192x256 .bf16) (L : List (View.Piece (Elt F) S8192x256 .bf16)) (r : Rect S8192x256) :
    v.readCov L r.toLoadRect = View.ld (View.canon L) r := by
  rw [View.readCov_eq_canon']

theorem canon_v (w : Vec F S128x8192 .bf16) (h : ∀ a, (![0, 0] : Fin 2 → ℕ) a + S128x8192.size a ≤ S128x8192.size a) :
    View.canon (Val := Elt F) (s := S128x8192) (e := .bf16) [⟨Rect.unit (s := S128x8192) ![0, 0] S128x8192.size h, w⟩] = w :=
  View.canon_cons_unit_zero off2 h w []

theorem read_v (v : View sig .tc .vmem S128x8192 .bf16) (w : Vec F S128x8192 .bf16) (f : BufTy.Contents (Elt F) v.ty)
    (h : ∀ a, (![0, 0] : Fin 2 → ℕ) a + S128x8192.size a ≤ S128x8192.size a) :
    View.read (Elt F) v (v.writes (Elt F) f [⟨Rect.unit (s := S128x8192) ![0, 0] S128x8192.size h, w⟩]) = w :=
  View.read_writes_full v f h w []

theorem cov_v (v : View sig .tc .vmem S128x8192 .bf16) (L : List (View.Piece (Elt F) S128x8192 .bf16)) (r : Rect S128x8192) :
    v.readCov L r.toLoadRect = View.ld (View.canon L) r := by
  rw [View.readCov_eq_canon']

end Cert.KernelIdeal.Gen
end
-- ==== Proof.RunA.lean ====
module

public import proofs.«01_k».proof.Proof.Reads
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 800000 in
/-- At the first query block of a head the extended keys and the transposed values are built first. -/
theorem runA (c : Dev nD) (i : grid0.Coords)
  (arg2 : Memref sig .tc .vmem S512x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x1x512 .f32) (harg5 : arg5.IsWhole)
  (arg6 : Memref sig .tc .vmem S1x8192x1 .f32) (harg6 : arg6.IsWhole)
  (arg7 : Memref sig .tc .vmem S512x128 .bf16) (harg7 : arg7.IsWhole)
  (arg8 : Memref sig .tc .vmem S8192x256 .bf16) (harg8 : arg8.IsWhole)
  (arg9 : Memref sig .tc .vmem S128x8192 .bf16) (harg9 : arg9.IsWhole)
  (arg10 : Memref sig .tc .vmem S512x256 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x512 .f32) (harg15 : arg15.IsWhole)
  (hc0 : cond0_0 i) (hc1 : cond0_1 i) (hc2 : ¬cond0_2 i) (hp : (i 1).val % 2 = 0)
  (x0 : Vec F S512x128 .bf16) (x1 : Vec F S8192x128 .bf16) (x2 : Vec F S8192x128 .bf16) (x3 : Vec F S1x1x512 .f32) (x4 : Vec F S1x8192x1 .f32) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗
      (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf (kaugOf x1 x4) (k0_pay50 x2) (qaugOf x0) x3 (i 1).val) ∗ owns (c : Thread nD τ) arg8 fullShare (kaugOf x1 x4) ∗ owns (c : Thread nD τ) arg9 fullShare (k0_pay50 x2) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_fox_attn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_attn_eq_skeleton]; unfold cc0_fox_attn_skel
  simp only [k0_part9_eq_skeleton, k0_part1_eq_skeleton, k0_part10_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    sl_unfold_words
    rw [View.read_writes_full]
    obtain ⟨xk, hxk⟩ : ∃ xk, xk = kaugOf x1 x4 := ⟨_, rfl⟩
    obtain ⟨xv, hxv⟩ : ∃ xv, xv = k0_pay50 x2 := ⟨_, rfl⟩
    have hck : View.canon (Val := Elt F) (s := S8192x256) (e := .bf16) [⟨Rect.unit (s := S8192x256) ![0, 128] ![8192, 128] inb_S8192x256_S8192x128_0_128, k0_pay6 (iota .tc S1x128 32 [1] iota_S1x128_d1_w32) x4⟩, ⟨Rect.unit (s := S8192x256) ![0, 0] ![8192, 128] inb_S8192x256_S8192x128_0_0, k0_pay5 x1⟩] = xk := by rw [hxk]; rfl
    have hcv : View.canon (Val := Elt F) (s := S128x8192) (e := .bf16) [⟨Rect.unit (s := S128x8192) ![0, 0] S128x8192.size inb_S128x8192_S128x8192_0_0, k0_pay50 x2⟩] = xv := by rw [hxv, canon_v]
    have hwk : arg8.view.writes (Elt F) arg8.view.junk [⟨Rect.unit (s := S8192x256) ![0, 128] ![8192, 128] inb_S8192x256_S8192x128_0_128, k0_pay6 (iota .tc S1x128 32 [1] iota_S1x128_d1_w32) x4⟩, ⟨Rect.unit (s := S8192x256) ![0, 0] ![8192, 128] inb_S8192x256_S8192x128_0_0, k0_pay5 x1⟩] = harg8.unread xk :=
      harg8.eq_unread (by rw [← hck]; funext y; exact View.read_writes_junk_apply_eq_canon arg8.view y _)
    have hwv : arg9.view.writes (Elt F) arg9.view.junk [⟨Rect.unit (s := S128x8192) ![0, 0] S128x8192.size inb_S128x8192_S128x8192_0_0, k0_pay50 x2⟩] = harg9.unread xv :=
      harg9.eq_unread (by rw [← hcv]; funext y; exact View.read_writes_junk_apply_eq_canon arg9.view y _)
    rw [← hxk, ← hxv]
    have hc : View.canon [⟨Rect.unit (s := S512x256) ![0, 128] ![512, 128] inb_S512x256_S512x128_0_128, k0_pay52⟩, ⟨Rect.unit (s := S512x256) ![0, 0] ![512, 128] inb_S512x256_S512x128_0_0, k0_pay51 x0⟩] = qaugOf x0 := rfl
    have hq : arg10.view.writes (Elt F) arg10.view.junk [⟨Rect.unit (s := S512x256) ![0, 128] ![512, 128] inb_S512x256_S512x128_0_128, k0_pay52⟩, ⟨Rect.unit (s := S512x256) ![0, 0] ![512, 128] inb_S512x256_S512x128_0_0, k0_pay51 x0⟩] = harg10.unread (qaugOf x0) :=
      harg10.eq_unread (by funext y; exact View.read_writes_junk_apply_eq_canon arg10.view y _)
    have hz : View.ld xk (Rect.unit (s := S8192x256) ![0, 0] ![512, 256] inb_S8192x256_S512x256_0_0) = rows xk 0 := ld_rows xk 0 _ rfl _
    have t1 := trips1 i
    have t2 := trips2 i
    dsimp only [Scf.Loop.trips, k0_t1_loop, k0_t2_loop] at t1 t2
    simp only [View.readAt_eq_ld, harg2.read_unread, harg5.read_unread, harg3.read_unread, harg4.read_unread, harg6.read_unread, harg8.read_unread, harg9.read_unread, ld_bias, ld_q, ld_k, ld_kb, cov_qaug, cov_k, cov_v, t1, t2, hc, hck, hcv, hwk, hwv, hq, hz, pb_k0_t2.eq_1, List.nil_append, View.writes_append]
    obtain ⟨l11, l⟩ := loop_reads (F := F) c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 xk xv (qaugOf x0) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩])
      (by rw [whole_read_sq]; rfl) (by rw [whole_read_row, whole_read_row, whole_read_acc]; rfl) ((i 1).val / 2) (by rw [trips1])
    generalize hP : pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 (harg8.unread xk) (harg9.unread xv) (harg10.unread (qaugOf x0)) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩]) ((i 1).val / 2) = P at l11 l ⊢
    have r11 : arg11.view.readCov (P.1 ++ [⟨Rect.unit (s := S512x512) ![0, 0] ![512, 512] inb_S512x512_S512x512_0_0, k0_pay57 (rows xk 0) (qaugOf x0)⟩]) (Rect.unit (s := S512x512) ![0, 0] ![512, 512] inb_S512x512_S512x512_0_0).toLoadRect = zAt xk (qaugOf x0) (2 * ((i 1).val / 2)) := by
      rw [← l11, ← View.writes_append]; exact ld_sq _ _
    have e13 := congrArg (fun s => s.1) l
    have e14 := congrArg (fun s => s.2.1) l
    have e15 := congrArg (fun s => s.2.2) l
    dsimp only at e13 e14 e15
    have r13 : arg13.view.readCov (P.2.2.1 ++ [⟨Rect.unit (s := S1x512) ![0, 0] ![1, 512] inb_S1x512_S1x512_0_0, k0_pay53 (F := F)⟩]) (Rect.unit (s := S1x512) ![0, 0] ![1, 512] inb_S1x512_S1x512_0_0).toLoadRect = (sAt xk xv (qaugOf x0) x3 (2 * ((i 1).val / 2))).1 := by
      rw [← e13, ← View.writes_append]; exact ld_row _ _
    have r14 : arg14.view.readCov (P.2.2.2.1 ++ [⟨Rect.unit (s := S1x512) ![0, 0] ![1, 512] inb_S1x512_S1x512_0_0, k0_pay54 (F := F)⟩]) (Rect.unit (s := S1x512) ![0, 0] ![1, 512] inb_S1x512_S1x512_0_0).toLoadRect = (sAt xk xv (qaugOf x0) x3 (2 * ((i 1).val / 2))).2.1 := by
      rw [← e14, ← View.writes_append]; exact ld_row _ _
    have r15 : arg15.view.readCov (P.2.2.2.2 ++ [⟨Rect.unit (s := S128x512) ![0, 0] ![128, 512] inb_S128x512_S128x512_0_0, k0_pay55 (F := F)⟩]) (Rect.unit (s := S128x512) ![0, 0] ![128, 512] inb_S128x512_S128x512_0_0).toLoadRect = (sAt xk xv (qaugOf x0) x3 (2 * ((i 1).val / 2))).2.2 := by
      rw [← e15, ← View.writes_append]; exact ld_acc _ _
    simp only [cov_row, cov_sq, cov_acc, r11, r13, r14, r15]
    clear r11 r13 r14 r15 e13 e14 e15 l11 l hP
    have hi : (i 1).val < 16 := (i 1).isLt
    have heven : 2 * ((i 1).val / 2) = (i 1).val := by omega
    rw [heven]
    have hi7 := ld_cols xv (512 * (i 1).val) (k0_off7 i) (by show ![0, _] = _; rw [off_d _ hi]) (k0_off7_inb i hc1)
    unfold outOf
    generalize sAt xk xv (qaugOf x0) x3 (i 1).val = s
    generalize zAt xk (qaugOf x0) (i 1).val = z
    rw [← hi7]
    unfold stepS k0_pay8 k0_pay9 k0_pay11 k0_pay12 k0_pay13 k0_pay14 k0_pay10 k0_pay9 k0_pay8 k0_pay31
    unfold_payloads
    rfl
  isplitl [HS0]
  · iexists _; isplitr; swap; · iexact HS0
    ipureintro
    sl_unfold_words
    simp only [View.readAt_eq_ld, harg3.read_unread, harg6.read_unread, ld_k, ld_kb]
    funext y
    exact View.read_writes_junk_apply_eq_canon arg8.view y _
  isplitl [HS1]
  · iexists _; isplitr; swap; · iexact HS1
    ipureintro
    sl_unfold_words
    simp only [View.readAt_eq_ld, harg4.read_unread, ld_k]
    rw [View.read_writes_full]
  isplitl [HS2]
  · iexists _; iexists _; isplitr; swap; · iexact HS2
    ipureintro; rfl
  isplitl [HS3]
  · iexists _; iexists _; isplitr; swap; · iexact HS3
    ipureintro; rfl
  isplitl [HS4]
  · iexists _; iexists _; isplitr; swap; · iexact HS4
    ipureintro; rfl
  isplitl [HS5]
  · iexists _; iexists _; isplitr; swap; · iexact HS5
    ipureintro; rfl
  isplitl [HS6]
  · iexists _; iexists _; isplitr; swap; · iexact HS6
    ipureintro; rfl
  · iexists _; iexists _; isplitr; swap; · iexact HS7
    ipureintro; rfl

end Cert.KernelIdeal.Gen
end
-- ==== Proof.RunB.lean ====
module

public import proofs.«01_k».proof.Proof.Reads
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 800000 in
/-- At an odd query block the head's extended keys and transposed values are kept, and the block's softmax is written out. -/
theorem runB (c : Dev nD) (i : grid0.Coords)
  (arg2 : Memref sig .tc .vmem S512x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x1x512 .f32) (harg5 : arg5.IsWhole)
  (arg6 : Memref sig .tc .vmem S1x8192x1 .f32) (harg6 : arg6.IsWhole)
  (arg7 : Memref sig .tc .vmem S512x128 .bf16) (harg7 : arg7.IsWhole)
  (arg8 : Memref sig .tc .vmem S8192x256 .bf16) (harg8 : arg8.IsWhole)
  (arg9 : Memref sig .tc .vmem S128x8192 .bf16) (harg9 : arg9.IsWhole)
  (arg10 : Memref sig .tc .vmem S512x256 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x512 .f32) (harg15 : arg15.IsWhole)
  (hc0 : ¬cond0_0 i) (hc1 : ¬cond0_1 i) (hc2 : cond0_2 i) (hp : (i 1).val % 2 = 1)
  (x0 : Vec F S512x128 .bf16) (x1 : Vec F S8192x128 .bf16) (x2 : Vec F S8192x128 .bf16) (x3 : Vec F S1x1x512 .f32) (x4 : Vec F S1x8192x1 .f32)
  (xk : Vec F S8192x256 .bf16) (xv : Vec F S128x8192 .bf16) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xk ∗ owns (c : Thread nD τ) arg9 fullShare xv ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗
      (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf xk xv (qaugOf x0) x3 (i 1).val) ∗ owns (c : Thread nD τ) arg8 fullShare xk ∗ owns (c : Thread nD τ) arg9 fullShare xv ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_fox_attn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_attn_eq_skeleton]; unfold cc0_fox_attn_skel
  simp only [k0_part9_eq_skeleton, k0_part10_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    sl_unfold_words
    rw [View.read_writes_full]
    have hc : View.canon [⟨Rect.unit (s := S512x256) ![0, 128] ![512, 128] inb_S512x256_S512x128_0_128, k0_pay52⟩, ⟨Rect.unit (s := S512x256) ![0, 0] ![512, 128] inb_S512x256_S512x128_0_0, k0_pay51 x0⟩] = qaugOf x0 := rfl
    have hq : arg10.view.writes (Elt F) arg10.view.junk [⟨Rect.unit (s := S512x256) ![0, 128] ![512, 128] inb_S512x256_S512x128_0_128, k0_pay52⟩, ⟨Rect.unit (s := S512x256) ![0, 0] ![512, 128] inb_S512x256_S512x128_0_0, k0_pay51 x0⟩] = harg10.unread (qaugOf x0) :=
      harg10.eq_unread (by funext y; exact View.read_writes_junk_apply_eq_canon arg10.view y _)
    have hz : View.ld xk (Rect.unit (s := S8192x256) ![0, 0] ![512, 256] inb_S8192x256_S512x256_0_0) = rows xk 0 := ld_rows xk 0 _ rfl _
    have t1 := trips1 i
    have t2 := trips2 i
    dsimp only [Scf.Loop.trips, k0_t1_loop, k0_t2_loop] at t1 t2
    simp only [View.readAt_eq_ld, harg2.read_unread, harg5.read_unread, harg8.read_unread, harg9.read_unread, ld_bias, ld_q, cov_qaug, t1, t2, hc, hq, hz, pb_k0_t2.eq_1, List.nil_append, View.writes_append]
    obtain ⟨l11, l⟩ := loop_reads (F := F) c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 xk xv (qaugOf x0) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩])
      (by rw [whole_read_sq]; rfl) (by rw [whole_read_row, whole_read_row, whole_read_acc]; rfl) ((i 1).val / 2) (by rw [trips1])
    generalize hP : pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 (harg8.unread xk) (harg9.unread xv) (harg10.unread (qaugOf x0)) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩]) ((i 1).val / 2) = P at l11 l ⊢
    have r11 : arg11.view.readCov (P.1 ++ [⟨Rect.unit (s := S512x512) ![0, 0] ![512, 512] inb_S512x512_S512x512_0_0, k0_pay57 (rows xk 0) (qaugOf x0)⟩]) (Rect.unit (s := S512x512) ![0, 0] ![512, 512] inb_S512x512_S512x512_0_0).toLoadRect = zAt xk (qaugOf x0) (2 * ((i 1).val / 2)) := by
      rw [← l11, ← View.writes_append]; exact ld_sq _ _
    have e13 := congrArg (fun s => s.1) l
    have e14 := congrArg (fun s => s.2.1) l
    have e15 := congrArg (fun s => s.2.2) l
    dsimp only at e13 e14 e15
    have r13 : arg13.view.readCov (P.2.2.1 ++ [⟨Rect.unit (s := S1x512) ![0, 0] ![1, 512] inb_S1x512_S1x512_0_0, k0_pay53 (F := F)⟩]) (Rect.unit (s := S1x512) ![0, 0] ![1, 512] inb_S1x512_S1x512_0_0).toLoadRect = (sAt xk xv (qaugOf x0) x3 (2 * ((i 1).val / 2))).1 := by
      rw [← e13, ← View.writes_append]; exact ld_row _ _
    have r14 : arg14.view.readCov (P.2.2.2.1 ++ [⟨Rect.unit (s := S1x512) ![0, 0] ![1, 512] inb_S1x512_S1x512_0_0, k0_pay54 (F := F)⟩]) (Rect.unit (s := S1x512) ![0, 0] ![1, 512] inb_S1x512_S1x512_0_0).toLoadRect = (sAt xk xv (qaugOf x0) x3 (2 * ((i 1).val / 2))).2.1 := by
      rw [← e14, ← View.writes_append]; exact ld_row _ _
    have r15 : arg15.view.readCov (P.2.2.2.2 ++ [⟨Rect.unit (s := S128x512) ![0, 0] ![128, 512] inb_S128x512_S128x512_0_0, k0_pay55 (F := F)⟩]) (Rect.unit (s := S128x512) ![0, 0] ![128, 512] inb_S128x512_S128x512_0_0).toLoadRect = (sAt xk xv (qaugOf x0) x3 (2 * ((i 1).val / 2))).2.2 := by
      rw [← e15, ← View.writes_append]; exact ld_acc _ _
    simp only [cov_row, cov_sq, cov_acc, r11, r13, r14, r15]
    clear r11 r13 r14 r15 e13 e14 e15 l11 l hP
    have hi : (i 1).val < 16 := (i 1).isLt
    have hodd : 2 * ((i 1).val / 2) + 1 = (i 1).val := by omega
    generalize hn : 2 * ((i 1).val / 2) = n at hodd ⊢
    have hi8 := ld_rows xk (512 * (i 1).val) (k0_off8 i) (by show ![_, 0] = _; rw [off_d _ hi]) (k0_off8_inb i hc2)
    have hi10 := ld_cols xv (512 * (i 1).val) (k0_off10 i) (by show ![0, _] = _; rw [off_d _ hi]) (k0_off10_inb i hc2)
    have hi9 := ld_cols xv (512 * n) (k0_off9 i) (by show ![0, _] = _; rw [← hodd, off_e _ (by omega)]) (k0_off9_inb i hc2)
    unfold outOf
    have hs : sAt xk xv (qaugOf x0) x3 (i 1).val = stepS x3 (zAt xk (qaugOf x0) n) (cols xv (512 * n)) (sAt xk xv (qaugOf x0) x3 n) := by
      rw [← hodd]; rfl
    rw [hs]
    generalize sAt xk xv (qaugOf x0) x3 n = s
    generalize zAt xk (qaugOf x0) n = z
    simp only [zAt]
    rw [← hi8, ← hi9, ← hi10]
    unfold stepS k0_pay8 k0_pay9 k0_pay11 k0_pay12 k0_pay13 k0_pay14 k0_pay10 k0_pay9 k0_pay8 k0_pay57 k0_pay31
    unfold_payloads
    rfl
  isplitl [HS0]
  · iexists _; isplitr; swap; · iexact HS0
    ipureintro
    exact harg8.read_unread _
  isplitl [HS1]
  · iexists _; isplitr; swap; · iexact HS1
    ipureintro
    exact harg9.read_unread _
  isplitl [HS2]
  · iexists _; iexists _; isplitr; swap; · iexact HS2
    ipureintro; rfl
  isplitl [HS3]
  · iexists _; iexists _; isplitr; swap; · iexact HS3
    ipureintro; rfl
  isplitl [HS4]
  · iexists _; iexists _; isplitr; swap; · iexact HS4
    ipureintro; rfl
  isplitl [HS5]
  · iexists _; iexists _; isplitr; swap; · iexact HS5
    ipureintro; rfl
  isplitl [HS6]
  · iexists _; iexists _; isplitr; swap; · iexact HS6
    ipureintro; rfl
  · iexists _; iexists _; isplitr; swap; · iexact HS7
    ipureintro; rfl

end Cert.KernelIdeal.Gen
end
-- ==== Proof.RunC.lean ====
module

public import proofs.«01_k».proof.Proof.Reads
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 800000 in
/-- The same at an even query block other than the first. -/
theorem runC (c : Dev nD) (i : grid0.Coords)
  (arg2 : Memref sig .tc .vmem S512x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S1x1x512 .f32) (harg5 : arg5.IsWhole)
  (arg6 : Memref sig .tc .vmem S1x8192x1 .f32) (harg6 : arg6.IsWhole)
  (arg7 : Memref sig .tc .vmem S512x128 .bf16) (harg7 : arg7.IsWhole)
  (arg8 : Memref sig .tc .vmem S8192x256 .bf16) (harg8 : arg8.IsWhole)
  (arg9 : Memref sig .tc .vmem S128x8192 .bf16) (harg9 : arg9.IsWhole)
  (arg10 : Memref sig .tc .vmem S512x256 .bf16) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S128x512 .f32) (harg15 : arg15.IsWhole)
  (hc0 : ¬cond0_0 i) (hc1 : cond0_1 i) (hc2 : ¬cond0_2 i) (hp : (i 1).val % 2 = 0)
  (x0 : Vec F S512x128 .bf16) (x1 : Vec F S8192x128 .bf16) (x2 : Vec F S8192x128 .bf16) (x3 : Vec F S1x1x512 .f32) (x4 : Vec F S1x8192x1 .f32)
  (xk : Vec F S8192x256 .bf16) (xv : Vec F S128x8192 .bf16) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xk ∗ owns (c : Thread nD τ) arg9 fullShare xv ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗
      (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf xk xv (qaugOf x0) x3 (i 1).val) ∗ owns (c : Thread nD τ) arg8 fullShare xk ∗ owns (c : Thread nD τ) arg9 fullShare xv ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
    ⊢ wp frame (wpE (defs₀ (F := F)) Variants.none c none) E (cc0_fox_attn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_attn_eq_skeleton]; unfold cc0_fox_attn_skel
  simp only [k0_part9_eq_skeleton, k0_part10_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro
    sl_unfold_words
    rw [View.read_writes_full]
    have hc : View.canon [⟨Rect.unit (s := S512x256) ![0, 128] ![512, 128] inb_S512x256_S512x128_0_128, k0_pay52⟩, ⟨Rect.unit (s := S512x256) ![0, 0] ![512, 128] inb_S512x256_S512x128_0_0, k0_pay51 x0⟩] = qaugOf x0 := rfl
    have hq : arg10.view.writes (Elt F) arg10.view.junk [⟨Rect.unit (s := S512x256) ![0, 128] ![512, 128] inb_S512x256_S512x128_0_128, k0_pay52⟩, ⟨Rect.unit (s := S512x256) ![0, 0] ![512, 128] inb_S512x256_S512x128_0_0, k0_pay51 x0⟩] = harg10.unread (qaugOf x0) :=
      harg10.eq_unread (by funext y; exact View.read_writes_junk_apply_eq_canon arg10.view y _)
    have hz : View.ld xk (Rect.unit (s := S8192x256) ![0, 0] ![512, 256] inb_S8192x256_S512x256_0_0) = rows xk 0 := ld_rows xk 0 _ rfl _
    have t1 := trips1 i
    have t2 := trips2 i
    dsimp only [Scf.Loop.trips, k0_t1_loop, k0_t2_loop] at t1 t2
    simp only [View.readAt_eq_ld, harg2.read_unread, harg5.read_unread, harg8.read_unread, harg9.read_unread, ld_bias, ld_q, cov_qaug, t1, t2, hc, hq, hz, pb_k0_t2.eq_1, List.nil_append, View.writes_append]
    obtain ⟨l11, l⟩ := loop_reads (F := F) c i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 xk xv (qaugOf x0) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩])
      (by rw [whole_read_sq]; rfl) (by rw [whole_read_row, whole_read_row, whole_read_acc]; rfl) ((i 1).val / 2) (by rw [trips1])
    generalize hP : pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) x3 (harg8.unread xk) (harg9.unread xv) (harg10.unread (qaugOf x0)) (arg11.view.writes (Elt F) arg11.view.junk [⟨Rect.unit (s := S512x512) ![0, 0] ![512, 512] inb_S512x512_S512x512_0_0, k0_pay57 (rows xk 0) (qaugOf x0)⟩]) fs4 (arg13.view.writes (Elt F) arg13.view.junk [⟨Rect.unit (s := S1x512) ![0, 0] ![1, 512] inb_S1x512_S1x512_0_0, k0_pay53⟩]) (arg14.view.writes (Elt F) arg14.view.junk [⟨Rect.unit (s := S1x512) ![0, 0] ![1, 512] inb_S1x512_S1x512_0_0, k0_pay54⟩]) (arg15.view.writes (Elt F) arg15.view.junk [⟨Rect.unit (s := S128x512) ![0, 0] ![128, 512] inb_S128x512_S128x512_0_0, k0_pay55⟩]) ((i 1).val / 2) = P at l11 l ⊢
    have r11 : arg11.view.readCov (P.1 ++ [⟨Rect.unit (s := S512x512) ![0, 0] ![512, 512] inb_S512x512_S512x512_0_0, k0_pay57 (rows xk 0) (qaugOf x0)⟩]) (Rect.unit (s := S512x512) ![0, 0] ![512, 512] inb_S512x512_S512x512_0_0).toLoadRect = zAt xk (qaugOf x0) (2 * ((i 1).val / 2)) := by
      rw [← l11, ← View.writes_append]; exact ld_sq _ _
    have e13 := congrArg (fun s => s.1) l
    have e14 := congrArg (fun s => s.2.1) l
    have e15 := congrArg (fun s => s.2.2) l
    dsimp only at e13 e14 e15
    have r13 : arg13.view.readCov (P.2.2.1 ++ [⟨Rect.unit (s := S1x512) ![0, 0] ![1, 512] inb_S1x512_S1x512_0_0, k0_pay53 (F := F)⟩]) (Rect.unit (s := S1x512) ![0, 0] ![1, 512] inb_S1x512_S1x512_0_0).toLoadRect = (sAt xk xv (qaugOf x0) x3 (2 * ((i 1).val / 2))).1 := by
      rw [← e13, ← View.writes_append]; exact ld_row _ _
    have r14 : arg14.view.readCov (P.2.2.2.1 ++ [⟨Rect.unit (s := S1x512) ![0, 0] ![1, 512] inb_S1x512_S1x512_0_0, k0_pay54 (F := F)⟩]) (Rect.unit (s := S1x512) ![0, 0] ![1, 512] inb_S1x512_S1x512_0_0).toLoadRect = (sAt xk xv (qaugOf x0) x3 (2 * ((i 1).val / 2))).2.1 := by
      rw [← e14, ← View.writes_append]; exact ld_row _ _
    have r15 : arg15.view.readCov (P.2.2.2.2 ++ [⟨Rect.unit (s := S128x512) ![0, 0] ![128, 512] inb_S128x512_S128x512_0_0, k0_pay55 (F := F)⟩]) (Rect.unit (s := S128x512) ![0, 0] ![128, 512] inb_S128x512_S128x512_0_0).toLoadRect = (sAt xk xv (qaugOf x0) x3 (2 * ((i 1).val / 2))).2.2 := by
      rw [← e15, ← View.writes_append]; exact ld_acc _ _
    simp only [cov_row, cov_sq, cov_acc, r11, r13, r14, r15]
    clear r11 r13 r14 r15 e13 e14 e15 l11 l hP
    have hi : (i 1).val < 16 := (i 1).isLt
    have heven : 2 * ((i 1).val / 2) = (i 1).val := by omega
    rw [heven]
    have hi7 := ld_cols xv (512 * (i 1).val) (k0_off7 i) (by show ![0, _] = _; rw [off_d _ hi]) (k0_off7_inb i hc1)
    unfold outOf
    generalize sAt xk xv (qaugOf x0) x3 (i 1).val = s
    generalize zAt xk (qaugOf x0) (i 1).val = z
    rw [← hi7]
    unfold stepS k0_pay8 k0_pay9 k0_pay11 k0_pay12 k0_pay13 k0_pay14 k0_pay10 k0_pay9 k0_pay8 k0_pay31
    unfold_payloads
    rfl
  isplitl [HS0]
  · iexists _; isplitr; swap; · iexact HS0
    ipureintro
    exact harg8.read_unread _
  isplitl [HS1]
  · iexists _; isplitr; swap; · iexact HS1
    ipureintro
    exact harg9.read_unread _
  isplitl [HS2]
  · iexists _; iexists _; isplitr; swap; · iexact HS2
    ipureintro; rfl
  isplitl [HS3]
  · iexists _; iexists _; isplitr; swap; · iexact HS3
    ipureintro; rfl
  isplitl [HS4]
  · iexists _; iexists _; isplitr; swap; · iexact HS4
    ipureintro; rfl
  isplitl [HS5]
  · iexists _; iexists _; isplitr; swap; · iexact HS5
    ipureintro; rfl
  isplitl [HS6]
  · iexists _; iexists _; isplitr; swap; · iexact HS6
    ipureintro; rfl
  · iexists _; iexists _; isplitr; swap; · iexact HS7
    ipureintro; rfl

end Cert.KernelIdeal.Gen
end
-- ==== Proof.Data.lean ====
/- The kernel's run: what its grid points leave, and the machine's final states.

The keys and values of a head are laid out at the head's first grid point and are read by the head's sixteen
points; every point leaves its block of the output. -/
module

public import proofs.«01_k».proof.Proof.RunA
public import proofs.«01_k».proof.Proof.RunB
public import proofs.«01_k».proof.Proof.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first of the sixteen grid points of the head of point `n`. -/
def firstPt (n : ℕ) (h : n < cfg0.N) : Fin cfg0.N := ⟨n / 16 * 16, lt_of_le_of_lt (Nat.div_mul_le_self n 16) h⟩

/-- The laid-out keys the points of the head of point `n` read. -/
def keysAt (c : Dev nD) (n : ℕ) (h : n < cfg0.N) : Vec F S8192x256 .bf16 :=
  kaugOf (iblk m c 1 (firstPt n h)) (iblk m c 4 (firstPt n h))

/-- The transposed values the points of the head of point `n` read. -/
def valsAt (c : Dev nD) (n : ℕ) (h : n < cfg0.N) : Vec F S128x8192 .bf16 :=
  k0_pay50 (iblk m c 2 (firstPt n h))

/-- The block of the output point `t` leaves. -/
def outAt (c : Dev nD) (t : Fin cfg0.N) : Vec F S512x128 .bf16 :=
  outOf (keysAt m c t.val t.isLt) (valsAt m c t.val t.isLt) (qaugOf (iblk m c 0 t)) (iblk m c 3 t) (grid0.coords t 1).val

/-- What holds between the points: the laid-out keys and values are those of the last point's head, the other
scratch buffers hold anything. -/
def Inv (c : Dev nD) : (n : ℕ) → n ≤ cfg0.N → sProp 𝕄
  | 0, _ => Pipeline.ΦA spec0 c
  | n + 1, hn => iprop(iprop(owns (c : Thread nD τ) scM0_0 fullShare (keysAt m c n hn) ∗ owns (c : Thread nD τ) scM0_1 fullShare (valsAt m c n hn) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem Inv_succ (c : Dev nD) (n : ℕ) (hn : n < cfg0.N) :
    Inv m c (n + 1) hn = iprop(iprop(owns (c : Thread nD τ) scM0_0 fullShare (keysAt m c n hn) ∗ owns (c : Thread nD τ) scM0_1 fullShare (valsAt m c n hn) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

theorem firstPt_of_first (t : Fin cfg0.N) (h0 : t.val % 16 = 0) : firstPt t.val t.isLt = t :=
  Fin.ext (show t.val / 16 * 16 = t.val by omega)

/-- Before a point which is not its head's first, the keys and values are those of its own head. -/
theorem Inv_of_later (c : Dev nD) (n : ℕ) (h : n < cfg0.N) (h0 : ¬n % 16 = 0) :
    Inv m c n h.le = iprop(iprop(owns (c : Thread nD τ) scM0_0 fullShare (keysAt m c n h) ∗ owns (c : Thread nD τ) scM0_1 fullShare (valsAt m c n h) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl h0
  | succ k =>
    have e : firstPt k (Nat.lt_of_succ_lt h) = firstPt (k + 1) h :=
      Fin.ext (show k / 16 * 16 = (k + 1) / 16 * 16 by omega)
    rw [Inv_succ]; unfold keysAt valsAt; rw [e]

/-- Whatever the point, what holds before it gives every scratch buffer at some contents. -/
theorem Inv_forget (c : Dev nD) (n : ℕ) (h : n ≤ cfg0.N) : Inv m c n h ⊢ Pipeline.ΦA spec0 c := by
  cases n with
  | zero => exact Idealize.SL.BI.Entails.refl _
  | succ k =>
    rw [Inv_succ, PhiA0_eq]
    iintro ⟨⟨HS0, HS1, HS2, HS3, HS4, HS5, HS6, HS7⟩, Hg⟩
    isplitl [HS0 HS1 HS2 HS3 HS4 HS5 HS6 HS7]
    · isplitl [HS0]
      · iexists _; iexact HS0
      isplitl [HS1]
      · iexists _; iexact HS1
      isplitl [HS2]
      · iexact HS2
      isplitl [HS3]
      · iexact HS3
      isplitl [HS4]
      · iexact HS4
      isplitl [HS5]
      · iexact HS5
      isplitl [HS6]
      · iexact HS6
      iexact HS7
    iexact Hg

theorem Inv_forget_frame (c : Dev nD) (n : ℕ) (h : n ≤ cfg0.N) (Q : sProp 𝕄) :
    iprop(Inv m c n h ∗ Q) ⊢ iprop(Pipeline.ΦA spec0 c ∗ Q) := by
  iintro ⟨H, HQ⟩
  isplitl [H]
  · iapply (Inv_forget m c n h); iexact H
  iexact HQ

/-- The proof data: the arrays as the region finds them, each input's buffer at its block, the output's at the
point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at point `t`. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem coord_1 (t : Fin cfg0.N) : (grid0.coords t 1).val = t.val % 16 := by
  have h : (grid0.coords t 1).val = t.val / 1 % 16 := Pipeline.Grid.coords_val t 1 (by decide) rfl
  omega

set_option maxHeartbeats 1600000 in
/-- The body at any point: a head's first point lays the keys and values out, a later one reads them; the other
two cases differ by which of the two score buffers holds the diagonal tile. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Inv m c (t.val + 1) t.isLt from rfl, Inv_succ, inv_castSucc m c t]
  have h1 := coord_1 t
  by_cases h0 : t.val % 16 = 0
  · refine BIBase.Entails.trans (Inv_forget_frame m c t.val _ _) ?_
    rw [PhiA0_eq]
    unfold outAt keysAt valsAt
    rw [firstPt_of_first t h0]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) (by omega) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Inv_of_later m c t.val t.isLt h0]
    unfold outAt
    by_cases h2 : t.val % 2 = 0
    · iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (by omega) (iblk m c 0 t) (iblk m c 1 t) (iblk m c 2 t) (iblk m c 3 t) (iblk m c 4 t) (keysAt m c t.val t.isLt) (valsAt m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      iexact H5
    · iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (by omega) (iblk m c 0 t) (iblk m c 1 t) (iblk m c 2 t) (iblk m c 3 t) (iblk m c 4 t) (keysAt m c t.val t.isLt) (valsAt m c t.val t.isLt) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      iexact H5

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem inv_in (c : Dev nD) : Pipeline.ΦA spec0 c ⊢ (dats m 0 c).Φ 0 := by
  rw [show (dats m 0 c).Φ 0 = Inv m c 0 (Nat.zero_le _) from rfl]
  exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_forget m c _ _

set_option backward.isDefEq.respectTransparency.types false in
/-- The run: every execution ends, the pipeline's arrays at what the points left, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The kernel ends, its arguments as they were and every semaphore at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Gen

end
-- ==== Proof.Blocks.lean ====
/- Which elements of the arguments the blocks of a grid point hold, and the result array from the points' blocks.

Point `t` is block `t % 16` of 512 queries of head `t / 16`. -/
module

public import proofs.«01_k».proof.Proof.Data
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Idealize.ShloMosaic.Pipeline (Dat Cfg Window)

variable {F : FTy → Type} [FloatOps F] [Named F]

variable (m : (ℓ : Loc nD τ sig) → Buf (Elt F) ℓ) (ρ : Dev nD → PrngReg)

theorem index_0 : ∀ t : Fin cfg0.N, win0_0.index t = ![t.val % 16, t.val / 16] := by decide +kernel
theorem index_1 : ∀ t : Fin cfg0.N, win0_1.index t = ![0, t.val / 16] := by decide +kernel
theorem index_2 : ∀ t : Fin cfg0.N, win0_2.index t = ![0, 16 + t.val / 16] := by decide +kernel
theorem index_3 : ∀ t : Fin cfg0.N, win0_3.index t = ![t.val / 16, 0, t.val % 16] := by decide +kernel
theorem index_4 : ∀ t : Fin cfg0.N, win0_4.index t = ![t.val / 16, 0, 0] := by decide +kernel
theorem index_5 : ∀ t : Fin cfg0.N, win0_5.index t = ![t.val % 16, t.val / 16] := by decide +kernel

theorem pt_lt (t : Fin cfg0.N) : t.val < 256 := lt_of_lt_of_eq t.isLt N_0

/-- The queries' block. -/
theorem q_block (c : Dev nD) (t : Fin cfg0.N) (a : Fin 512) (d : Fin 128) :
    iblk m c 0 t (ix2 a d) = m ((c : Thread nD τ).loc main_arg0)
      (ix2 ⟨512 * (t.val % 16) + a.val, by omega⟩ ⟨128 * (t.val / 16) + d.val, by have := pt_lt t; omega⟩) := by
  have := pt_lt t
  blk_ext [iblk, V, index_0 t]

/-- The keys' block. -/
theorem k_block (c : Dev nD) (t : Fin cfg0.N) (s : Fin 8192) (d : Fin 128) :
    iblk m c 1 t (ix2 s d) = m ((c : Thread nD τ).loc main_arg1)
      (ix2 s ⟨128 * (t.val / 16) + d.val, by have := pt_lt t; omega⟩) := by
  have := pt_lt t
  blk_ext [iblk, V, index_1 t]

/-- The values' block. -/
theorem v_block (c : Dev nD) (t : Fin cfg0.N) (s : Fin 8192) (d : Fin 128) :
    iblk m c 2 t (ix2 s d) = m ((c : Thread nD τ).loc main_arg1)
      (ix2 s ⟨2048 + 128 * (t.val / 16) + d.val, by have := pt_lt t; omega⟩) := by
  have := pt_lt t
  blk_ext [iblk, V, index_2 t]

/-- The queries' log gates. -/
theorem cq_block (c : Dev nD) (t : Fin cfg0.N) (a : Fin 512) :
    iblk m c 3 t (ix3 0 0 a) = m ((c : Thread nD τ).loc main_arg2)
      (ix2 ⟨512 * (t.val % 16) + a.val, by omega⟩ ⟨t.val / 16, by have := pt_lt t; omega⟩) := by
  have := pt_lt t
  blk_simp [iblk, index_3 t]
  entry_read
  pointwise
  blk_ext [index_3 t]

/-- The keys' log gates. -/
theorem ck_block (c : Dev nD) (t : Fin cfg0.N) (s : Fin 8192) :
    iblk m c 4 t (ix3 0 s 0) = m ((c : Thread nD τ).loc main_arg2)
      (ix2 s ⟨t.val / 16, by have := pt_lt t; omega⟩) := by
  have := pt_lt t
  blk_simp [iblk, index_4 t]
  entry_read
  pointwise
  blk_ext [index_4 t]

/-- The grid point that computes the element `i` of the result. -/
def ptOf (i : S8192x2048.Idx) : Fin cfg0.N :=
  ⟨(i 1).val / 128 * 16 + (i 0).val / 512, by
    have h0 : (i 0).val < 8192 := (i 0).isLt
    have h1 : (i 1).val < 2048 := (i 1).isLt
    rw [show cfg0.N = 256 from N_0]; omega⟩

/-- The result array. -/
def result (c : Dev nD) (i : S8192x2048.Idx) : F .bf16 :=
  outAt m c (ptOf i) (ix2 ⟨(i 0).val % 512, Nat.mod_lt _ (by decide)⟩ ⟨(i 1).val % 128, Nat.mod_lt _ (by decide)⟩)

theorem result_at (c : Dev nD) (i : S8192x2048.Idx) (t : Fin cfg0.N) (y0 : Fin 512) (y1 : Fin 128)
    (e0 : (i 0).val = 512 * (t.val % 16) + y0.val) (e1 : (i 1).val = 128 * (t.val / 16) + y1.val) :
    result m c i = outAt m c t (ix2 y0 y1) := by
  have := pt_lt t
  have h : ptOf i = t := Fin.ext (show (i 1).val / 128 * 16 + (i 0).val / 512 = t.val by omega)
  have h0 : (⟨(i 0).val % 512, Nat.mod_lt _ (by decide)⟩ : Fin 512) = y0 := Fin.ext (show (i 0).val % 512 = y0.val by omega)
  have h1 : (⟨(i 1).val % 128, Nat.mod_lt _ (by decide)⟩ : Fin 128) = y1 := Fin.ext (show (i 1).val % 128 = y1.val by omega)
  unfold result
  rw [h, h0, h1]

/-- What the points leave together is the result array. -/
theorem result_eq (c : Dev nD) : (dats m 0 c).arrAt 5 (cfgs 0).N = result m c := by
  refine (dats m 0 c).arrAt_eq_of_covers 5 _ (by decide +kernel) fun t hf y => ?_
  have := pt_lt t
  blk_simp
  rw [after_5]
  idx_vars y
  have e0 : ((((cfg0.win 5).blk t).view.emb (ix2 y0 y1)) 0 : ℕ) = 512 * (t.val % 16) + y0.val := by
    blk_simp [index_5 t]; omega
  have e1 : ((((cfg0.win 5).blk t).view.emb (ix2 y0 y1)) 1 : ℕ) = 128 * (t.val / 16) + y1.val := by
    blk_simp [index_5 t]; omega
  exact (result_at m c _ t y0 y1 e0 e1).symm

end Cert.KernelIdeal.Gen

end
-- ==== Proof.Softmax.lean ====
/- The softmax over the extended reals, with no program in sight: a maximum, a normaliser and a weighted sum over a
   prefix of the keys, how one more block of keys updates the three, and what their quotient is. -/
module

public import Idealize.ShloMosaic.PureOps.Ideal

@[expose] public section

noncomputable section

namespace Cert.Attention

open Idealize.ShloMosaic
open scoped BigOperators

/-- `2^(x - m)` times the correction `2^(m - m')` is `2^(x - m')`, wherever `x ≤ m ≤ m'`. -/
theorem exp2_correct {x m m' : EReal} (h1 : x ≤ m) (h2 : m ≤ m') :
    Ideal.exp2 (m - m') * Ideal.exp2 (x - m) = Ideal.exp2 (x - m') := by
  induction x with
  | bot => simp [sub_eq_add_neg]
  | top =>
    obtain rfl := top_le_iff.1 h1
    obtain rfl := top_le_iff.1 h2
    simp [sub_eq_add_neg]
  | coe x =>
    induction m with
    | bot => simp at h1
    | top =>
      obtain rfl := top_le_iff.1 h2
      simp [sub_eq_add_neg]
    | coe m =>
      induction m' with
      | bot => simp at h2
      | top => simp [sub_eq_add_neg]
      | coe m' =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (x - m) = (2 : ℝ) ^ (x - m')
        rw [← Real.rpow_add (by norm_num)]
        congr 1
        ring

/-- A power of two is not negative. -/
theorem exp2_nonneg (x : EReal) : 0 ≤ Ideal.exp2 x := by
  induction x with
  | bot => simp
  | top => simp
  | coe x =>
    rw [Ideal.exp2_coe]
    exact_mod_cast (Real.rpow_pos_of_pos (by norm_num : (0 : ℝ) < 2) x).le

/-- The correction of a maximum that does not fall is finite. -/
theorem exp2_sub_ne_top {m m' : EReal} (h : m ≤ m') : Ideal.exp2 (m - m') ≠ ⊤ := by
  induction m with
  | bot => simp [sub_eq_add_neg]
  | top =>
    obtain rfl := top_le_iff.1 h
    simp [sub_eq_add_neg]
  | coe m =>
    induction m' with
    | bot => simp at h
    | top => simp [sub_eq_add_neg]
    | coe m' =>
      rw [← EReal.coe_sub, Ideal.exp2_coe]
      exact EReal.coe_ne_top _

/-- A finite factor that is not negative distributes over a finite sum of extended reals. -/
theorem mul_sum_of_nonneg {ι : Type} (t : Finset ι) (f : ι → EReal) {a : EReal} (ha : 0 ≤ a) (ha' : a ≠ ⊤) :
    a * ∑ i ∈ t, f i = ∑ i ∈ t, a * f i := by
  classical
  induction t using Finset.induction_on with
  | empty => simp
  | insert i t hi ih =>
    rw [Finset.sum_insert hi, Finset.sum_insert hi, EReal.left_distrib_of_nonneg_of_ne_top ha ha', ih]

/-- The maximum of the first `n` logits. -/
def top (x : ℕ → EReal) (n : ℕ) : EReal := (Finset.range n).sup x

/-- The sum of the first `n` weights, against their maximum. -/
def den (x : ℕ → EReal) (n : ℕ) : EReal := ∑ s ∈ Finset.range n, Ideal.exp2 (x s - top x n)

/-- The first `n` values, weighted. -/
def num (x v : ℕ → EReal) (n : ℕ) : EReal := ∑ s ∈ Finset.range n, v s * Ideal.exp2 (x s - top x n)

theorem le_top (x : ℕ → EReal) {n s : ℕ} (h : s < n) : x s ≤ top x n := Finset.le_sup (Finset.mem_range.2 h)

/-- The prefix of `n + B` keys is the prefix of `n` and a block of `B`. -/
theorem sum_block (f : ℕ → EReal) (n B : ℕ) :
    ∑ s ∈ Finset.range (n + B), f s = ∑ s ∈ Finset.range n, f s + ∑ a : Fin B, f (n + a) := by
  rw [Finset.sum_range_add, Finset.sum_range (fun a => f (n + a))]

theorem top_block (x : ℕ → EReal) (n B : ℕ) :
    top x (n + B) = max (top x n) ((Finset.univ : Finset (Fin B)).sup fun a => x (n + a)) := by
  apply le_antisymm
  · refine Finset.sup_le fun s hs => ?_
    rcases lt_or_ge s n with h | h
    · exact le_max_of_le_left (le_top x h)
    · have hB : s - n < B := by have := Finset.mem_range.1 hs; omega
      have := Finset.le_sup (f := fun a : Fin B => x (n + a)) (Finset.mem_univ ⟨s - n, hB⟩)
      refine le_max_of_le_right (le_trans (le_of_eq ?_) this)
      show x s = x (n + (s - n))
      congr 1
      omega
  · refine max_le (Finset.sup_mono (by intro s; simp only [Finset.mem_range]; omega)) (Finset.sup_le fun a _ => ?_)
    exact le_top x (by omega)

theorem top_mono (x : ℕ → EReal) (n B : ℕ) : top x n ≤ top x (n + B) := by
  rw [top_block]; exact le_max_left _ _

/-- A block of keys updates the normaliser. -/
theorem den_block (x : ℕ → EReal) (n B : ℕ) :
    den x (n + B) = Ideal.exp2 (top x n - top x (n + B)) * den x n
      + ∑ a : Fin B, Ideal.exp2 (x (n + a) - top x (n + B)) := by
  unfold den
  rw [sum_block (fun s => Ideal.exp2 (x s - top x (n + B))),
    mul_sum_of_nonneg _ _ (exp2_nonneg _) (exp2_sub_ne_top (top_mono x n B))]
  congr 1
  exact Finset.sum_congr rfl fun s hs => (exp2_correct (le_top x (Finset.mem_range.1 hs)) (top_mono x n B)).symm

/-- A block of keys updates the weighted sum of the values. -/
theorem num_block (x v : ℕ → EReal) (n B : ℕ) :
    num x v (n + B) = Ideal.exp2 (top x n - top x (n + B)) * num x v n
      + ∑ a : Fin B, v (n + a) * Ideal.exp2 (x (n + a) - top x (n + B)) := by
  unfold num
  rw [sum_block (fun s => v s * Ideal.exp2 (x s - top x (n + B))),
    mul_sum_of_nonneg _ _ (exp2_nonneg _) (exp2_sub_ne_top (top_mono x n B))]
  congr 1
  refine Finset.sum_congr rfl fun s hs => ?_
  rw [mul_left_comm, exp2_correct (le_top x (Finset.mem_range.1 hs)) (top_mono x n B)]

/-- A finite shift goes through a maximum. -/
theorem sup_add {B : ℕ} (z : Fin B → EReal) (c : ℝ) :
    (Finset.univ : Finset (Fin B)).sup z + (c : EReal) = (Finset.univ : Finset (Fin B)).sup fun a => z a + (c : EReal) := by
  refine Finset.comp_sup_eq_sup_comp_of_is_total (fun y : EReal => y + (c : EReal)) ?_ ?_
  · intro a b h; exact add_le_add_left h _
  · simp

/-- What is neither `⊤` nor below a real number: `⊥` (a masked key) or a number. -/
def Logit (x : EReal) : Prop := x = ⊥ ∨ ∃ r : ℝ, x = (r : EReal)

/-- The maximum of logits of which one is a number is a number. -/
theorem top_real {x : ℕ → EReal} (hx : ∀ s, Logit (x s)) {n : ℕ} (h0 : ∃ s < n, x s ≠ ⊥) : ∃ r : ℝ, top x n = (r : EReal) := by
  obtain ⟨s, hs, h0⟩ := h0
  have hne : (Finset.range n).Nonempty := ⟨s, Finset.mem_range.2 hs⟩
  obtain ⟨s', _, h'⟩ := Finset.exists_mem_eq_sup (Finset.range n) hne x
  have hle := le_top x hs
  unfold top at *
  rcases hx s' with h | ⟨r, h⟩
  · rw [h', h] at hle
    exact absurd (le_bot_iff.1 hle) h0
  · exact ⟨r, h'.trans h⟩

/-- A base change: `2^(a - b)` is `e^(a·log 2 - b·log 2)`. -/
theorem exp2_eq_exp {a : EReal} (ha : Logit a) (b : ℝ) :
    Ideal.exp2 (a - (b : EReal)) = Ideal.exp (a * (Real.log 2 : ℝ) - (b : EReal) * (Real.log 2 : ℝ)) := by
  have hl : (0 : ℝ) < Real.log 2 := Real.log_pos (by norm_num)
  rcases ha with rfl | ⟨r, rfl⟩
  · rw [EReal.bot_mul_coe_of_pos hl]
    simp [sub_eq_add_neg]
  · rw [← EReal.coe_sub, ← EReal.coe_mul, ← EReal.coe_mul, ← EReal.coe_sub, Ideal.exp2_coe, Ideal.exp_coe]
    congr 1
    show (2 : ℝ) ^ (r - b) = _
    rw [Real.rpow_def_of_pos (by norm_num)]
    congr 1
    ring

/-- The maximum of the scaled logits is the scaled maximum. -/
theorem top_mul (x : ℕ → EReal) (n : ℕ) {l : ℝ} (hl : 0 < l) :
    (Finset.range n).sup (fun s => x s * (l : EReal)) = top x n * (l : EReal) := by
  symm
  refine Finset.comp_sup_eq_sup_comp_of_is_total (fun y : EReal => y * (l : EReal)) ?_ ?_
  · intro a b h
    exact mul_le_mul_of_nonneg_right h (by exact_mod_cast hl.le)
  · exact EReal.bot_mul_coe_of_pos hl

/-- THE SOFTMAX. The weighted sum over the first `n` keys by its normaliser is the softmax, base `e`, over all `N` keys,
    where the keys from `n` on are masked. Nothing is asked of the values. -/
theorem softmax_eq {x v : ℕ → EReal} {n N : ℕ} (hn : n ≤ N) (hx : ∀ s, Logit (x s)) (h0 : ∃ s < n, x s ≠ ⊥)
    (htail : ∀ s, n ≤ s → x s = ⊥) :
    Ideal.div (num x v n) (den x n)
      = ∑ s ∈ Finset.range N, v s * Ideal.div
          (Ideal.exp (x s * (Real.log 2 : ℝ) - (Finset.range N).sup fun s => x s * (Real.log 2 : ℝ)))
          (∑ s ∈ Finset.range N, Ideal.exp (x s * (Real.log 2 : ℝ) - (Finset.range N).sup fun s => x s * (Real.log 2 : ℝ))) := by
  have hl : (0 : ℝ) < Real.log 2 := Real.log_pos (by norm_num)
  obtain ⟨m, hm⟩ := top_real hx h0
  have hmN : top x N = top x n := by
    obtain ⟨B, rfl⟩ := Nat.exists_eq_add_of_le hn
    rw [top_block, max_eq_left]
    refine Finset.sup_le fun a _ => ?_
    rw [htail _ (by omega)]
    exact bot_le
  have hw : ∀ s, Ideal.exp (x s * (Real.log 2 : ℝ) - (Finset.range N).sup fun s => x s * (Real.log 2 : ℝ))
      = Ideal.exp2 (x s - (m : EReal)) := by
    intro s
    rw [top_mul x N hl, hmN, hm, exp2_eq_exp (hx s) m]
  simp only [hw]
  have htop : top x n = (m : EReal) := hm
  -- the weights are numbers, not negative
  have hreal : ∀ s, ∃ w : ℝ, 0 ≤ w ∧ Ideal.exp2 (x s - (m : EReal)) = (w : EReal) ∧ (x s ≠ ⊥ → 0 < w) := by
    intro s
    rcases hx s with h | ⟨r, h⟩
    · exact ⟨0, le_refl _, by simp [h, sub_eq_add_neg], fun h' => absurd h h'⟩
    · refine ⟨(2 : ℝ) ^ (r - m), (Real.rpow_pos_of_pos (by norm_num) _).le, ?_, fun _ => Real.rpow_pos_of_pos (by norm_num) _⟩
      rw [h, ← EReal.coe_sub, Ideal.exp2_coe]
      rfl
  choose w hw0 hwe hwp using hreal
  have htailw : ∀ s, n ≤ s → w s = 0 := by
    intro s hs
    have := hwe s
    rw [htail s hs] at this
    have h : (w s : EReal) = ((0 : ℝ) : EReal) := by rw [← this]; simp [sub_eq_add_neg]
    exact_mod_cast h
  have hcut : ∀ f : ℕ → EReal, (∀ s, n ≤ s → f s = 0) → ∑ s ∈ Finset.range N, f s = ∑ s ∈ Finset.range n, f s := by
    intro f hf
    obtain ⟨B, rfl⟩ := Nat.exists_eq_add_of_le hn
    have h : ∑ a : Fin B, f (n + a) = 0 := Finset.sum_eq_zero fun a _ => hf _ (by omega)
    rw [sum_block, h, add_zero]
  have hden : ∑ s ∈ Finset.range n, (w s : EReal) = ((∑ s ∈ Finset.range n, w s : ℝ) : EReal) :=
    (map_sum (⟨⟨Real.toEReal, rfl⟩, EReal.coe_add⟩ : ℝ →+ EReal) w (Finset.range n)).symm
  have hpos : 0 < ∑ s ∈ Finset.range n, w s := by
    obtain ⟨s, hs, h⟩ := h0
    exact Finset.sum_pos' (fun i _ => hw0 i) ⟨s, Finset.mem_range.2 hs, hwp s h⟩
  unfold num den
  rw [htop]
  simp only [hwe]
  have hdenN : ∑ s ∈ Finset.range N, (w s : EReal) = ((∑ s ∈ Finset.range n, w s : ℝ) : EReal) :=
    (hcut _ fun s hs => by rw [htailw s hs]; rfl).trans hden
  rw [hdenN, hden]
  simp only [Ideal.div_coe hpos.ne']
  rw [hcut (fun s => v s * ((w s : EReal) * ((1 / ∑ s ∈ Finset.range n, w s : ℝ) : EReal)))
      (fun s hs => by rw [htailw s hs]; simp), mul_comm,
    mul_sum_of_nonneg _ _ (by exact_mod_cast (one_div_pos.2 hpos).le) (EReal.coe_ne_top _)]
  refine Finset.sum_congr rfl fun s _ => ?_
  rw [mul_comm, mul_assoc]

end Cert.Attention

end
-- ==== Proof.Values.lean ====
/- The kernel's arithmetic at an index: over the extended reals, the running maximum, normaliser and weighted sum of a
query's column are those of the keys seen so far. -/
module

public import proofs.«01_k».proof.Proof.Blocks
public import proofs.«01_k».proof.Proof.Softmax
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Cert.Attention

theorem neg_inf : Ideal.ofBits .f32 0xFF800000#32 = ⊥ := by simp [Ideal.ofBits, Ideal.ieee]

theorem fold_sup {n : ℕ} (f : Fin n → EReal) :
    Finset.fold max (Ideal.ofBits .f32 0xFF800000#32) f Finset.univ = Finset.univ.sup f := by
  rw [neg_inf]; rfl

theorem max_at (c : FVec Ideal S1x512 .f32) (z : Vec Ideal S512x512 .f32) (mx : Vec Ideal S1x512 .f32) (a : Fin 512) :
    k0_pay14 (k0_pay8 c z mx) (ix2 0 a)
      = max (mx (ix2 0 a)) ((Finset.univ.sup fun s : Fin 512 => z (ix2 s a)) + c (ix2 0 a)) := by
  rw [← fold_sup]
  unfold_payloads
  pointwise

theorem sum_at (c : FVec Ideal S1x512 .f32) (z : Vec Ideal S512x512 .f32) (mx l : Vec Ideal S1x512 .f32) (a : Fin 512) :
    k0_pay11 c z mx l (ix2 0 a)
      = Ideal.exp2 (mx (ix2 0 a) - max (mx (ix2 0 a)) ((Finset.univ.sup fun s : Fin 512 => z (ix2 s a)) + c (ix2 0 a))) * l (ix2 0 a)
        + ∑ s : Fin 512, Ideal.exp2 (z (ix2 s a) + (c (ix2 0 a)
            - max (mx (ix2 0 a)) ((Finset.univ.sup fun s : Fin 512 => z (ix2 s a)) + c (ix2 0 a)))) := by
  rw [← fold_sup]
  unfold_payloads
  pointwise
  rfl

theorem acc_at (c : FVec Ideal S1x512 .f32) (z : Vec Ideal S512x512 .f32) (mx : Vec Ideal S1x512 .f32)
    (A : Vec Ideal S128x512 .f32) (vb : Vec Ideal S128x512 .bf16) (d : Fin 128) (a : Fin 512) :
    k0_pay13 (k0_pay9 c z mx) A (k0_pay12 c z mx) vb (ix2 d a)
      = Ideal.exp2 (mx (ix2 0 a) - max (mx (ix2 0 a)) ((Finset.univ.sup fun s : Fin 512 => z (ix2 s a)) + c (ix2 0 a))) * A (ix2 d a)
        + ∑ s : Fin 512, vb (ix2 d s) * Ideal.exp2 (z (ix2 s a) + (c (ix2 0 a)
            - max (mx (ix2 0 a)) ((Finset.univ.sup fun s : Fin 512 => z (ix2 s a)) + c (ix2 0 a)))) := by
  rw [← fold_sup]
  unfold_payloads
  pointwise
  rfl

/-- A block of 512 keys takes the running values of column `a` from `n` keys to `n + 512`. -/
theorem step_at (v31 : Vec Ideal S1x1x512 .f32) (z : Vec Ideal S512x512 .f32) (vb : Vec Ideal S128x512 .bf16) (S : St Ideal)
    (a : Fin 512) (x : ℕ → EReal) (n : ℕ) (c : ℝ) (hc : k0_pay56 v31 (ix2 0 a) = (c : EReal))
    (hz : ∀ s : Fin 512, (z (ix2 s a) : EReal) + (c : EReal) = x (n + s.val))
    (h1 : S.1 (ix2 0 a) = top x n) (h2 : S.2.1 (ix2 0 a) = den x n) :
    (stepS v31 z vb S).1 (ix2 0 a) = top x (n + 512)
      ∧ (stepS v31 z vb S).2.1 (ix2 0 a) = den x (n + 512)
      ∧ ∀ (d : Fin 128) (v : ℕ → EReal), S.2.2 (ix2 d a) = num x v n → (∀ s : Fin 512, vb (ix2 d s) = v (n + s.val)) →
        (stepS v31 z vb S).2.2 (ix2 d a) = num x v (n + 512) := by
  have hm : max (top x n) ((Finset.univ.sup fun s : Fin 512 => (z (ix2 s a) : EReal)) + (c : EReal)) = top x (n + 512) := by
    rw [sup_add, top_block]
    congr 1
    exact Finset.sup_congr rfl fun s _ => hz s
  have he : ∀ (s : Fin 512) (M : EReal), (z (ix2 s a) : EReal) + ((c : EReal) - M) = x (n + s.val) - M := fun s M => by
    rw [← hz s, sub_eq_add_neg, sub_eq_add_neg, add_assoc]
  refine ⟨?_, ?_, fun d v hv hvb => ?_⟩
  · show k0_pay14 (k0_pay8 (k0_pay56 v31) z S.1) (ix2 0 a) = _
    rw [max_at, hc, h1]
    exact hm
  · show k0_pay11 (k0_pay56 v31) z S.1 S.2.1 (ix2 0 a) = _
    rw [sum_at, hc, h1, h2, hm, den_block]
    congr 1
    exact Finset.sum_congr rfl fun s _ => congrArg _ (he s _)
  · show k0_pay13 (k0_pay9 (k0_pay56 v31) z S.1) S.2.2 (k0_pay12 (k0_pay56 v31) z S.1) vb (ix2 d a) = _
    rw [acc_at, hc, h1, hv, hm, num_block]
    congr 1
    exact Finset.sum_congr rfl fun s _ => by rw [hvb s, he s]

theorem start_at (a : Fin 512) (d : Fin 128) :
    (k0_pay53 (F := Ideal) (ix2 0 a) : EReal) = ⊥ ∧ (k0_pay54 (F := Ideal) (ix2 0 a) : EReal) = 0
      ∧ (k0_pay55 (F := Ideal) (ix2 d a) : EReal) = 0 := by
  refine ⟨?_, ?_, ?_⟩
  · unfold_payloads; pointwise; exact neg_inf
  · unfold_payloads; pointwise
  · unfold_payloads; pointwise

/-- After `j` blocks below the diagonal. -/
theorem blocks_at (x8 : Vec Ideal S8192x256 .bf16) (x9 : Vec Ideal S128x8192 .bf16) (x10 : Vec Ideal S512x256 .bf16)
    (v31 : Vec Ideal S1x1x512 .f32) (a : Fin 512) (d : Fin 128) (x v : ℕ → EReal) (c : ℝ)
    (hc : k0_pay56 v31 (ix2 0 a) = (c : EReal)) (k : ℕ)
    (hz : ∀ j < k, ∀ s : Fin 512, (zAt x8 x10 j (ix2 s a) : EReal) + (c : EReal) = x (512 * j + s.val))
    (hv : ∀ j < k, ∀ s : Fin 512, cols x9 (512 * j) (ix2 d s) = v (512 * j + s.val)) :
    (sAt x8 x9 x10 v31 k).1 (ix2 0 a) = top x (512 * k)
      ∧ (sAt x8 x9 x10 v31 k).2.1 (ix2 0 a) = den x (512 * k)
      ∧ (sAt x8 x9 x10 v31 k).2.2 (ix2 d a) = num x v (512 * k) := by
  induction k with
  | zero =>
    obtain ⟨h1, h2, h3⟩ := start_at a d
    refine ⟨h1.trans ?_, h2.trans ?_, h3.trans ?_⟩
    · simp [top]
    · simp [den]
    · simp [num]
  | succ k ih =>
    obtain ⟨h1, h2, h3⟩ := ih (fun j hj => hz j (Nat.lt_succ_of_lt hj)) (fun j hj => hv j (Nat.lt_succ_of_lt hj))
    obtain ⟨g1, g2, g3⟩ := step_at v31 (zAt x8 x10 k) (cols x9 (512 * k)) (sAt x8 x9 x10 v31 k) a x (512 * k) c hc
      (hz k (Nat.lt_succ_self k)) h1 h2
    rw [show 512 * (k + 1) = 512 * k + 512 by omega]
    exact ⟨g1, g2, g3 d v h3 (hv k (Nat.lt_succ_self k))⟩

theorem quotient_at (A : Vec Ideal S128x512 .f32) (l : Vec Ideal S1x512 .f32) (a : Fin 512) (d : Fin 128) :
    k0_pay4 A l (ix2 a d) = Ideal.div (A (ix2 d a)) (l (ix2 0 a)) := by
  unfold_payloads
  pointwise

/-- The mask of the diagonal tile. -/
theorem mask_at (z : Vec Ideal S512x512 .f32) (s a : Fin 512) :
    k0_pay31 z (ix2 s a) = if s.val ≤ a.val then (z (ix2 s a) : EReal) else ⊥ := by
  unfold_payloads
  pointwise
  rw [WordCmp.cmpi_sle_ofNat (by omega) (by omega), neg_inf, WordCmp.select_ofBool]
  simp

/-- The block of the output, column by column. -/
theorem out_at (x8 : Vec Ideal S8192x256 .bf16) (x9 : Vec Ideal S128x8192 .bf16) (x10 : Vec Ideal S512x256 .bf16)
    (v31 : Vec Ideal S1x1x512 .f32) (a : Fin 512) (d : Fin 128) (x v : ℕ → EReal) (c : ℝ)
    (hc : k0_pay56 v31 (ix2 0 a) = (c : EReal)) (n : ℕ)
    (hz : ∀ j < n, ∀ s : Fin 512, (zAt x8 x10 j (ix2 s a) : EReal) + (c : EReal) = x (512 * j + s.val))
    (hd : ∀ s : Fin 512, (if s.val ≤ a.val then (zAt x8 x10 n (ix2 s a) : EReal) else ⊥) + (c : EReal) = x (512 * n + s.val))
    (hv : ∀ j < n + 1, ∀ s : Fin 512, cols x9 (512 * j) (ix2 d s) = v (512 * j + s.val)) :
    outOf x8 x9 x10 v31 n (ix2 a d) = Ideal.div (num x v (512 * n + 512)) (den x (512 * n + 512)) := by
  obtain ⟨h1, h2, h3⟩ := blocks_at x8 x9 x10 v31 a d x v c hc n hz (fun j hj => hv j (Nat.lt_succ_of_lt hj))
  obtain ⟨-, g2, g3⟩ := step_at v31 (k0_pay31 (zAt x8 x10 n)) (cols x9 (512 * n)) (sAt x8 x9 x10 v31 n) a x (512 * n) c hc
    (fun s => by rw [mask_at]; exact hd s) h1 h2
  unfold outOf
  rw [quotient_at, g2, g3 d v h3 (hv n (Nat.lt_succ_self n))]

end Cert.KernelIdeal.Gen

end
-- ==== Proof.Scores.lean ====
/- The score of a key against a query: the product of the laid-out keys and queries at an index. -/
module

public import proofs.«01_k».proof.Proof.Values
public import Idealize.ShloMosaic.PureOps.IdealRules

@[expose] public section

set_option maxRecDepth 16384

noncomputable section

namespace Cert.KernelIdeal.Gen

open Idealize.ShloMosaic Idealize.ShloMosaic.TcCoe Idealize.ShloMosaic.Tactic
open Cert.Attention

/-- The kernel's two constants. -/
theorem log2e : (Named.named (F := Ideal) κ (φ := .f32) "log2e" 0x3FB8AA3B#32 : EReal) = (((Real.log 2)⁻¹ : ℝ) : EReal) :=
  IdealRules.named_const.ideal_named_scalar κ _ _ _ rfl
theorem neg_log2e : (Named.named (F := Ideal) κ (φ := .f32) "neg_log2e" 0xBFB8AA3B#32 : EReal) = ((-((Real.log 2)⁻¹) : ℝ) : EReal) :=
  IdealRules.named_const.ideal_named_scalar κ _ _ _ rfl

theorem gate_at (x : Vec Ideal S1x1x512 .f32) (a : Fin 512) :
    k0_pay56 x (ix2 0 a) = (x (ix3 0 0 a) : EReal) * (((Real.log 2)⁻¹ : ℝ) : EReal) := by
  rw [← log2e]
  unfold_payloads
  pointwise

/-- The laid-out keys: the keys, then the gates' lanes. -/
theorem kaug_at (x1 : Vec Ideal S8192x128 .bf16) (x4 : Vec Ideal S1x8192x1 .f32) (s : Fin 8192) (l : Fin 256) :
    kaugOf x1 x4 (ix2 s l) = if h : l.val < 128 then (x1 (ix2 s ⟨l.val, h⟩) : EReal)
      else k0_pay6 (F := Ideal) (iota .tc S1x128 32 [1] iota_S1x128_d1_w32) x4 (ix2 s ⟨l.val - 128, by omega⟩) := by
  unfold kaugOf kPieces
  canon_tiles x h
  · obtain ⟨u, w, rfl⟩ : ∃ (u : Fin 8192) (w : Fin 128), x = ix2 u w := ⟨x 0, x 1, eq_ix2 x⟩
    obtain rfl : s = u := Fin.ext h0
    have hl : l.val = 128 + w.val := h1
    rw [dif_neg (by omega)]
    exact congrArg (fun b : Fin 128 => k0_pay6 (F := Ideal) (iota .tc S1x128 32 [1] iota_S1x128_d1_w32) x4 (ix2 s b)) (Fin.ext (by simp only; omega))
  · obtain ⟨u, w, rfl⟩ : ∃ (u : Fin 8192) (w : Fin 128), x = ix2 u w := ⟨x 0, x 1, eq_ix2 x⟩
    obtain rfl : s = u := Fin.ext h0
    have hl : l.val = w.val := h1
    rw [dif_pos (by omega)]
    unfold_payloads
    pointwise
    exact congrArg (fun b : Fin 128 => x1 (ix2 s b)) (Fin.ext hl.symm)

theorem qaug_at (x0 : Vec Ideal S512x128 .bf16) (a : Fin 512) (l : Fin 256) :
    qaugOf x0 (ix2 a l) = if h : l.val < 128 then (x0 (ix2 a ⟨l.val, h⟩) : EReal)
      else k0_pay52 (F := Ideal) (ix2 a ⟨l.val - 128, by omega⟩) := by
  unfold qaugOf qPieces
  canon_tiles x h
  · obtain ⟨u, w, rfl⟩ : ∃ (u : Fin 512) (w : Fin 128), x = ix2 u w := ⟨x 0, x 1, eq_ix2 x⟩
    obtain rfl : a = u := Fin.ext h0
    have hl : l.val = 128 + w.val := h1
    rw [dif_neg (by omega)]
    exact congrArg (fun b : Fin 128 => k0_pay52 (F := Ideal) (ix2 a b)) (Fin.ext (by simp only; omega))
  · obtain ⟨u, w, rfl⟩ : ∃ (u : Fin 512) (w : Fin 128), x = ix2 u w := ⟨x 0, x 1, eq_ix2 x⟩
    obtain rfl : a = u := Fin.ext h0
    have hl : l.val = w.val := h1
    rw [dif_pos (by omega)]
    unfold_payloads
    pointwise
    exact congrArg (fun b : Fin 128 => x0 (ix2 a b)) (Fin.ext hl.symm)

theorem lane_0 : ∀ l : Fin 128, IntOp.cmpi .eq (BitVec.ofNat 32 l.val) 0#32 = if l.val = 0 then 1#1 else 0#1 := by decide
theorem lane_1 : ∀ l : Fin 128, IntOp.cmpi .eq (BitVec.ofNat 32 l.val) 1#32 = if l.val = 1 then 1#1 else 0#1 := by decide
theorem lane_2 : ∀ l : Fin 128, IntOp.cmpi .eq (BitVec.ofNat 32 l.val) 2#32 = if l.val = 2 then 1#1 else 0#1 := by decide
theorem lane_3 : ∀ l : Fin 128, IntOp.cmpi .slt (BitVec.ofNat 32 l.val) 3#32 = if l.val < 3 then 1#1 else 0#1 := by decide

/-- The gates' lanes times the ones: the first lane alone counts, the two remainders being zero. -/
theorem lanes_at (x : Vec Ideal S1x8192x1 .f32) (s : Fin 8192) (a : Fin 512) (r : ℝ) (hr : (x (ix3 0 s 0) : EReal) = (r : EReal)) (l : Fin 128) :
    (k0_pay6 (F := Ideal) (iota .tc S1x128 32 [1] iota_S1x128_d1_w32) x (ix2 s l) : EReal) * (k0_pay52 (F := Ideal) (ix2 a l) : EReal)
      = if l = 0 then (r : EReal) * ((-((Real.log 2)⁻¹) : ℝ) : EReal) else 0 := by
  unfold_payloads
  pointwise
  rw [lane_0, lane_1, lane_2, lane_3, hr, neg_log2e]
  rcases Nat.lt_or_ge l.val 3 with h | h
  · have h' : l.val = 0 ∨ l.val = 1 ∨ l.val = 2 := by omega
    rcases h' with h' | h' | h'
    · have : l = 0 := Fin.ext h'
      subst this
      simp [Scalar.select]
    · have : ¬l = 0 := fun e => by subst e; exact absurd h' (by decide)
      simp [Scalar.select, h', this, ← EReal.coe_mul, ← EReal.coe_sub]
    · have : ¬l = 0 := fun e => by subst e; exact absurd h' (by decide)
      simp [Scalar.select, h', this, ← EReal.coe_mul, ← EReal.coe_sub]
  · have : ¬l = 0 := fun e => by subst e; exact absurd h (by decide)
    simp [Scalar.select, this, show ¬l.val = 0 by omega, show ¬l.val = 1 by omega, show ¬l.val = 2 by omega, show ¬l.val < 3 by omega]

theorem lanes_sum (x : Vec Ideal S1x8192x1 .f32) (s : Fin 8192) (a : Fin 512) (r : ℝ) (hr : (x (ix3 0 s 0) : EReal) = (r : EReal)) :
    ∑ l : Fin 128, (k0_pay6 (F := Ideal) (iota .tc S1x128 32 [1] iota_S1x128_d1_w32) x (ix2 s l) : EReal) * (k0_pay52 (F := Ideal) (ix2 a l) : EReal)
      = (r : EReal) * ((-((Real.log 2)⁻¹) : ℝ) : EReal) := by
  rw [Finset.sum_congr rfl fun l _ => lanes_at x s a r hr l]
  exact Fintype.sum_ite_eq' (0 : Fin 128) _

/-- A sum over two halves, each a product. -/
theorem halves (K Q K' Q' : Fin 128 → EReal) :
    ∑ l : Fin 256, (if h : l.val < 128 then K ⟨l.val, h⟩ else K' ⟨l.val - 128, by omega⟩)
        * (if h : l.val < 128 then Q ⟨l.val, h⟩ else Q' ⟨l.val - 128, by omega⟩)
      = ∑ d : Fin 128, K d * Q d + ∑ l : Fin 128, K' l * Q' l := by
  rw [Fin.sum_univ_two_halves 128 128 rfl]
  refine congrArg₂ (· + ·) ?_ ?_
  · exact Finset.sum_congr rfl fun l _ => by simp only [Fin.is_lt, ↓reduceDIte]
  · refine Finset.sum_congr rfl fun l _ => ?_
    have h : ¬(128 + l.val < 128) := by omega
    have e : (⟨128 + l.val - 128, by omega⟩ : Fin 128) = l := Fin.ext (by simp only; omega)
    simp only [h, ↓reduceDIte, e]

/-- The scores' tile: the product of key and query, and the key's gate. -/
theorem z_at (x0 : Vec Ideal S512x128 .bf16) (x1 : Vec Ideal S8192x128 .bf16) (x4 : Vec Ideal S1x8192x1 .f32) (j : ℕ) (s a : Fin 512)
    (k : Fin 8192) (hk : k.val = 512 * j + s.val) (r : ℝ) (hr : (x4 (ix3 0 k 0) : EReal) = (r : EReal)) :
    (zAt (kaugOf x1 x4) (qaugOf x0) j (ix2 s a) : EReal)
      = ∑ d : Fin 128, (x1 (ix2 k d) : EReal) * (x0 (ix2 a d) : EReal) + (r : EReal) * ((-((Real.log 2)⁻¹) : ℝ) : EReal) := by
  have hrow : ∀ l : Fin 256, rows (kaugOf x1 x4) (512 * j) (ix2 s l) = kaugOf x1 x4 (ix2 k l) := fun l => by
    unfold rows
    refine congrArg (kaugOf x1 x4) (congrArg (fun b : Fin 8192 => ix2 b l) (Fin.ext ?_))
    show (512 * j + s.val) % 8192 = k.val
    omega
  have hz : (zAt (kaugOf x1 x4) (qaugOf x0) j (ix2 s a) : EReal)
      = ∑ l : Fin 256, (rows (kaugOf x1 x4) (512 * j) (ix2 s l) : EReal) * (qaugOf x0 (ix2 a l) : EReal) := by
    unfold zAt
    unfold_payloads
    pointwise
  rw [hz, Finset.sum_congr rfl fun l _ => by rw [hrow l, kaug_at, qaug_at], ← lanes_sum x4 k a r hr]
  exact halves (fun d => x1 (ix2 k d)) (fun d => x0 (ix2 a d)) (fun l => k0_pay6 (F := Ideal) (iota .tc S1x128 32 [1] iota_S1x128_d1_w32) x4 (ix2 k l))
    (fun l => k0_pay52 (F := Ideal) (ix2 a l))

end Cert.KernelIdeal.Gen

end
-- ==== Proof.Point.lean ====
/- A block of the kernel's result as a quotient of sums over scores. -/
module

public import proofs.«01_k».proof.Proof.Scores
public import proofs.«01_k».proof.Proof.Blocks

@[expose] public section

set_option maxRecDepth 16384

noncomputable section

namespace Cert.KernelIdeal.Gen

open Idealize.ShloMosaic Idealize.ShloMosaic.TcCoe Idealize.ShloMosaic.Tactic
open Cert.Attention

/-- The score of key `s` against query `t` of head `h`, in powers of two. -/
def score (q : Vec Ideal S8192x2048 .bf16) (kv : Vec Ideal S8192x4096 .bf16) (cum : Vec Ideal S8192x16 .f32)
    (h : Fin 16) (t : Fin 8192) (s : ℕ) : EReal :=
  if hs : s ≤ t.val then
    (∑ d : Fin 128, (kv (ix2 ⟨s, by omega⟩ ⟨128 * h.val + d.val, by omega⟩) : EReal) * (q (ix2 t ⟨128 * h.val + d.val, by omega⟩) : EReal)
      + (cum (ix2 ⟨s, by omega⟩ h) : EReal) * ((-((Real.log 2)⁻¹) : ℝ) : EReal)) + (cum (ix2 t h) : EReal) * (((Real.log 2)⁻¹ : ℝ) : EReal)
  else ⊥

/-- Column `j` of the values, by the key. -/
def value (kv : Vec Ideal S8192x4096 .bf16) (j : Fin 2048) (s : ℕ) : EReal :=
  if hs : s < 8192 then (kv (ix2 ⟨s, hs⟩ ⟨2048 + j.val, by omega⟩) : EReal) else 0

theorem vals_at (x2 : Vec Ideal S8192x128 .bf16) (d : Fin 128) (s : Fin 8192) : k0_pay50 x2 (ix2 d s) = (x2 (ix2 s d) : EReal) := by
  unfold_payloads
  pointwise

variable (m : (ℓ : Loc nD τ sig) → Buf (Elt Ideal) ℓ)

/-- The arguments: the queries, the keys and values, and the summed log gates. -/
abbrev queries (c : Dev nD) : Vec Ideal S8192x2048 .bf16 := m ((c : Thread nD τ).loc main_arg0)
abbrev keysvals (c : Dev nD) : Vec Ideal S8192x4096 .bf16 := m ((c : Thread nD τ).loc main_arg1)
abbrev gates (c : Dev nD) : Vec Ideal S8192x16 .f32 := m ((c : Thread nD τ).loc main_arg2)

/-- The scores a point reads, from the arguments. -/
theorem z_block (c : Dev nD) (t : Fin cfg0.N) (T : Fin 8192) (h : Fin 16) (a : Fin 512)
    (hT : T.val = 512 * (t.val % 16) + a.val) (hh : h.val = t.val / 16)
    (hc : ∀ s : Fin 8192, ∃ r : ℝ, (gates m c (ix2 s h) : EReal) = r)
    (j : ℕ) (s : Fin 512) (hj : 512 * j + s.val ≤ T.val) (L : EReal)
    (hL : L = (gates m c (ix2 T h) : EReal) * (((Real.log 2)⁻¹ : ℝ) : EReal)) :
    zAt (keysAt m c t.val t.isLt) (qaugOf (iblk m c 0 t)) j (ix2 s a) + L
      = score (queries m c) (keysvals m c) (gates m c) h T (512 * j + s.val) := by
  have ht := pt_lt t
  have hlt : 512 * j + s.val < 8192 := by have := T.isLt; omega
  obtain ⟨r, hr⟩ := hc ⟨512 * j + s.val, hlt⟩
  have hf : (firstPt t.val t.isLt).val / 16 = h.val := by
    show t.val / 16 * 16 / 16 = h.val
    omega
  have hg : iblk m c 4 (firstPt t.val t.isLt) (ix3 0 ⟨512 * j + s.val, hlt⟩ 0) = (r : EReal) := by
    rw [ck_block]
    exact (congrArg (fun k : Fin 16 => gates m c (ix2 ⟨512 * j + s.val, hlt⟩ k)) (Fin.ext hf)).trans hr
  unfold keysAt
  rw [z_at _ _ _ j s a ⟨512 * j + s.val, hlt⟩ rfl r hg, hL]
  unfold score
  rw [dif_pos hj, ← hr]
  refine congrArg₂ (· + ·) (congrArg₂ (· + ·) (Finset.sum_congr rfl fun d _ => ?_) rfl) rfl
  rw [k_block, q_block]
  refine congrArg₂ (· * ·) ?_ ?_
  · exact congrArg (fun k : Fin 4096 => keysvals m c (ix2 ⟨512 * j + s.val, hlt⟩ k)) (Fin.ext (by simp only [hf]))
  · exact congrArg₂ (fun (k : Fin 8192) (l : Fin 2048) => queries m c (ix2 k l)) (Fin.ext hT.symm) (Fin.ext (by simp only [hh]))

/-- An element of a point's block. -/
theorem point_at (c : Dev nD) (t : Fin cfg0.N) (T : Fin 8192) (J : Fin 2048) (h : Fin 16) (a : Fin 512) (d : Fin 128)
    (hT : T.val = 512 * (t.val % 16) + a.val) (hJ : J.val = 128 * (t.val / 16) + d.val) (hh : h.val = t.val / 16)
    (hc : ∀ s : Fin 8192, ∃ r : ℝ, (gates m c (ix2 s h) : EReal) = r) :
    outAt m c t (ix2 a d)
      = Ideal.div (num (score (queries m c) (keysvals m c) (gates m c) h T)
            (value (keysvals m c) J) (512 * (t.val % 16) + 512))
          (den (score (queries m c) (keysvals m c) (gates m c) h T)
            (512 * (t.val % 16) + 512)) := by
  have ht := pt_lt t
  obtain ⟨r, hr⟩ := hc T
  have hL : ((r * (Real.log 2)⁻¹ : ℝ) : EReal) = (gates m c (ix2 T h) : EReal) * (((Real.log 2)⁻¹ : ℝ) : EReal) := by
    rw [hr, EReal.coe_mul]
  unfold outAt
  rw [coord_1]
  refine out_at _ _ _ _ a d _ _ (r * (Real.log 2)⁻¹) ?_ _ ?_ ?_ ?_
  · rw [gate_at, cq_block, hL]
    exact congrArg₂ (fun (k : Fin 8192) (l : Fin 16) => (gates m c (ix2 k l) : EReal) * (((Real.log 2)⁻¹ : ℝ) : EReal))
      (Fin.ext hT.symm) (Fin.ext hh.symm)
  · intro j hj s
    exact z_block m c t T h a hT hh hc j s (by omega) _ hL
  · intro s
    by_cases hs : s.val ≤ a.val
    · rw [if_pos hs]
      exact z_block m c t T h a hT hh hc _ s (by omega) _ hL
    · rw [if_neg hs]
      unfold score
      rw [dif_neg (by omega), EReal.bot_add]
  · intro j hj s
    have hlt : 512 * j + s.val < 8192 := by omega
    unfold value cols valsAt
    rw [dif_pos hlt]
    have e : (ix2 (d : Fin 128) (⟨(512 * j + s.val) % 8192, Nat.mod_lt _ (by norm_num)⟩ : Fin 8192) : S128x8192.Idx) = ix2 d ⟨512 * j + s.val, hlt⟩ :=
      congrArg (fun k : Fin 8192 => (ix2 d k : S128x8192.Idx)) (Fin.ext (Nat.mod_eq_of_lt hlt))
    refine (congrArg (k0_pay50 (iblk m c 2 (firstPt t.val t.isLt))) e).trans ?_
    rw [vals_at, v_block]
    have hf : (firstPt t.val t.isLt).val / 16 = t.val / 16 := by
      show t.val / 16 * 16 / 16 = t.val / 16
      omega
    exact congrArg (fun k : Fin 4096 => keysvals m c (ix2 ⟨512 * j + s.val, hlt⟩ k)) (Fin.ext (by simp only [hf, hJ]; omega))

end Cert.KernelIdeal.Gen

end
-- ==== Proof.Finite.lean ====
/- What the precondition says: the queries, the keys and the gates are real numbers. -/
module

public import proofs.«01_k».proof.Proof.Gen.Pre_finite
public import Idealize.ShloMosaic.Lib.Pointwise
public import Idealize.ShloMosaic.Lib.WordCmp
public import Idealize.ShloMosaic.PureOps.Ideal

@[expose] public section

set_option maxRecDepth 16384

noncomputable section

namespace Cert.Pre_finite.Gen

open Cert.Pre_finite Idealize.ShloMosaic Idealize.ShloMosaic.TcCoe

variable (x0 : Vec Ideal S8192x2048 .bf16) (x1 : Vec Ideal S8192x4096 .bf16) (x2 : Vec Ideal S8192x16 .f32)

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

/-- An element of absolute value below `⊤` is a real number. -/
theorem real_of_abs {x : EReal} (h : max x (-x) < ⊤) : ∃ r : ℝ, x = (r : EReal) := by
  induction x with
  | bot => simp at h
  | top => simp at h
  | coe r => exact ⟨r, rfl⟩

theorem bits_and : ∀ a b c : Bool, IntOp.andi (IntOp.andi (BitVec.ofBool a) (BitVec.ofBool b)) (BitVec.ofBool c) = 1#1 → a = true ∧ b = true ∧ c = true := by
  decide

/-- The precondition at an index. -/
theorem fn_at (t : Fin 8192) (j : Fin 2048) (h : Cert.Pre_finite.fn (F := Ideal) x0 x1 x2 (ix2 t j) = 1#1) :
    (∃ r : ℝ, (x0 (ix2 t j) : EReal) = r) ∧ (∃ r : ℝ, (x1 (ix2 t ⟨j.val, by omega⟩) : EReal) = r)
      ∧ ∃ r : ℝ, (x2 (ix2 t ⟨j.val / 128, by omega⟩) : EReal) = r := by
  have e : Cert.Pre_finite.fn (F := Ideal) x0 x1 x2 (ix2 t j)
      = IntOp.andi (IntOp.andi (BitVec.ofBool (decide (max (x0 (ix2 t j) : EReal) (-(x0 (ix2 t j) : EReal)) < Ideal.ofBits .bf16 0x7F80#16)))
        (BitVec.ofBool (decide (max (x1 (ix2 t ⟨j.val, by omega⟩) : EReal) (-(x1 (ix2 t ⟨j.val, by omega⟩) : EReal)) < Ideal.ofBits .bf16 0x7F80#16))))
        (BitVec.ofBool (decide (max (x2 (ix2 t ⟨j.val / 128, by omega⟩) : EReal) (-(x2 (ix2 t ⟨j.val / 128, by omega⟩) : EReal)) < Ideal.ofBits .f32 0x7F800000#32))) := by
    pointwise [Cert.Pre_finite.fn]
    rfl
  rw [e] at h
  obtain ⟨h0, h1, h2⟩ := bits_and _ _ _ h
  rw [decide_eq_true_eq, inf_bf16] at h0 h1
  rw [decide_eq_true_eq, inf_f32] at h2
  exact ⟨real_of_abs h0, real_of_abs h1, real_of_abs h2⟩

variable {x0 x1 x2} (h : Cert.Pre_finite.fn (F := Ideal) x0 x1 x2 = fun _ => 1#1)
include h

theorem queries_real (t : Fin 8192) (j : Fin 2048) : ∃ r : ℝ, (x0 (ix2 t j) : EReal) = r :=
  (fn_at x0 x1 x2 t j (congrFun h _)).1

theorem keys_real (t : Fin 8192) (j : Fin 4096) (hj : j.val < 2048) : ∃ r : ℝ, (x1 (ix2 t j) : EReal) = r :=
  (fn_at x0 x1 x2 t ⟨j.val, hj⟩ (congrFun h _)).2.1

theorem gates_real (t : Fin 8192) (j : Fin 16) : ∃ r : ℝ, (x2 (ix2 t j) : EReal) = r := by
  have e := (fn_at x0 x1 x2 t ⟨j.val * 128, by omega⟩ (congrFun h _)).2.2
  have hj : (⟨j.val * 128 / 128, by omega⟩ : Fin 16) = j := Fin.ext (by simp)
  rwa [hj] at e

end Cert.Pre_finite.Gen

end
-- ==== Proof.Ref.lean ====
/- The reference at an index: softmax attention, key by key. -/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.TcCoe

variable (x0 : Vec Ideal S8192x2048 .bf16) (x1 : Vec Ideal S8192x4096 .bf16) (x2 : Vec Ideal S8192x16 .f32)

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee]
  rw [← EReal.coe_mul]
  norm_num

/-- The logit of key `s` against query `t` of head `h`. -/
def logit (h : Fin 16) (t s : Fin 8192) : EReal :=
  if s.val ≤ t.val then
    (∑ d : Fin 128, (x0 (ix2 t ⟨h.val * 128 + d.val, by omega⟩) : EReal) * (x1 (ix2 s ⟨h.val * 128 + d.val, by omega⟩) : EReal))
        * ((Real.log 2 : ℝ) : EReal) + (x2 (ix2 t h) : EReal) - (x2 (ix2 s h) : EReal)
  else ⊥

theorem logit_at (h : Fin 16) (t s : Fin 8192) : val_main_v26 (F := Ideal) x0 x1 x2 (ix3 h t s) = logit x0 x1 x2 h t s := by
  pointwise [val_main_v26, val_main_call0_v1, val_main_call0_v2, val_main_call0_v0, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v4, val_main_v3, val_main_v2, val_main_v1, val_main_v0, val_main_cst, val_main_cst_0]
  rw [WordCmp.cmpi_sle_ofNat (by omega) (by omega), WordCmp.select_ofBool, show id (constant (F := Ideal) S_ .f32 0xFF800000#32) ix0 = (⊥ : EReal) from neg_inf, two, Ideal.log_coe]
  unfold logit
  simp only [decide_eq_true_eq, show ¬((2 : ℝ) ≤ 0) by norm_num, if_false]

theorem reduces_last : S16x8192x8192.Reduces [2] S16x8192 := by decide

/-- A maximum along one axis, from `⊥`. -/
theorem sup_axis {s t u : Shape} {a : Fin s.rank} (y : s.Idx → EReal) (init : u.Idx → EReal) (h' : s.ReducesTo [a] t) (h : s.Reduces [a] t)
    (hu : 0 < u.numel) (j : t.Idx) (hi : init (Shape.Idx.first hu) = ⊥) :
    Host.reduce (FloatOps.maximumf (F := Ideal) (φ := .f32)) y init h' hu j
      = (Finset.univ : Finset (Fin (s.size a))).sup (y ∘ h.lift j) := by
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  have e := Host.reduce_eq_fold_single (FloatOps.maximumf (F := Ideal) (φ := .f32)) y init h' h hu j
  rw [hi] at e
  exact e

/-- The maximum along the keys. -/
theorem sup_at (y : Vec Ideal S16x8192x8192 .f32) (h : Fin 16) (t : Fin 8192) :
    Host.reduce (FloatOps.maximumf (F := Ideal) (φ := .f32)) y (constant S_ .f32 0xFF800000#32) reducesTo_S16x8192x8192_S16x8192_d2 h_S_ (ix2 h t)
      = Finset.univ.sup fun s : Fin 8192 => (y (ix3 h t s) : EReal) := by
  rw [sup_axis y _ reducesTo_S16x8192x8192_S16x8192_d2 reduces_last h_S_ (ix2 h t) neg_inf]
  refine Finset.sup_congr rfl fun s _ => ?_
  exact congrArg y (funext fun a => Fin.ext (by match a with | ⟨0, _⟩ => rfl | ⟨1, _⟩ => rfl | ⟨2, _⟩ => rfl))

theorem reduced (i : S16x8192.Idx) : val_main_v27 (F := Ideal) x0 x1 x2 i
    = Host.reduce (FloatOps.maximumf (F := Ideal) (φ := .f32)) (val_main_v26 (F := Ideal) x0 x1 x2) (constant S_ .f32 0xFF800000#32)
        reducesTo_S16x8192x8192_S16x8192_d2 h_S_ i := by
  unfold val_main_v27 val_main_cst_1
  exact rfl

theorem floor_max (y : FVec Ideal S16x8192 .f32) (i : S16x8192.Idx) : maximumf (val_main_v28 (F := Ideal)) y i = y i := by
  have h : val_main_v28 (F := Ideal) i = (⊥ : EReal) := by
    rw [val_main_v28_apply, val_main_cst_2_apply]
    exact neg_inf
  have e : maximumf (val_main_v28 (F := Ideal)) y i = max (val_main_v28 (F := Ideal) i : EReal) (y i) := rfl
  rw [e, h]
  exact max_eq_right bot_le

theorem floor_at (i : S16x8192.Idx) : val_main_v29 (F := Ideal) x0 x1 x2 i = val_main_v27 (F := Ideal) x0 x1 x2 i := by
  unfold val_main_v29
  exact floor_max _ i

theorem top_at (h : Fin 16) (t : Fin 8192) :
    val_main_v29 (F := Ideal) x0 x1 x2 (ix2 h t) = Finset.univ.sup fun s : Fin 8192 => logit x0 x1 x2 h t s := by
  have e : val_main_v27 (F := Ideal) x0 x1 x2 (ix2 h t) = Finset.univ.sup fun s : Fin 8192 => logit x0 x1 x2 h t s := by
    refine (reduced x0 x1 x2 (ix2 h t)).trans ((sup_at (val_main_v26 (F := Ideal) x0 x1 x2) h t).trans ?_)
    exact Finset.sup_congr rfl fun s _ => logit_at x0 x1 x2 h t s
  rw [← e]
  exact floor_at x0 x1 x2 (ix2 h t)

theorem weight_at (h : Fin 16) (t s : Fin 8192) : val_main_v37 (F := Ideal) x0 x1 x2 (ix3 h t s)
    = Ideal.div (Ideal.exp (logit x0 x1 x2 h t s - Finset.univ.sup fun s : Fin 8192 => logit x0 x1 x2 h t s))
        (∑ s : Fin 8192, Ideal.exp (logit x0 x1 x2 h t s - Finset.univ.sup fun s : Fin 8192 => logit x0 x1 x2 h t s)) := by
  rw [← top_at]
  simp only [← logit_at]
  pointwise [val_main_v37, val_main_v36, val_main_v35, val_main_v34, val_main_v33, val_main_v32, val_main_v31, val_main_v30, val_main_cst_3]

/-- The reference's result. -/
theorem ref_at (t : Fin 8192) (j : Fin 2048) (h : Fin 16) (hh : h.val = j.val / 128) : val_main_v41 (F := Ideal) x0 x1 x2 (ix2 t j)
    = ∑ s : Fin 8192, (x1 (ix2 s ⟨2048 + j.val, by omega⟩) : EReal)
        * Ideal.div (Ideal.exp (logit x0 x1 x2 h t s - Finset.univ.sup fun s : Fin 8192 => logit x0 x1 x2 h t s))
        (∑ s : Fin 8192, Ideal.exp (logit x0 x1 x2 h t s - Finset.univ.sup fun s : Fin 8192 => logit x0 x1 x2 h t s)) := by
  simp only [← weight_at]
  have e : h = ⟨j.val / 128, by omega⟩ := Fin.ext hh
  rw [e]
  pointwise [val_main_v41, val_main_v40, val_main_v39, val_main_v38, val_main_v5, val_main_v6, val_main_v7]

end Cert.ReferenceIdeal.Read

end
-- ==== Proof.Equal.lean ====
/- The kernel's result is the reference's: the online softmax in powers of two against the softmax of the logits. -/
module

public import proofs.«01_k».proof.Proof.Point
public import proofs.«01_k».proof.Proof.Finite
public import proofs.«01_k».proof.Proof.Ref

@[expose] public section

set_option maxRecDepth 16384

noncomputable section

namespace Cert.KernelIdeal.Gen

open Idealize.ShloMosaic Idealize.ShloMosaic.TcCoe Idealize.ShloMosaic.Tactic
open Cert.Attention Cert.ReferenceIdeal.Read

theorem coe_sum {n : ℕ} (f : Fin n → ℝ) : ((∑ i, f i : ℝ) : EReal) = ∑ i, (f i : EReal) := by
  classical
  have h : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact h Finset.univ

theorem log_two_pos : 0 < Real.log 2 := Real.log_pos (by norm_num)

/-- A score is a logit over `log 2`. -/
theorem mul_log {n : ℕ} (k q : Fin n → ℝ) (cs ct : ℝ) :
    ((∑ d, k d * q d + cs * (-((Real.log 2)⁻¹)) + ct * (Real.log 2)⁻¹) * Real.log 2) = (∑ d, q d * k d) * Real.log 2 + ct - cs := by
  have h := log_two_pos.ne'
  rw [Finset.sum_congr rfl fun d _ => mul_comm (k d) (q d)]
  field_simp
  ring

variable {q : Vec Ideal S8192x2048 .bf16} {kv : Vec Ideal S8192x4096 .bf16} {cum : Vec Ideal S8192x16 .f32}
  (pre : Cert.Pre_finite.fn (F := Ideal) q kv cum = fun _ => 1#1)
include pre

/-- A score that counts is a real number, and the logit is its product with `log 2`. -/
theorem score_real (h : Fin 16) (t s : Fin 8192) (hs : s.val ≤ t.val) :
    ∃ r : ℝ, score q kv cum h t s.val = (r : EReal) ∧ logit q kv cum h t s = ((r * Real.log 2 : ℝ) : EReal) := by
  choose fq hq using fun d : Fin 128 => Cert.Pre_finite.Gen.queries_real pre t ⟨128 * h.val + d.val, by omega⟩
  choose fk hk using fun d : Fin 128 => Cert.Pre_finite.Gen.keys_real pre s ⟨128 * h.val + d.val, by omega⟩ (by simp only; omega)
  obtain ⟨cs, hcs⟩ := Cert.Pre_finite.Gen.gates_real pre s h
  obtain ⟨ct, hct⟩ := Cert.Pre_finite.Gen.gates_real pre t h
  refine ⟨∑ d, fk d * fq d + cs * (-((Real.log 2)⁻¹)) + ct * (Real.log 2)⁻¹, ?_, ?_⟩
  · unfold score
    rw [dif_pos hs, hct]
    simp only [Fin.eta]
    rw [hcs, EReal.coe_add, EReal.coe_add, EReal.coe_mul, EReal.coe_mul, coe_sum]
    refine congrArg₂ (· + ·) (congrArg₂ (· + ·) (Finset.sum_congr rfl fun d _ => ?_) rfl) rfl
    rw [hk, hq, EReal.coe_mul]
  · unfold logit
    rw [if_pos hs, hct, hcs, mul_log, EReal.coe_sub, EReal.coe_add, EReal.coe_mul, coe_sum]
    refine congrArg₂ (· - ·) (congrArg₂ (· + ·) (congrArg (· * ((Real.log 2 : ℝ) : EReal)) (Finset.sum_congr rfl fun d _ => ?_)) rfl) rfl
    rw [EReal.coe_mul, ← hk, ← hq]
    exact congrArg₂ (fun (a : Fin 2048) (b : Fin 4096) => (q (ix2 t a) : EReal) * (kv (ix2 s b) : EReal))
      (Fin.ext (by simp only; omega)) (Fin.ext (by simp only; omega))

theorem score_logit (h : Fin 16) (t s : Fin 8192) :
    score q kv cum h t s.val * ((Real.log 2 : ℝ) : EReal) = logit q kv cum h t s := by
  by_cases hs : s.val ≤ t.val
  · obtain ⟨r, h0, h1⟩ := score_real pre h t s hs
    rw [h0, h1, EReal.coe_mul]
  · unfold score logit
    rw [dif_neg hs, if_neg hs]
    exact EReal.bot_mul_coe_of_pos log_two_pos

/-- The quotient of the online sums is the reference's element. -/
theorem quotient_eq (T : Fin 8192) (J : Fin 2048) (h : Fin 16) (hh : h.val = J.val / 128) (n : ℕ) (hT : T.val < n) (hn : n ≤ 8192) :
    Ideal.div (num (score q kv cum h T) (value kv J) n) (den (score q kv cum h T) n)
      = val_main_v41 (F := Ideal) q kv cum (ix2 T J) := by
  have real : ∀ s, Logit (score q kv cum h T s) := by
    intro s
    by_cases hs : s ≤ T.val
    · obtain ⟨r, h0, -⟩ := score_real pre h T ⟨s, by omega⟩ hs
      exact Or.inr ⟨r, h0⟩
    · refine Or.inl ?_
      unfold score
      rw [dif_neg hs]
  have first : ∃ s < n, score q kv cum h T s ≠ ⊥ := by
    obtain ⟨r, h0, -⟩ := score_real pre h T ⟨0, by omega⟩ (Nat.zero_le _)
    exact ⟨0, by omega, fun e => EReal.coe_ne_bot r (h0.symm.trans e)⟩
  have tail : ∀ s, n ≤ s → score q kv cum h T s = ⊥ := by
    intro s hs
    unfold score
    rw [dif_neg (by omega)]
  rw [softmax_eq (N := 8192) hn real first tail, ref_at q kv cum T J h hh]
  have top : ((Finset.range 8192).sup fun s => score q kv cum h T s * ((Real.log 2 : ℝ) : EReal))
      = Finset.univ.sup fun s : Fin 8192 => logit q kv cum h T s := by
    refine le_antisymm (Finset.sup_le fun s hs => ?_) (Finset.sup_le fun s _ => ?_)
    · have := Finset.mem_range.1 hs
      rw [score_logit pre h T ⟨s, this⟩]
      exact Finset.le_sup (f := fun s : Fin 8192 => logit q kv cum h T s) (Finset.mem_univ _)
    · rw [← score_logit pre h T s]
      exact Finset.le_sup (f := fun s => score q kv cum h T s * ((Real.log 2 : ℝ) : EReal)) (Finset.mem_range.2 s.isLt)
  rw [top, Finset.sum_range, Finset.sum_range]
  simp only [score_logit pre]
  refine Finset.sum_congr rfl fun s _ => congrArg (· * _) ?_
  unfold value
  rw [dif_pos s.isLt]

omit pre in
/-- The result array is the reference's. -/
theorem result_ref (m : (ℓ : Loc nD τ sig) → Buf (Elt Ideal) ℓ) (c : Dev nD)
    (pre : Cert.Pre_finite.fn (F := Ideal) (queries m c) (keysvals m c) (gates m c) = fun _ => 1#1) :
    result m c = val_main_v41 (F := Ideal) (queries m c) (keysvals m c) (gates m c) := by
  funext i
  obtain ⟨T, J, rfl⟩ : ∃ (T : Fin 8192) (J : Fin 2048), i = ix2 T J := ⟨i 0, i 1, eq_ix2 i⟩
  have e : (ptOf (ix2 T J)).val = J.val / 128 * 16 + T.val / 512 := rfl
  rw [result_at m c (ix2 T J) (ptOf (ix2 T J)) ⟨T.val % 512, by omega⟩ ⟨J.val % 128, by omega⟩
    (by show T.val = _; rw [e]; simp only; omega) (by show J.val = _; rw [e]; simp only; omega)]
  rw [point_at m c _ T J ⟨J.val / 128, by omega⟩ _ _ (by rw [e]; simp only; omega) (by rw [e]; simp only; omega)
    (by rw [e]; simp only; omega) (fun s => Cert.Pre_finite.Gen.gates_real pre s _)]
  exact quotient_eq pre T J _ rfl _ (by rw [e]; omega) (by omega)

end Cert.KernelIdeal.Gen

end
-- ==== Proof.Norm.lean ====
/- A row of 2048 numbers over its root mean square, as the kernels and the references compute it. -/
module

public import Idealize.ShloMosaic.Lib.Pipeline.Value
public import Idealize.ShloMosaic.Lib.Pipeline.ValueKit
public import Idealize.ShloMosaic.Lib.Pointwise
public import Idealize.ShloMosaic.PureOps.Ideal.Laws

@[expose] public section

noncomputable section

namespace Cert.Norm

open Idealize.ShloMosaic

/-- One over the root mean square of a row. -/
def scale (x : Fin 2048 → EReal) : EReal :=
  Ideal.rsqrt (Ideal.div (∑ k : Fin 2048, x k * x k) (Ideal.ofBits .f32 0x45000000#32) + Ideal.ofBits .f32 0x358637BD#32)

/-- The row over its root mean square, times the weights. -/
def normed (x w : Fin 2048 → EReal) (k : Fin 2048) : EReal := x k * scale x * w k

/-- What is set anew at every `p`-th point and kept at the others is, at every point, a value that changes only there. -/
theorem carried {α : Type} {N p : ℕ} (s : (n : ℕ) → n < N → α) (f : Fin N → α)
    (anew : ∀ t : Fin N, t.val % p = 0 → s t.val t.isLt = f t)
    (kept : ∀ (n : ℕ) (h : n + 1 < N), ¬(n + 1) % p = 0 → s (n + 1) h = s n (Nat.lt_of_succ_lt h))
    (same : ∀ (n : ℕ) (h : n + 1 < N), ¬(n + 1) % p = 0 → f ⟨n + 1, h⟩ = f ⟨n, Nat.lt_of_succ_lt h⟩) :
    ∀ (n : ℕ) (h : n < N), s n h = f ⟨n, h⟩
  | 0, h => anew ⟨0, h⟩ (Nat.zero_mod p)
  | n + 1, h => by
      by_cases e : (n + 1) % p = 0
      · exact anew ⟨n + 1, h⟩ e
      · rw [kept n h e, same n h e]
        exact carried s f anew kept same n (Nat.lt_of_succ_lt h)

theorem off2 : (![0, 0] : Fin 2 → Nat) = fun _ => 0 := funext fun a => by fin_cases a <;> rfl

end Cert.Norm

end
-- ==== Proof.Final.lean ====
/- The final norm: every block holds the norm of its rows, and so does the reference's result. -/
module

public import proofs.«01_k».proof.Defs
public import proofs.«01_k».proof.Proof.Norm
public import proofs.«01_k».proof.Proof.Gen.FinalIdeal.Value
public import proofs.«01_k».proof.Proof.Gen.FinalReferenceIdeal.Read

@[expose] public section

set_option maxRecDepth 16384

noncomputable section

namespace Cert.FinalReferenceIdeal.Read

open Cert.FinalReferenceIdeal Cert.FinalReferenceIdeal.Gen Idealize.ShloMosaic Idealize.ShloMosaic.TcCoe

/-- The reference at an index. -/
theorem result_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.FinalReferenceIdeal.Read

namespace Cert.FinalIdeal.Gen

open Cert.FinalIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

theorem pt_lt (t : Fin cfg0.N) : t.val < 16 := lt_of_lt_of_eq t.isLt N_0

abbrev states (c : Dev nD) : Vec Ideal S8192x2048 .f32 := m ((c : Thread nD τ).loc main_arg0)
abbrev weights (c : Dev nD) : Vec Ideal S2048 .f32 := m ((c : Thread nD τ).loc main_arg1)

theorem x_block (c : Dev nD) (t : Fin cfg0.N) (a : Fin 512) (k : Fin 2048) :
    iblk m c 0 t (ix2 a k) = states m c (ix2 ⟨512 * t.val + a.val, by have := pt_lt t; omega⟩ k) := by
  have := pt_lt t
  blk_ext [iblk, V, index_0 t]

theorem w_block (c : Dev nD) (t : Fin cfg0.N) (k : Fin 2048) : iblk m c 1 t (ix2 0 k) = weights m c (ix1 k) := by
  have := pt_lt t
  blk_simp [iblk, index_1 t]
  entry_read
  pointwise
  blk_ext [index_1 t]

theorem out_eq (x : Vec Ideal S512x2048 .f32) (w : Vec Ideal S1x2048 .f32) : out0_2 x w = k0_pay1 x w := by
  unfold out0_2
  rw [View.canon_unit_zero Norm.off2, View.ld_unit_zero Norm.off2, View.ld_unit_zero Norm.off2]

theorem out_at (x : Vec Ideal S512x2048 .f32) (w : Vec Ideal S1x2048 .f32) (a : Fin 512) (d : Fin 2048) :
    k0_pay1 x w (ix2 a d) = Norm.normed (fun k => x (ix2 a k)) (fun k => w (ix2 0 k)) d := by
  unfold_payloads
  pointwise
  rfl

/-- The result array. -/
theorem result_eq (c : Dev nD) : (dats m 0 c).arrAt 2 (cfgs 0).N = Cert.FinalReferenceIdeal.Read.val_main_v12 (F := Ideal) (states m c) (weights m c) := by
  refine (dats m 0 c).arrAt_eq_of_covers 2 _ (by decide +kernel) fun t hf y => ?_
  have := pt_lt t
  blk_simp
  rw [after0_2, out_eq]
  idx_vars y
  have e : ((cfg0.win 2).blk t).view.emb (ix2 y0 y1) = ix2 ⟨512 * t.val + y0.val, by omega⟩ y1 := by
    blk_ext [index_2 t]
  rw [out_at, e, Cert.FinalReferenceIdeal.Read.result_at]
  simp only [x_block, w_block]

/-- The kernel and the reference leave the same result. -/
theorem equal : Cert.algebraic_FinalIdeal_FinalReferenceIdeal (hFinalIdeal := Cert.FinalIdeal.Gen.facts)
    (hFinalReferenceIdeal := Cert.FinalReferenceIdeal.Gen.facts) := by
  intro m g m' g' _ same
  refine ⟨_, (θ_run defs _ _).mono (fun r h c => ⟨(h c).1.trans (result_eq m c), (h c).2⟩) (Value.run_blocks m g), ?_⟩
  refine (θ_run Cert.FinalReferenceIdeal.defs _ _).mono (fun r h c => ⟨(h c).1.trans ?_, (h c).2⟩) (Cert.FinalReferenceIdeal.Value.run (F := Ideal) m' g')
  rw [Cert.FinalReferenceIdeal.Read.val_main_v12_eq, (same c).1, (same c).2]

end Cert.FinalIdeal.Gen

end
-- ==== Proof.MixerOut.lean ====
/- The mixer's output projection: every block of the result is the residual's block plus a product of whole rows. -/
module

public import proofs.«01_k».proof.Defs
public import proofs.«01_k».proof.Proof.Norm
public import proofs.«01_k».proof.Proof.Gen.MixerOutIdeal.Value
public import proofs.«01_k».proof.Proof.Gen.MixerOutReferenceIdeal.Read

@[expose] public section

set_option maxRecDepth 16384

noncomputable section

namespace Cert.MixerOutReferenceIdeal.Read

open Cert.MixerOutReferenceIdeal Cert.MixerOutReferenceIdeal.Gen Idealize.ShloMosaic Idealize.ShloMosaic.TcCoe

/-- The reference at an index. -/
theorem result_at (y : Vec Ideal S8192x4096 .bf16) (w : Vec Ideal S4096x2048 .f32) (h : Vec Ideal S8192x2048 .f32) (a : Fin 8192) (d : Fin 2048) :
    val_main_v2 (F := Ideal) y w h (ix2 a d) = (h (ix2 a d) : EReal) + ∑ k : Fin 4096, (y (ix2 a k) : EReal) * (w (ix2 k d) : EReal) := by
  pointwise [val_main_v2, val_main_v1, val_main_v0]

end Cert.MixerOutReferenceIdeal.Read

namespace Cert.MixerOutIdeal.Gen

open Cert.MixerOutIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 4, 0] := by decide +kernel
theorem index_1 : ∀ t : Fin cfg0.N, win0_1.index t = ![0, t.val % 4] := by decide +kernel
theorem index_2 : ∀ t : Fin cfg0.N, win0_2.index t = ![t.val / 4, t.val % 4] := by decide +kernel
theorem index_3 : ∀ t : Fin cfg0.N, win0_3.index t = ![t.val / 4, t.val % 4] := by decide +kernel

theorem pt_lt (t : Fin cfg0.N) : t.val < 64 := lt_of_lt_of_eq t.isLt N_0

abbrev inner (c : Dev nD) : Vec Ideal S8192x4096 .bf16 := m ((c : Thread nD τ).loc main_arg0)
abbrev weights (c : Dev nD) : Vec Ideal S4096x2048 .f32 := m ((c : Thread nD τ).loc main_arg1)
abbrev states (c : Dev nD) : Vec Ideal S8192x2048 .f32 := m ((c : Thread nD τ).loc main_arg2)

theorem y_block (c : Dev nD) (t : Fin cfg0.N) (a : Fin 512) (k : Fin 4096) :
    iblk m c 0 t (ix2 a k) = inner m c (ix2 ⟨512 * (t.val / 4) + a.val, by have := pt_lt t; omega⟩ k) := by
  have := pt_lt t
  blk_ext [iblk, V, index_0 t]

theorem w_block (c : Dev nD) (t : Fin cfg0.N) (k : Fin 4096) (d : Fin 512) :
    iblk m c 1 t (ix2 k d) = weights m c (ix2 k ⟨512 * (t.val % 4) + d.val, by omega⟩) := by
  have := pt_lt t
  blk_simp [iblk, index_1 t]
  entry_read
  pointwise
  blk_ext [index_1 t]

theorem h_block (c : Dev nD) (t : Fin cfg0.N) (a : Fin 512) (d : Fin 512) :
    iblk m c 2 t (ix2 a d) = states m c (ix2 ⟨512 * (t.val / 4) + a.val, by have := pt_lt t; omega⟩ ⟨512 * (t.val % 4) + d.val, by omega⟩) := by
  have := pt_lt t
  blk_ext [iblk, V, index_2 t]

theorem out_eq (y : Vec Ideal S512x4096 .bf16) (w : Vec Ideal S4096x512 .bf16) (h : Vec Ideal S512x512 .f32) : out0_3 y w h = k0_pay1 h y w := by
  unfold out0_3
  rw [View.canon_unit_zero Norm.off2, View.ld_unit_zero Norm.off2, View.ld_unit_zero Norm.off2, View.ld_unit_zero Norm.off2]

theorem out_at (y : Vec Ideal S512x4096 .bf16) (w : Vec Ideal S4096x512 .bf16) (h : Vec Ideal S512x512 .f32) (a : Fin 512) (d : Fin 512) :
    k0_pay1 h y w (ix2 a d) = (h (ix2 a d) : EReal) + ∑ k : Fin 4096, (y (ix2 a k) : EReal) * (w (ix2 k d) : EReal) := by
  unfold_payloads
  pointwise

/-- The result array. -/
theorem result_eq (c : Dev nD) : (dats m 0 c).arrAt 3 (cfgs 0).N = Cert.MixerOutReferenceIdeal.Read.val_main_v2 (F := Ideal) (inner m c) (weights m c) (states m c) := by
  refine (dats m 0 c).arrAt_eq_of_covers 3 _ (by decide +kernel) fun t hf y => ?_
  have := pt_lt t
  blk_simp
  rw [after0_3, out_eq]
  idx_vars y
  have e : ((cfg0.win 3).blk t).view.emb (ix2 y0 y1) = ix2 ⟨512 * (t.val / 4) + y0.val, by omega⟩ ⟨512 * (t.val % 4) + y1.val, by omega⟩ := by
    blk_ext [index_3 t]
  rw [out_at, e, Cert.MixerOutReferenceIdeal.Read.result_at]
  simp only [y_block, w_block, h_block]

/-- The kernel and the reference leave the same result. -/
theorem equal : Cert.algebraic_MixerOutIdeal_MixerOutReferenceIdeal (hMixerOutIdeal := Cert.MixerOutIdeal.Gen.facts)
    (hMixerOutReferenceIdeal := Cert.MixerOutReferenceIdeal.Gen.facts) := by
  intro m g m' g' _ same
  refine ⟨_, (θ_run defs _ _).mono (fun r h c => ⟨(h c).1.trans (result_eq m c), (h c).2⟩) (Value.run_blocks m g), ?_⟩
  refine (θ_run Cert.MixerOutReferenceIdeal.defs _ _).mono (fun r h c => ⟨(h c).1.trans ?_, (h c).2⟩) (Cert.MixerOutReferenceIdeal.Value.run (F := Ideal) m' g')
  rw [Cert.MixerOutReferenceIdeal.Read.val_main_v2_eq, (same c).1, (same c).2.1, (same c).2.2]

end Cert.MixerOutIdeal.Gen

end
-- ==== Proof.FoxOut.lean ====
/- The attention's output projection, which adds the heads' product with the weights to the residual as the mixer's does. -/
module

public import proofs.«01_k».proof.Defs
public import proofs.«01_k».proof.Proof.Norm
public import proofs.«01_k».proof.Proof.Gen.FoxOutIdeal.Value
public import proofs.«01_k».proof.Proof.Gen.FoxOutReferenceIdeal.Read

@[expose] public section

set_option maxRecDepth 16384

noncomputable section

namespace Cert.FoxOutReferenceIdeal.Read

open Cert.FoxOutReferenceIdeal Cert.FoxOutReferenceIdeal.Gen Idealize.ShloMosaic Idealize.ShloMosaic.TcCoe

/-- The reference at an index. -/
theorem result_at (y : Vec Ideal S8192x2048 .bf16) (w : Vec Ideal S2048x2048 .f32) (h : Vec Ideal S8192x2048 .f32) (a : Fin 8192) (d : Fin 2048) :
    val_main_v2 (F := Ideal) y w h (ix2 a d) = (h (ix2 a d) : EReal) + ∑ k : Fin 2048, (y (ix2 a k) : EReal) * (w (ix2 k d) : EReal) := by
  pointwise [val_main_v2, val_main_v1, val_main_v0]

end Cert.FoxOutReferenceIdeal.Read

namespace Cert.FoxOutIdeal.Gen

open Cert.FoxOutIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 4, 0] := by decide +kernel
theorem index_1 : ∀ t : Fin cfg0.N, win0_1.index t = ![0, t.val % 4] := by decide +kernel
theorem index_2 : ∀ t : Fin cfg0.N, win0_2.index t = ![t.val / 4, t.val % 4] := by decide +kernel
theorem index_3 : ∀ t : Fin cfg0.N, win0_3.index t = ![t.val / 4, t.val % 4] := by decide +kernel

theorem pt_lt (t : Fin cfg0.N) : t.val < 64 := lt_of_lt_of_eq t.isLt N_0

abbrev inner (c : Dev nD) : Vec Ideal S8192x2048 .bf16 := m ((c : Thread nD τ).loc main_arg0)
abbrev weights (c : Dev nD) : Vec Ideal S2048x2048 .f32 := m ((c : Thread nD τ).loc main_arg1)
abbrev states (c : Dev nD) : Vec Ideal S8192x2048 .f32 := m ((c : Thread nD τ).loc main_arg2)

theorem y_block (c : Dev nD) (t : Fin cfg0.N) (a : Fin 512) (k : Fin 2048) :
    iblk m c 0 t (ix2 a k) = inner m c (ix2 ⟨512 * (t.val / 4) + a.val, by have := pt_lt t; omega⟩ k) := by
  have := pt_lt t
  blk_ext [iblk, V, index_0 t]

theorem w_block (c : Dev nD) (t : Fin cfg0.N) (k : Fin 2048) (d : Fin 512) :
    iblk m c 1 t (ix2 k d) = weights m c (ix2 k ⟨512 * (t.val % 4) + d.val, by omega⟩) := by
  have := pt_lt t
  blk_simp [iblk, index_1 t]
  entry_read
  pointwise
  blk_ext [index_1 t]

theorem h_block (c : Dev nD) (t : Fin cfg0.N) (a : Fin 512) (d : Fin 512) :
    iblk m c 2 t (ix2 a d) = states m c (ix2 ⟨512 * (t.val / 4) + a.val, by have := pt_lt t; omega⟩ ⟨512 * (t.val % 4) + d.val, by omega⟩) := by
  have := pt_lt t
  blk_ext [iblk, V, index_2 t]

theorem out_eq (y : Vec Ideal S512x2048 .bf16) (w : Vec Ideal S2048x512 .bf16) (h : Vec Ideal S512x512 .f32) : out0_3 y w h = k0_pay1 h y w := by
  unfold out0_3
  rw [View.canon_unit_zero Norm.off2, View.ld_unit_zero Norm.off2, View.ld_unit_zero Norm.off2, View.ld_unit_zero Norm.off2]

theorem out_at (y : Vec Ideal S512x2048 .bf16) (w : Vec Ideal S2048x512 .bf16) (h : Vec Ideal S512x512 .f32) (a : Fin 512) (d : Fin 512) :
    k0_pay1 h y w (ix2 a d) = (h (ix2 a d) : EReal) + ∑ k : Fin 2048, (y (ix2 a k) : EReal) * (w (ix2 k d) : EReal) := by
  unfold_payloads
  pointwise

/-- The result array. -/
theorem result_eq (c : Dev nD) : (dats m 0 c).arrAt 3 (cfgs 0).N = Cert.FoxOutReferenceIdeal.Read.val_main_v2 (F := Ideal) (inner m c) (weights m c) (states m c) := by
  refine (dats m 0 c).arrAt_eq_of_covers 3 _ (by decide +kernel) fun t hf y => ?_
  have := pt_lt t
  blk_simp
  rw [after0_3, out_eq]
  idx_vars y
  have e : ((cfg0.win 3).blk t).view.emb (ix2 y0 y1) = ix2 ⟨512 * (t.val / 4) + y0.val, by omega⟩ ⟨512 * (t.val % 4) + y1.val, by omega⟩ := by
    blk_ext [index_3 t]
  rw [out_at, e, Cert.FoxOutReferenceIdeal.Read.result_at]
  simp only [y_block, w_block, h_block]

/-- The kernel and the reference leave the same result. -/
theorem equal : Cert.algebraic_FoxOutIdeal_FoxOutReferenceIdeal (hFoxOutIdeal := Cert.FoxOutIdeal.Gen.facts)
    (hFoxOutReferenceIdeal := Cert.FoxOutReferenceIdeal.Gen.facts) := by
  intro m g m' g' _ same
  refine ⟨_, (θ_run defs _ _).mono (fun r h c => ⟨(h c).1.trans (result_eq m c), (h c).2⟩) (Value.run_blocks m g), ?_⟩
  refine (θ_run Cert.FoxOutReferenceIdeal.defs _ _).mono (fun r h c => ⟨(h c).1.trans ?_, (h c).2⟩) (Cert.FoxOutReferenceIdeal.Value.run (F := Ideal) m' g')
  rw [Cert.FoxOutReferenceIdeal.Read.val_main_v2_eq, (same c).1, (same c).2.1, (same c).2.2]

end Cert.FoxOutIdeal.Gen

end
-- ==== Proof.MixerIn.lean ====
/- The mixer's input projection: rows over their root mean square, times the weights' columns.

Point `t` is block `t % 20` of 512 columns of block `t / 20` of 1024 rows. The first point of a block of rows norms the
rows into a scratch array, which the others keep. -/
module

public import proofs.«01_k».proof.Defs
public import proofs.«01_k».proof.Proof.Norm
public import proofs.«01_k».proof.Proof.Gen.MixerInIdeal.Value
public import proofs.«01_k».proof.Proof.Gen.MixerInReferenceIdeal.Read

@[expose] public section

set_option maxRecDepth 16384

noncomputable section

namespace Cert.MixerInReferenceIdeal.Read

open Cert.MixerInReferenceIdeal Cert.MixerInReferenceIdeal.Gen Idealize.ShloMosaic Idealize.ShloMosaic.TcCoe

theorem norm_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference at an index. -/
theorem result_at (x : Vec Ideal S8192x2048 .f32) (w : Vec Ideal S2048 .f32) (p : Vec Ideal S2048x10304 .f32) (a : Fin 8192) (d : Fin 10240) :
    val_main_v15 (F := Ideal) x w p (ix2 a d)
      = ∑ k : Fin 2048, Norm.normed (fun k => x (ix2 a k)) (fun k => w (ix1 k)) k * (p (ix2 k ⟨d.val, by omega⟩) : EReal) := by
  pointwise [val_main_v15, val_main_v14, val_main_v13]
  simp only [norm_at]

end Cert.MixerInReferenceIdeal.Read

namespace Cert.MixerInIdeal.Gen

open Cert.MixerInIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 20, 0] := by decide +kernel
theorem index_1 : ∀ t : Fin cfg0.N, win0_1.index t = ![0, 0] := by decide +kernel
theorem index_2 : ∀ t : Fin cfg0.N, win0_2.index t = ![0, t.val % 20] := by decide +kernel
theorem index_3 : ∀ t : Fin cfg0.N, win0_3.index t = ![t.val / 20, t.val % 20] := by decide +kernel

theorem pt_lt (t : Fin cfg0.N) : t.val < 160 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x10304 .f32 := m ((c : Thread nD τ).loc main_arg2)

theorem x_block (c : Dev nD) (t : Fin cfg0.N) (a : Fin 1024) (k : Fin 2048) :
    iblk m c 0 t (ix2 a k) = states m c (ix2 ⟨1024 * (t.val / 20) + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  blk_simp [iblk, index_1 t]
  entry_read
  pointwise
  blk_ext [index_1 t]

theorem w_block (c : Dev nD) (t : Fin cfg0.N) (k : Fin 2048) (d : Fin 512) :
    iblk m c 2 t (ix2 k d) = weights m c (ix2 k ⟨512 * (t.val % 20) + d.val, by omega⟩) := by
  have := pt_lt t
  blk_simp [iblk, index_2 t]
  entry_read
  pointwise
  blk_ext [index_2 t]

section Cases

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1024x512 .bf16) (h5 : a5.IsWhole)
  (a6 : Memref sig .tc .vmem S1024x2048 .bf16) (h6 : a6.IsWhole)
  (x : Vec Ideal S1024x2048 .f32) (s : Vec Ideal S1x2048 .f32) (w : Vec Ideal S2048x512 .bf16) (xn : Vec Ideal S1024x2048 .bf16)

/-- The scratch array after the first point of a block of rows. -/
theorem scratch_A (hc : cond0_0 i) : sout0_A_0 c i a2 h2 a3 h3 a4 h4 a5 h5 a6 h6 hc x s w = k0_pay1 x s := by
  unfold sout0_A_0
  rw [View.read_writes_eq_canon _ _ _ (scover0_A_0 c i a2 h2 a3 h3 a4 h4 a5 h5 a6 h6 hc x s w)]
  unfold kernelRun0_A
  dsimp only
  sl_unfold_words
  rw [View.canon_unit_zero Norm.off2]
  simp only [View.readAt_eq_ld, h2.read_unread, h3.read_unread, View.ld_unit_zero (S := S1024x2048) Norm.off2, View.ld_unit_zero (S := S1x2048) Norm.off2]

theorem block_A (hc : cond0_0 i) : out0_A_3 c i a2 h2 a3 h3 a4 h4 a5 h5 a6 h6 hc x s w = k0_pay2 (k0_pay1 x s) w := by
  unfold out0_A_3
  rw [View.read_writes_eq_canon _ _ _ (cover0_A_3 c i a2 h2 a3 h3 a4 h4 a5 h5 a6 h6 hc x s w)]
  unfold kernelRun0_A
  dsimp only
  sl_unfold_words
  rw [View.canon_unit_zero Norm.off2, View.readCov_unit_zero (S := S1024x2048) _ Norm.off2]
  simp only [View.readAt_eq_ld, h2.read_unread, h3.read_unread, h4.read_unread, View.ld_unit_zero (S := S1024x2048) Norm.off2, View.ld_unit_zero (S := S1x2048) Norm.off2, View.ld_unit_zero (S := S2048x512) Norm.off2]

theorem block_B (hc : ¬cond0_0 i) : out0_B_3 c i a2 h2 a3 h3 a4 h4 a5 h5 a6 h6 hc x s w xn = k0_pay2 xn w := by
  unfold out0_B_3
  rw [View.read_writes_eq_canon _ _ _ (cover0_B_3 c i a2 h2 a3 h3 a4 h4 a5 h5 a6 h6 hc x s w xn)]
  unfold kernelRun0_B
  dsimp only
  rw [View.canon_unit_zero Norm.off2]
  simp only [View.readAt_eq_ld, h4.read_unread, h6.read_unread, View.ld_unit_zero (S := S1024x2048) Norm.off2, View.ld_unit_zero (S := S2048x512) Norm.off2]

end Cases

/-- The rows of a point, normed. -/
abbrev rows (c : Dev nD) (t : Fin cfg0.N) : Vec Ideal S1024x2048 .bf16 := k0_pay1 (iblk m c 0 t) (iblk m c 1 t)

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d := by
  unfold_payloads
  pointwise
  rfl

theorem rows_eq (c : Dev nD) (t : Fin cfg0.N) (a : Fin 1024) (d : Fin 2048) : rows m c t (ix2 a d)
    = Norm.normed (fun k => states m c (ix2 ⟨1024 * (t.val / 20) + a.val, by have := pt_lt t; omega⟩ k)) (fun k => scales m c (ix1 k)) d := by
  unfold rows
  rw [rows_at]
  simp only [x_block, s_block]

theorem rows_same (c : Dev nD) (n : ℕ) (h : n + 1 < cfg0.N) (e : ¬(n + 1) % 20 = 0) :
    rows m c ⟨n + 1, h⟩ = rows m c ⟨n, Nat.lt_of_succ_lt h⟩ := by
  have q : (n + 1) / 20 = n / 20 := by omega
  funext y
  idx_vars y
  rw [rows_eq, rows_eq]
  simp only [q]

/-- The scratch array after every point. -/
theorem scratch_eq (c : Dev nD) : ∀ (n : ℕ) (h : n < cfg0.N), (outsAt0 m c n h).2 = rows m c ⟨n, h⟩ :=
  Norm.carried (fun n h => (outsAt0 m c n h).2) (rows m c)
    (fun t e => by rw [outsAt0_A m c t e]; dsimp only; rw [scratch_A])
    (fun n h e => by rw [outsAt0_B m c ⟨n + 1, h⟩ e]; rfl)
    (rows_same m c)

/-- The result's block after every point. -/
theorem block_eq (c : Dev nD) (t : Fin cfg0.N) : (outsAt0 m c t.val t.isLt).1 = k0_pay2 (rows m c t) (iblk m c 2 t) := by
  by_cases e : t.val % 20 = 0
  · rw [outsAt0_A m c t e]
    dsimp only
    rw [block_A]
  · obtain ⟨n, h⟩ := t
    cases n with
    | zero => exact absurd (Nat.zero_mod 20) e
    | succ n =>
      rw [outsAt0_B m c ⟨n + 1, h⟩ e]
      dsimp only
      rw [block_B]
      exact congrArg (k0_pay2 · _) ((scratch_eq m c n (Nat.lt_of_succ_lt h)).trans (rows_same m c n h e).symm)

theorem block_at (xn : Vec Ideal S1024x2048 .bf16) (w : Vec Ideal S2048x512 .bf16) (a : Fin 1024) (d : Fin 512) :
    k0_pay2 xn w (ix2 a d) = ∑ k : Fin 2048, (xn (ix2 a k) : EReal) * (w (ix2 k d) : EReal) := by
  unfold_payloads
  pointwise

/-- The result array. -/
theorem result_eq (c : Dev nD) : (dats m 0 c).arrAt 3 (cfgs 0).N = Cert.MixerInReferenceIdeal.Read.val_main_v15 (F := Ideal) (states m c) (scales m c) (weights m c) := by
  refine (dats m 0 c).arrAt_eq_of_covers 3 _ (by decide +kernel) fun t hf y => ?_
  have := pt_lt t
  blk_simp
  rw [after0_3, block_eq]
  idx_vars y
  have e : ((cfg0.win 3).blk t).view.emb (ix2 y0 y1) = ix2 ⟨1024 * (t.val / 20) + y0.val, by omega⟩ ⟨512 * (t.val % 20) + y1.val, by omega⟩ := by
    blk_ext [index_3 t]
  rw [block_at, e, Cert.MixerInReferenceIdeal.Read.result_at]
  simp only [rows_eq, w_block]

/-- The kernel and the reference leave the same result. -/
theorem equal : Cert.algebraic_MixerInIdeal_MixerInReferenceIdeal (hMixerInIdeal := Cert.MixerInIdeal.Gen.facts)
    (hMixerInReferenceIdeal := Cert.MixerInReferenceIdeal.Gen.facts) := by
  intro m g m' g' _ same
  refine ⟨_, (θ_run defs _ _).mono (fun r h c => ⟨(h c).1.trans (result_eq m c), (h c).2⟩) (Value.run_blocks m g), ?_⟩
  refine (θ_run Cert.MixerInReferenceIdeal.defs _ _).mono (fun r h c => ⟨(h c).1.trans ?_, (h c).2⟩) (Cert.MixerInReferenceIdeal.Value.run (F := Ideal) m' g')
  rw [Cert.MixerInReferenceIdeal.Read.val_main_v15_eq, (same c).1, (same c).2.1, (same c).2.2]

end Cert.MixerInIdeal.Gen

end
-- ==== Proof.FoxKv.lean ====
/- The shared keys and values: rows over their root mean square, times the weights' columns, as in the mixer's input
projection, the scratch array kept over 8 points. -/
module

public import proofs.«01_k».proof.Defs
public import proofs.«01_k».proof.Proof.MixerIn
public import proofs.«01_k».proof.Proof.Gen.FoxKvIdeal.Value
public import proofs.«01_k».proof.Proof.Gen.FoxKvReferenceIdeal.Read

@[expose] public section

set_option maxRecDepth 16384

noncomputable section

namespace Cert.FoxKvReferenceIdeal.Read

open Cert.FoxKvReferenceIdeal Cert.FoxKvReferenceIdeal.Gen Idealize.ShloMosaic Idealize.ShloMosaic.TcCoe

theorem norm_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d :=
  Cert.MixerInReferenceIdeal.Read.norm_at x w a d

/-- The reference at an index. -/
theorem result_at (x : Vec Ideal S8192x2048 .f32) (w : Vec Ideal S2048 .f32) (p : Vec Ideal S2048x4112 .f32) (a : Fin 8192) (d : Fin 4096) :
    val_main_v15 (F := Ideal) x w p (ix2 a d)
      = ∑ k : Fin 2048, Norm.normed (fun k => x (ix2 a k)) (fun k => w (ix1 k)) k * (p (ix2 k ⟨d.val, by omega⟩) : EReal) := by
  pointwise [val_main_v15, val_main_v14, val_main_v13]
  simp only [norm_at]

end Cert.FoxKvReferenceIdeal.Read

namespace Cert.FoxKvIdeal.Gen

open Cert.FoxKvIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 8, 0] := by decide +kernel
theorem index_1 : ∀ t : Fin cfg0.N, win0_1.index t = ![0, 0] := by decide +kernel
theorem index_2 : ∀ t : Fin cfg0.N, win0_2.index t = ![0, t.val % 8] := by decide +kernel
theorem index_3 : ∀ t : Fin cfg0.N, win0_3.index t = ![t.val / 8, t.val % 8] := by decide +kernel

theorem pt_lt (t : Fin cfg0.N) : t.val < 64 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x4112 .f32 := m ((c : Thread nD τ).loc main_arg2)

theorem x_block (c : Dev nD) (t : Fin cfg0.N) (a : Fin 1024) (k : Fin 2048) :
    iblk m c 0 t (ix2 a k) = states m c (ix2 ⟨1024 * (t.val / 8) + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  blk_simp [iblk, index_1 t]
  entry_read
  pointwise
  blk_ext [index_1 t]

theorem w_block (c : Dev nD) (t : Fin cfg0.N) (k : Fin 2048) (d : Fin 512) :
    iblk m c 2 t (ix2 k d) = weights m c (ix2 k ⟨512 * (t.val % 8) + d.val, by omega⟩) := by
  have := pt_lt t
  blk_simp [iblk, index_2 t]
  entry_read
  pointwise
  blk_ext [index_2 t]

section Cases

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1024x512 .bf16) (h5 : a5.IsWhole)
  (a6 : Memref sig .tc .vmem S1024x2048 .bf16) (h6 : a6.IsWhole)
  (x : Vec Ideal S1024x2048 .f32) (s : Vec Ideal S1x2048 .f32) (w : Vec Ideal S2048x512 .bf16) (xn : Vec Ideal S1024x2048 .bf16)

/-- The scratch array after the first point of a block of rows. -/
theorem scratch_A (hc : cond0_0 i) : sout0_A_0 c i a2 h2 a3 h3 a4 h4 a5 h5 a6 h6 hc x s w = k0_pay1 x s := by
  unfold sout0_A_0
  rw [View.read_writes_eq_canon _ _ _ (scover0_A_0 c i a2 h2 a3 h3 a4 h4 a5 h5 a6 h6 hc x s w)]
  unfold kernelRun0_A
  dsimp only
  sl_unfold_words
  rw [View.canon_unit_zero Norm.off2]
  simp only [View.readAt_eq_ld, h2.read_unread, h3.read_unread, View.ld_unit_zero (S := S1024x2048) Norm.off2, View.ld_unit_zero (S := S1x2048) Norm.off2]

theorem block_A (hc : cond0_0 i) : out0_A_3 c i a2 h2 a3 h3 a4 h4 a5 h5 a6 h6 hc x s w = k0_pay2 (k0_pay1 x s) w := by
  unfold out0_A_3
  rw [View.read_writes_eq_canon _ _ _ (cover0_A_3 c i a2 h2 a3 h3 a4 h4 a5 h5 a6 h6 hc x s w)]
  unfold kernelRun0_A
  dsimp only
  sl_unfold_words
  rw [View.canon_unit_zero Norm.off2, View.readCov_unit_zero (S := S1024x2048) _ Norm.off2]
  simp only [View.readAt_eq_ld, h2.read_unread, h3.read_unread, h4.read_unread, View.ld_unit_zero (S := S1024x2048) Norm.off2, View.ld_unit_zero (S := S1x2048) Norm.off2, View.ld_unit_zero (S := S2048x512) Norm.off2]

theorem block_B (hc : ¬cond0_0 i) : out0_B_3 c i a2 h2 a3 h3 a4 h4 a5 h5 a6 h6 hc x s w xn = k0_pay2 xn w := by
  unfold out0_B_3
  rw [View.read_writes_eq_canon _ _ _ (cover0_B_3 c i a2 h2 a3 h3 a4 h4 a5 h5 a6 h6 hc x s w xn)]
  unfold kernelRun0_B
  dsimp only
  rw [View.canon_unit_zero Norm.off2]
  simp only [View.readAt_eq_ld, h4.read_unread, h6.read_unread, View.ld_unit_zero (S := S1024x2048) Norm.off2, View.ld_unit_zero (S := S2048x512) Norm.off2]

end Cases

/-- The rows of a point, normed. -/
abbrev rows (c : Dev nD) (t : Fin cfg0.N) : Vec Ideal S1024x2048 .bf16 := k0_pay1 (iblk m c 0 t) (iblk m c 1 t)

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d :=
  Cert.MixerInIdeal.Gen.rows_at x s a d

theorem rows_eq (c : Dev nD) (t : Fin cfg0.N) (a : Fin 1024) (d : Fin 2048) : rows m c t (ix2 a d)
    = Norm.normed (fun k => states m c (ix2 ⟨1024 * (t.val / 8) + a.val, by have := pt_lt t; omega⟩ k)) (fun k => scales m c (ix1 k)) d := by
  unfold rows
  rw [rows_at]
  simp only [x_block, s_block]

theorem rows_same (c : Dev nD) (n : ℕ) (h : n + 1 < cfg0.N) (e : ¬(n + 1) % 8 = 0) :
    rows m c ⟨n + 1, h⟩ = rows m c ⟨n, Nat.lt_of_succ_lt h⟩ := by
  have q : (n + 1) / 8 = n / 8 := by omega
  funext y
  idx_vars y
  rw [rows_eq, rows_eq]
  simp only [q]

/-- The scratch array after every point. -/
theorem scratch_eq (c : Dev nD) : ∀ (n : ℕ) (h : n < cfg0.N), (outsAt0 m c n h).2 = rows m c ⟨n, h⟩ :=
  Norm.carried (fun n h => (outsAt0 m c n h).2) (rows m c)
    (fun t e => by rw [outsAt0_A m c t e]; dsimp only; rw [scratch_A])
    (fun n h e => by rw [outsAt0_B m c ⟨n + 1, h⟩ e]; rfl)
    (rows_same m c)

/-- The result's block after every point. -/
theorem block_eq (c : Dev nD) (t : Fin cfg0.N) : (outsAt0 m c t.val t.isLt).1 = k0_pay2 (rows m c t) (iblk m c 2 t) := by
  by_cases e : t.val % 8 = 0
  · rw [outsAt0_A m c t e]
    dsimp only
    rw [block_A]
  · obtain ⟨n, h⟩ := t
    cases n with
    | zero => exact absurd (Nat.zero_mod 8) e
    | succ n =>
      rw [outsAt0_B m c ⟨n + 1, h⟩ e]
      dsimp only
      rw [block_B]
      exact congrArg (k0_pay2 · _) ((scratch_eq m c n (Nat.lt_of_succ_lt h)).trans (rows_same m c n h e).symm)

theorem block_at (xn : Vec Ideal S1024x2048 .bf16) (w : Vec Ideal S2048x512 .bf16) (a : Fin 1024) (d : Fin 512) :
    k0_pay2 xn w (ix2 a d) = ∑ k : Fin 2048, (xn (ix2 a k) : EReal) * (w (ix2 k d) : EReal) :=
  Cert.MixerInIdeal.Gen.block_at xn w a d

/-- The result array. -/
theorem result_eq (c : Dev nD) : (dats m 0 c).arrAt 3 (cfgs 0).N = Cert.FoxKvReferenceIdeal.Read.val_main_v15 (F := Ideal) (states m c) (scales m c) (weights m c) := by
  refine (dats m 0 c).arrAt_eq_of_covers 3 _ (by decide +kernel) fun t hf y => ?_
  have := pt_lt t
  blk_simp
  rw [after0_3, block_eq]
  idx_vars y
  have e : ((cfg0.win 3).blk t).view.emb (ix2 y0 y1) = ix2 ⟨1024 * (t.val / 8) + y0.val, by omega⟩ ⟨512 * (t.val % 8) + y1.val, by omega⟩ := by
    blk_ext [index_3 t]
  rw [block_at, e, Cert.FoxKvReferenceIdeal.Read.result_at]
  simp only [rows_eq, w_block]

/-- The kernel and the reference leave the same result. -/
theorem equal : Cert.algebraic_FoxKvIdeal_FoxKvReferenceIdeal (hFoxKvIdeal := Cert.FoxKvIdeal.Gen.facts)
    (hFoxKvReferenceIdeal := Cert.FoxKvReferenceIdeal.Gen.facts) := by
  intro m g m' g' _ same
  refine ⟨_, (θ_run defs _ _).mono (fun r h c => ⟨(h c).1.trans (result_eq m c), (h c).2⟩) (Value.run_blocks m g), ?_⟩
  refine (θ_run Cert.FoxKvReferenceIdeal.defs _ _).mono (fun r h c => ⟨(h c).1.trans ?_, (h c).2⟩) (Cert.FoxKvReferenceIdeal.Value.run (F := Ideal) m' g')
  rw [Cert.FoxKvReferenceIdeal.Read.val_main_v15_eq, (same c).1, (same c).2.1, (same c).2.2]

end Cert.FoxKvIdeal.Gen

end
-- ==== Proof.FoxQ.lean ====
/- The queries: rows over their root mean square, times the weights' columns, times one over the root of the head size
and over the logarithm of two; the scratch array is kept over 4 points. -/
module

public import proofs.«01_k».proof.Defs
public import proofs.«01_k».proof.Proof.MixerIn
public import proofs.«01_k».proof.Proof.Ref
public import proofs.«01_k».proof.Proof.Gen.FoxQIdeal.Value
public import proofs.«01_k».proof.Proof.Gen.FoxQReferenceIdeal.Read

@[expose] public section

set_option maxRecDepth 16384

noncomputable section

namespace Cert.FoxQReferenceIdeal.Read

open Cert.FoxQReferenceIdeal Cert.FoxQReferenceIdeal.Gen Idealize.ShloMosaic Idealize.ShloMosaic.TcCoe

theorem norm_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d :=
  Cert.MixerInReferenceIdeal.Read.norm_at x w a d

theorem head_size : Ideal.ofBits .f32 0x43000000#32 = ((128 : ℝ) : EReal) := by
  simp [Ideal.ofBits, Ideal.ieee]
  rw [← EReal.coe_mul]
  norm_num

theorem div_coe (x : EReal) (r : ℝ) (h : r ≠ 0) : Ideal.div x (r : EReal) = x * ((r⁻¹ : ℝ) : EReal) := by
  unfold Ideal.div
  rw [if_neg (by exact_mod_cast h), EReal.coe_inv]

/-- Over the root of the head size and over the logarithm of two. -/
theorem scaled (x : EReal) : Ideal.div (Ideal.div x (Ideal.sqrt (Ideal.ofBits .f32 0x43000000#32))) (Ideal.log (Ideal.ofBits .f32 0x40000000#32))
    = x * (((Real.sqrt 128)⁻¹ * (Real.log 2)⁻¹ : ℝ) : EReal) := by
  have s : Ideal.sqrt ((128 : ℝ) : EReal) = ((Real.sqrt 128 : ℝ) : EReal) := if_neg (show ¬(128 : ℝ) < 0 by norm_num)
  have l : Ideal.log ((2 : ℝ) : EReal) = ((Real.log 2 : ℝ) : EReal) := if_neg (show ¬(2 : ℝ) ≤ 0 by norm_num)
  have hs : Real.sqrt 128 ≠ 0 := Real.sqrt_ne_zero'.mpr (by norm_num)
  have hl : Real.log 2 ≠ 0 := (Real.log_pos (by norm_num)).ne'
  rw [head_size, Cert.ReferenceIdeal.Read.two, s, l, div_coe _ _ hs, div_coe _ _ hl, mul_assoc, ← EReal.coe_mul]

/-- The reference at an index. -/
theorem result_at (x : Vec Ideal S8192x2048 .f32) (w : Vec Ideal S2048 .f32) (p : Vec Ideal S2048x2048 .f32) (a : Fin 8192) (d : Fin 2048) :
    val_main_v20 (F := Ideal) x w p (ix2 a d)
      = (∑ k : Fin 2048, Norm.normed (fun k => x (ix2 a k)) (fun k => w (ix1 k)) k * (p (ix2 k d) : EReal))
          * (((Real.sqrt 128)⁻¹ * (Real.log 2)⁻¹ : ℝ) : EReal) := by
  pointwise [val_main_v20, val_main_v19, val_main_v18, val_main_v17, val_main_v16, val_main_v15, val_main_v14, val_main_v13, val_main_cst_2, val_main_cst_3]
  simp only [norm_at]
  exact scaled _

end Cert.FoxQReferenceIdeal.Read

namespace Cert.FoxQIdeal.Gen

open Cert.FoxQIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 4, 0] := by decide +kernel
theorem index_1 : ∀ t : Fin cfg0.N, win0_1.index t = ![0, 0] := by decide +kernel
theorem index_2 : ∀ t : Fin cfg0.N, win0_2.index t = ![0, t.val % 4] := by decide +kernel
theorem index_3 : ∀ t : Fin cfg0.N, win0_3.index t = ![t.val / 4, t.val % 4] := by decide +kernel

theorem pt_lt (t : Fin cfg0.N) : t.val < 32 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x2048 .f32 := m ((c : Thread nD τ).loc main_arg2)

theorem x_block (c : Dev nD) (t : Fin cfg0.N) (a : Fin 1024) (k : Fin 2048) :
    iblk m c 0 t (ix2 a k) = states m c (ix2 ⟨1024 * (t.val / 4) + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  blk_simp [iblk, index_1 t]
  entry_read
  pointwise
  blk_ext [index_1 t]

theorem w_block (c : Dev nD) (t : Fin cfg0.N) (k : Fin 2048) (d : Fin 512) :
    iblk m c 2 t (ix2 k d) = weights m c (ix2 k ⟨512 * (t.val % 4) + d.val, by omega⟩) := by
  have := pt_lt t
  blk_simp [iblk, index_2 t]
  entry_read
  pointwise
  blk_ext [index_2 t]

section Cases

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S1024x512 .bf16) (h5 : a5.IsWhole)
  (a6 : Memref sig .tc .vmem S1024x2048 .bf16) (h6 : a6.IsWhole)
  (x : Vec Ideal S1024x2048 .f32) (s : Vec Ideal S1x2048 .f32) (w : Vec Ideal S2048x512 .bf16) (xn : Vec Ideal S1024x2048 .bf16)

/-- The scratch array after the first point of a block of rows. -/
theorem scratch_A (hc : cond0_0 i) : sout0_A_0 c i a2 h2 a3 h3 a4 h4 a5 h5 a6 h6 hc x s w = k0_pay1 x s := by
  unfold sout0_A_0
  rw [View.read_writes_eq_canon _ _ _ (scover0_A_0 c i a2 h2 a3 h3 a4 h4 a5 h5 a6 h6 hc x s w)]
  unfold kernelRun0_A
  dsimp only
  sl_unfold_words
  rw [View.canon_unit_zero Norm.off2]
  simp only [View.readAt_eq_ld, h2.read_unread, h3.read_unread, View.ld_unit_zero (S := S1024x2048) Norm.off2, View.ld_unit_zero (S := S1x2048) Norm.off2]

theorem block_A (hc : cond0_0 i) : out0_A_3 c i a2 h2 a3 h3 a4 h4 a5 h5 a6 h6 hc x s w = k0_pay2 (k0_pay1 x s) w := by
  unfold out0_A_3
  rw [View.read_writes_eq_canon _ _ _ (cover0_A_3 c i a2 h2 a3 h3 a4 h4 a5 h5 a6 h6 hc x s w)]
  unfold kernelRun0_A
  dsimp only
  sl_unfold_words
  rw [View.canon_unit_zero Norm.off2, View.readCov_unit_zero (S := S1024x2048) _ Norm.off2]
  simp only [View.readAt_eq_ld, h2.read_unread, h3.read_unread, h4.read_unread, View.ld_unit_zero (S := S1024x2048) Norm.off2, View.ld_unit_zero (S := S1x2048) Norm.off2, View.ld_unit_zero (S := S2048x512) Norm.off2]

theorem block_B (hc : ¬cond0_0 i) : out0_B_3 c i a2 h2 a3 h3 a4 h4 a5 h5 a6 h6 hc x s w xn = k0_pay2 xn w := by
  unfold out0_B_3
  rw [View.read_writes_eq_canon _ _ _ (cover0_B_3 c i a2 h2 a3 h3 a4 h4 a5 h5 a6 h6 hc x s w xn)]
  unfold kernelRun0_B
  dsimp only
  rw [View.canon_unit_zero Norm.off2]
  simp only [View.readAt_eq_ld, h4.read_unread, h6.read_unread, View.ld_unit_zero (S := S1024x2048) Norm.off2, View.ld_unit_zero (S := S2048x512) Norm.off2]

end Cases

/-- The rows of a point, normed. -/
abbrev rows (c : Dev nD) (t : Fin cfg0.N) : Vec Ideal S1024x2048 .bf16 := k0_pay1 (iblk m c 0 t) (iblk m c 1 t)

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d :=
  Cert.MixerInIdeal.Gen.rows_at x s a d

theorem rows_eq (c : Dev nD) (t : Fin cfg0.N) (a : Fin 1024) (d : Fin 2048) : rows m c t (ix2 a d)
    = Norm.normed (fun k => states m c (ix2 ⟨1024 * (t.val / 4) + a.val, by have := pt_lt t; omega⟩ k)) (fun k => scales m c (ix1 k)) d := by
  unfold rows
  rw [rows_at]
  simp only [x_block, s_block]

theorem rows_same (c : Dev nD) (n : ℕ) (h : n + 1 < cfg0.N) (e : ¬(n + 1) % 4 = 0) :
    rows m c ⟨n + 1, h⟩ = rows m c ⟨n, Nat.lt_of_succ_lt h⟩ := by
  have q : (n + 1) / 4 = n / 4 := by omega
  funext y
  idx_vars y
  rw [rows_eq, rows_eq]
  simp only [q]

/-- The scratch array after every point. -/
theorem scratch_eq (c : Dev nD) : ∀ (n : ℕ) (h : n < cfg0.N), (outsAt0 m c n h).2 = rows m c ⟨n, h⟩ :=
  Norm.carried (fun n h => (outsAt0 m c n h).2) (rows m c)
    (fun t e => by rw [outsAt0_A m c t e]; dsimp only; rw [scratch_A])
    (fun n h e => by rw [outsAt0_B m c ⟨n + 1, h⟩ e]; rfl)
    (rows_same m c)

/-- The result's block after every point. -/
theorem block_eq (c : Dev nD) (t : Fin cfg0.N) : (outsAt0 m c t.val t.isLt).1 = k0_pay2 (rows m c t) (iblk m c 2 t) := by
  by_cases e : t.val % 4 = 0
  · rw [outsAt0_A m c t e]
    dsimp only
    rw [block_A]
  · obtain ⟨n, h⟩ := t
    cases n with
    | zero => exact absurd (Nat.zero_mod 4) e
    | succ n =>
      rw [outsAt0_B m c ⟨n + 1, h⟩ e]
      dsimp only
      rw [block_B]
      exact congrArg (k0_pay2 · _) ((scratch_eq m c n (Nat.lt_of_succ_lt h)).trans (rows_same m c n h e).symm)

theorem block_at (xn : Vec Ideal S1024x2048 .bf16) (w : Vec Ideal S2048x512 .bf16) (a : Fin 1024) (d : Fin 512) :
    k0_pay2 xn w (ix2 a d) = (∑ k : Fin 2048, (xn (ix2 a k) : EReal) * (w (ix2 k d) : EReal))
      * (((Real.sqrt 128)⁻¹ * (Real.log 2)⁻¹ : ℝ) : EReal) := by
  unfold_payloads
  pointwise
  exact congrArg _ (IdealRules.named_const.ideal_named_scalar κ _ _ _ rfl)

/-- The result array. -/
theorem result_eq (c : Dev nD) : (dats m 0 c).arrAt 3 (cfgs 0).N = Cert.FoxQReferenceIdeal.Read.val_main_v20 (F := Ideal) (states m c) (scales m c) (weights m c) := by
  refine (dats m 0 c).arrAt_eq_of_covers 3 _ (by decide +kernel) fun t hf y => ?_
  have := pt_lt t
  blk_simp
  rw [after0_3, block_eq]
  idx_vars y
  have e : ((cfg0.win 3).blk t).view.emb (ix2 y0 y1) = ix2 ⟨1024 * (t.val / 4) + y0.val, by omega⟩ ⟨512 * (t.val % 4) + y1.val, by omega⟩ := by
    blk_ext [index_3 t]
  rw [block_at, e, Cert.FoxQReferenceIdeal.Read.result_at]
  simp only [rows_eq, w_block]

/-- The kernel and the reference leave the same result. -/
theorem equal : Cert.algebraic_FoxQIdeal_FoxQReferenceIdeal (hFoxQIdeal := Cert.FoxQIdeal.Gen.facts)
    (hFoxQReferenceIdeal := Cert.FoxQReferenceIdeal.Gen.facts) := by
  intro m g m' g' _ same
  refine ⟨_, (θ_run defs _ _).mono (fun r h c => ⟨(h c).1.trans (result_eq m c), (h c).2⟩) (Value.run_blocks m g), ?_⟩
  refine (θ_run Cert.FoxQReferenceIdeal.defs _ _).mono (fun r h c => ⟨(h c).1.trans ?_, (h c).2⟩) (Cert.FoxQReferenceIdeal.Value.run (F := Ideal) m' g')
  rw [Cert.FoxQReferenceIdeal.Read.val_main_v20_eq, (same c).1, (same c).2.1, (same c).2.2]

end Cert.FoxQIdeal.Gen

end
-- ==== Proof.PeerRun.lean ====
/- The run of the retrieval's query call: what its grid points leave, and the machine's final states.

Point `t` is block `t % 4` of 512 columns of block `t / 4` of 1024 rows. The first point of a block of rows stores the
normed rows into scratch and into the block of the second result; the other three read the scratch and leave that block
as it is, and the last one's write-back takes it to the array. -/
module

public import proofs.«01_k».proof.Proof.Norm
public import proofs.«01_k».proof.Proof.Gen.PeerQIdeal.Frame
public import proofs.«01_k».proof.Proof.Gen.PeerQIdeal.Skeleton
public import Idealize.ShloMosaic.Lib.VecWindow
public import Idealize.ShloMosaic.Lib.Claim

@[expose] public section

set_option maxRecDepth 16384

noncomputable section

namespace Cert.PeerQIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether a point is the first of its block of rows, as the body asks. -/
abbrev isFirst (i : grid0.Coords) : Prop := (Scalar.cmpi .ne (Scalar.extui (Scalar.cmpi .eq (BitVec.ofNat 32 (i 1).val) 0#32)) 0#32) = 1#1

theorem isFirst_iff (t : Fin cfg0.N) : isFirst (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [isFirst, e1]
  word_cmp

theorem read_rows (v : View sig .tc .vmem S1024x2048 .bf16) (z : Vec F S1024x2048 .bf16) (f : BufTy.Contents (Elt F) v.ty) (h) :
    View.read (Elt F) v (v.writes (Elt F) f [⟨Rect.unit (s := S1024x2048) ![0, 0] S1024x2048.size h, z⟩]) = z :=
  View.read_writes_full v f h z []

theorem read_out (v : View sig .tc .vmem S1024x512 .bf16) (z : Vec F S1024x512 .bf16) (f : BufTy.Contents (Elt F) v.ty) (h) :
    View.read (Elt F) v (v.writes (Elt F) f [⟨Rect.unit (s := S1024x512) ![0, 0] S1024x512.size h, z⟩]) = z :=
  View.read_writes_full v f h z []

set_option maxHeartbeats 1000000 in
/-- The body at the first point of a block of rows. -/
theorem runA (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S1024x512 .bf16) (harg5 : arg5.IsWhole) (arg6 : Memref sig .tc .vmem S1024x2048 .bf16) (harg6 : arg6.IsWhole)
    (arg7 : Memref sig .tc .vmem S1024x2048 .bf16) (harg7 : arg7.IsWhole)
    (x : Vec F S1024x2048 .f32) (s : Vec F S1x2048 .f32) (w : Vec F S2048x512 .bf16)
    (E : Set ℕ) (K : PUnit → sProp 𝕄) (hc0 : isFirst i) :
    iprop(owns (c : Thread nD τ) arg2 fullShare x ∗ owns (c : Thread nD τ) arg3 fullShare s ∗ owns (c : Thread nD τ) arg4 fullShare w ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare s ∗ owns (c : Thread nD τ) arg4 fullShare w ∗ owns (c : Thread nD τ) arg5 fullShare (k0_pay3 (k0_pay2 x s) w) ∗ owns (c : Thread nD τ) arg6 fullShare (k0_pay1 x s) ∗ owns (c : Thread nD τ) arg7 fullShare (k0_pay2 x s)) -∗ K ⟨⟩))
      ⊢ wp frame (wpE (defs₀ (F := F)) Variants.none c none) E (cc0_rms_mm i arg2 harg2 arg3 harg3 arg4 harg4 arg5 harg5 arg6 harg6 arg7 harg7) K := by
  simp only [cc0_rms_mm_eq_skeleton]; unfold cc0_rms_mm_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro
    sl_unfold_words
    refine (read_out arg5.view _ _ _).trans ?_
    rw [View.readCov_unit_zero (S := S1024x2048) _ Norm.off2]
    simp only [View.readAt_eq_ld, harg2.read_unread, harg3.read_unread, harg4.read_unread, View.ld_unit_zero (S := S1024x2048) Norm.off2,
      View.ld_unit_zero (S := S1x2048) Norm.off2, View.ld_unit_zero (S := S2048x512) Norm.off2]
  isplitl [H4]
  · iexists _; isplitr; swap; · iexact H4
    ipureintro
    sl_unfold_words
    refine (read_rows arg6.view _ _ _).trans ?_
    simp only [View.readAt_eq_ld, harg2.read_unread, harg3.read_unread, View.ld_unit_zero (S := S1024x2048) Norm.off2,
      View.ld_unit_zero (S := S1x2048) Norm.off2]
  iexists _; isplitr; swap; · iexact HS0
  ipureintro
  sl_unfold_words
  refine (read_rows arg7.view _ _ _).trans ?_
  simp only [View.readAt_eq_ld, harg2.read_unread, harg3.read_unread, View.ld_unit_zero (S := S1024x2048) Norm.off2,
    View.ld_unit_zero (S := S1x2048) Norm.off2]

set_option maxHeartbeats 1000000 in
/-- The body at any other point. -/
theorem runB (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x512 .bf16) (harg4 : arg4.IsWhole)
    (arg5 : Memref sig .tc .vmem S1024x512 .bf16) (harg5 : arg5.IsWhole) (arg6 : Memref sig .tc .vmem S1024x2048 .bf16) (harg6 : arg6.IsWhole)
    (arg7 : Memref sig .tc .vmem S1024x2048 .bf16) (harg7 : arg7.IsWhole)
    (x : Vec F S1024x2048 .f32) (s : Vec F S1x2048 .f32) (w : Vec F S2048x512 .bf16) (xn y : Vec F S1024x2048 .bf16)
    (E : Set ℕ) (K : PUnit → sProp 𝕄) (hc0 : ¬isFirst i) :
    iprop(owns (c : Thread nD τ) arg2 fullShare x ∗ owns (c : Thread nD τ) arg3 fullShare s ∗ owns (c : Thread nD τ) arg4 fullShare w ∗ (∃ d, owns (c : Thread nD τ) arg5 fullShare d) ∗ owns (c : Thread nD τ) arg6 fullShare y ∗ owns (c : Thread nD τ) arg7 fullShare xn
        ∗ (iprop(owns (c : Thread nD τ) arg2 fullShare x ∗ owns (c : Thread nD τ) arg3 fullShare s ∗ owns (c : Thread nD τ) arg4 fullShare w ∗ owns (c : Thread nD τ) arg5 fullShare (k0_pay3 xn w) ∗ owns (c : Thread nD τ) arg6 fullShare y ∗ owns (c : Thread nD τ) arg7 fullShare xn) -∗ K ⟨⟩))
      ⊢ wp frame (wpE (defs₀ (F := F)) Variants.none c none) E (cc0_rms_mm i arg2 harg2 arg3 harg3 arg4 harg4 arg5 harg5 arg6 harg6 arg7 harg7) K := by
  simp only [cc0_rms_mm_eq_skeleton]; unfold cc0_rms_mm_skel
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg7.eq_unread hfs0
  sl_exec (disch := first | sl_exact hc0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro
    refine (read_out arg5.view _ _ _).trans ?_
    simp only [View.readAt_eq_ld, harg4.read_unread, harg7.read_unread, View.ld_unit_zero (S := S1024x2048) Norm.off2,
      View.ld_unit_zero (S := S2048x512) Norm.off2]
  isplitl [H4]
  · iexists _; isplitr; swap; · iexact H4
    ipureintro; exact hf4
  iexists _; isplitr; swap; · iexact HS0
  ipureintro; exact harg7.read_unread _

abbrev stage_0 (t : Fin cfg0.N) : Memref sig .tc .vmem S1024x2048 .f32 := win0_0.stage (cfg0.slots t 0)
abbrev stage_1 (t : Fin cfg0.N) : Memref sig .tc .vmem S1x2048 .f32 := win0_1.stage (cfg0.slots t 1)
abbrev stage_2 (t : Fin cfg0.N) : Memref sig .tc .vmem S2048x512 .bf16 := win0_2.stage (cfg0.slots t 2)
abbrev stage_3 (t : Fin cfg0.N) : Memref sig .tc .vmem S1024x512 .bf16 := win0_3.stage (cfg0.slots t 3)
abbrev stage_4 (t : Fin cfg0.N) : Memref sig .tc .vmem S1024x2048 .bf16 := win0_4.stage (cfg0.slots t 4)
abbrev scratch : Memref sig .tc .vmem S1024x2048 .bf16 := Memref.whole cc0_scratch0

/-- What holds before the first point: the scratch at some contents. -/
theorem start_eq (c : Dev nD) : (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

variable (m : (ℓ : Loc nD τ sig) → Buf (Elt F) ℓ) (ρ : Dev nD → PrngReg)

/-- The first of the four points of the block of rows of point `n`. -/
def firstPt (n : ℕ) (h : n < cfg0.N) : Fin cfg0.N := ⟨n / 4 * 4, lt_of_le_of_lt (Nat.div_mul_le_self n 4) h⟩

/-- The normed rows of the block of rows of point `n`, as the second result's block and as the scratch hold them. -/
def rowsAt (c : Dev nD) (n : ℕ) (h : n < cfg0.N) : Vec F S1024x2048 .bf16 := k0_pay1 (iblk m c 0 (firstPt n h)) (iblk m c 1 (firstPt n h))
def keptAt (c : Dev nD) (n : ℕ) (h : n < cfg0.N) : Vec F S1024x2048 .bf16 := k0_pay2 (iblk m c 0 (firstPt n h)) (iblk m c 1 (firstPt n h))

/-- What holds between the points: the scratch has the last point's normed rows. -/
def Inv (c : Dev nD) : (n : ℕ) → n ≤ cfg0.N → sProp 𝕄
  | 0, _ => Pipeline.ΦA spec0 c
  | n + 1, hn => iprop(owns (c : Thread nD τ) scratch fullShare (keptAt m c n hn) ∗ (∃ r, prngReg c r))

theorem Inv_succ (c : Dev nD) (n : ℕ) (hn : n < cfg0.N) :
    Inv m c (n + 1) hn = iprop(owns (c : Thread nD τ) scratch fullShare (keptAt m c n hn) ∗ (∃ r, prngReg c r)) := rfl

theorem firstPt_of_first (t : Fin cfg0.N) (h0 : t.val % 4 = 0) : firstPt t.val t.isLt = t :=
  Fin.ext (show t.val / 4 * 4 = t.val by omega)

theorem firstPt_later (n : ℕ) (h : n + 1 < cfg0.N) (h0 : ¬(n + 1) % 4 = 0) : firstPt n (Nat.lt_of_succ_lt h) = firstPt (n + 1) h :=
  Fin.ext (show n / 4 * 4 = (n + 1) / 4 * 4 by omega)

theorem Inv_of_later (c : Dev nD) (n : ℕ) (h : n < cfg0.N) (h0 : ¬n % 4 = 0) :
    Inv m c n h.le = iprop(owns (c : Thread nD τ) scratch fullShare (keptAt m c n h) ∗ (∃ r, prngReg c r)) := by
  cases n with
  | zero => exact absurd rfl h0
  | succ k => rw [Inv_succ]; unfold keptAt; rw [firstPt_later k h h0]

theorem Inv_forget (c : Dev nD) (n : ℕ) (h : n ≤ cfg0.N) : Inv m c n h ⊢ Pipeline.ΦA spec0 c := by
  cases n with
  | zero => exact Idealize.SL.BI.Entails.refl _
  | succ k =>
    rw [Inv_succ, start_eq]
    iintro ⟨HS0, Hg⟩
    isplitl [HS0]
    · iexists _; iexact HS0
    iexact Hg

theorem Inv_forget_frame (c : Dev nD) (n : ℕ) (h : n ≤ cfg0.N) (Q : sProp 𝕄) :
    iprop(Inv m c n h ∗ Q) ⊢ iprop(Pipeline.ΦA spec0 c ∗ Q) := by
  iintro ⟨H, HQ⟩
  isplitl [H]
  · iapply (Inv_forget m c n h); iexact H
  iexact HQ

/-- The proof data: the arrays as the region finds them, each input's buffer at its block, the first result's at the
point's block and the second's at the block of rows' normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (keptAt m c t.val t.isLt) (iblk m c 2 t)
    | ⟨4, _⟩ => rowsAt m c t.val t.isLt
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (keptAt m c t.val t.isLt) (iblk m c 2 t) := by dsimp only [dats]
theorem after_4 (c : Dev nD) (t : Fin cfg0.N) : (dats m 0 c).after 4 t = rowsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem idle_4 (t : Fin cfg0.N) : cfg0.idle 4 (grid0.coords t) = !(t.val % 4 == 0) := by
  show (!(k0_cond1 (grid0.coords t) == 1#1)) = _
  congr 1
  rw [Bool.eq_iff_iff, beq_iff_eq, beq_iff_eq]
  exact isFirst_iff t

theorem flush_4 (t : Fin cfg0.N) : (cfg0.win 4).flush t = (t.val % 4 == 3) := by
  rw [Bool.eq_iff_iff, beq_iff_eq]
  exact flush0_4 t

/-- At a later point of a block of rows the second result's buffer holds what the first point stored. -/
theorem before_4 (c : Dev nD) (d) : ∀ (n : ℕ) (h : n < cfg0.N), ¬n % 4 = 0 → (dats m 0 c).before 4 ⟨n, h⟩ d = rowsAt m c n h
  | 0, _, h0 => absurd rfl h0
  | n + 1, h, h0 => by
    have e : (dats m 0 c).before 4 ⟨n + 1, h⟩ d = (dats m 0 c).left 4 ⟨n, Nat.lt_of_succ_lt h⟩ d := by
      rw [(dats m 0 c).before_of_pos 4 ⟨n + 1, h⟩ (Nat.succ_ne_zero n) ((cfg0.win 4).fetch_out rfl _), flush_4]
      exact if_neg (by rw [beq_iff_eq]; show ¬n % 4 = 3; omega)
    have r : rowsAt m c n (Nat.lt_of_succ_lt h) = rowsAt m c (n + 1) h := by
      unfold rowsAt
      rw [firstPt_later n h h0]
    rw [e, ← r]
    unfold Dat.left
    rw [idle_4]
    by_cases hn : n % 4 = 0
    · rw [show (!(n % 4 == 0)) = false by rw [hn]; rfl]
      exact (Pipeline.fill_of_clip_none 4 _ (fun _ => rfl) _ _ _).trans ((cfg0.win 4).fill_cut _ ((dats m 0 c).after 4 ⟨n, Nat.lt_of_succ_lt h⟩))
    · rw [show (!(n % 4 == 0)) = true by rw [Bool.not_eq_true', beq_eq_false_iff_ne]; exact hn]
      exact before_4 c d n (Nat.lt_of_succ_lt h) hn

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d))
    ∗ (∃ d, owns (c : Thread nD τ) (stage_4 t) fullShare ((dats m 0 c).before 4 t d)))

/-- How a point hands the second result's buffer back: a later point that does not write it back, as it found it. -/
def handsBack (c : Dev nD) (t : Fin cfg0.N) : sProp 𝕄 :=
  match cfg0.idle 4 (grid0.coords t) with
  | true =>
    match (cfg0.win 4).flush t with
    | false => iprop(∃ d, owns (c : Thread nD τ) (stage_4 t) fullShare ((dats m 0 c).before 4 t d))
    | true => owns (c : Thread nD τ) (stage_4 t) fullShare ((dats m 0 c).after 4 t)
  | false => owns (c : Thread nD τ) (stage_4 t) fullShare ((dats m 0 c).after 4 t)

theorem hands_back (c : Dev nD) (t : Fin cfg0.N) :
    (owns (c : Thread nD τ) (stage_4 t) fullShare ((dats m 0 c).after 4 t) : sProp 𝕄) ⊢ handsBack m c t := by
  unfold handsBack
  cases hi : cfg0.idle 4 (grid0.coords t) with
  | false => exact Idealize.SL.BI.Entails.refl _
  | true =>
    cases hf : (cfg0.win 4).flush t with
    | true => exact Idealize.SL.BI.Entails.refl _
    | false =>
      have h0 : ¬t.val % 4 = 0 := fun h => by rw [idle_4, h] at hi; exact Bool.false_ne_true hi
      dsimp only
      iintro H
      iexists (rowsAt m c t.val t.isLt)
      rw [before_4 m c _ t.val t.isLt h0, after_4]
      iexact H

/-- What the body returns at point `t`. -/
def post (c : Dev nD) (t : Fin cfg0.N) : sProp 𝕄 :=
  iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ owns (c : Thread nD τ) (stage_4 t) fullShare ((dats m 0 c).after 4 t))

theorem post_back (c : Dev nD) (t : Fin cfg0.N) :
    post m c t ⊢ iprop((dats m 0 c).Φ t.succ ∗ (dats m 0 c).owesAt () t.succ
    ∗ owns (c : Thread nD τ) (stage_0 t) fullShare ((dats m 0 c).after 0 t)
    ∗ owns (c : Thread nD τ) (stage_1 t) fullShare ((dats m 0 c).after 1 t)
    ∗ owns (c : Thread nD τ) (stage_2 t) fullShare ((dats m 0 c).after 2 t)
    ∗ owns (c : Thread nD τ) (stage_3 t) fullShare ((dats m 0 c).after 3 t)
    ∗ handsBack m c t) := by
  unfold post
  iintro ⟨HI, Ho, H0, H1, H2, H3, H4⟩
  isplitl [HI]; · iexact HI
  isplitl [Ho]; · iexact Ho
  isplitl [H0]; · iexact H0
  isplitl [H1]; · iexact H1
  isplitl [H2]; · iexact H2
  isplitl [H3]; · iexact H3
  iapply (hands_back m c t); iexact H4

set_option maxHeartbeats 1600000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).owesAt () t.succ = (dats m 0 c).owesAt () t.castSucc from rfl, after_0, after_1, after_2, after_3, after_4]
  rw [show (dats m 0 c).Φ t.succ = Inv m c (t.val + 1) t.isLt from rfl, Inv_succ, inv_castSucc m c t]
  by_cases h0 : t.val % 4 = 0
  · refine BIBase.Entails.trans (Inv_forget_frame m c t.val _ _) ?_
    rw [start_eq]
    unfold rowsAt keptAt
    rw [firstPt_of_first t h0]
    iintro ⟨⟨HS0, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ (iblk m c 0 t) (iblk m c 1 t) (iblk m c 2 t) Set.univ _ ((isFirst_iff t).mpr h0))
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4
  · rw [Inv_of_later m c t.val t.isLt h0]
    have hb : ∀ d, (dats m 0 c).before 4 t d = rowsAt m c t.val t.isLt := fun d => before_4 m c d t.val t.isLt h0
    simp only [hb]
    iintro ⟨⟨HS0, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (iblk m c 0 t) (iblk m c 1 t) (iblk m c 2 t) (keptAt m c t.val t.isLt) (rowsAt m c t.val t.isLt) Set.univ _ (fun h => h0 ((isFirst_iff t).mp h)))
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => post_back m c t

theorem inv_in (c : Dev nD) : Pipeline.ΦA spec0 c ⊢ (dats m 0 c).Φ 0 := by
  rw [show (dats m 0 c).Φ 0 = Inv m c 0 (Nat.zero_le _) from rfl]
  exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl]
  exact Inv_forget m c _ _

set_option backward.isDefEq.respectTransparency.types false in
/-- The run: every execution ends, the pipeline's arrays at what the points left, every semaphore at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

/-- The kernel ends, its arguments as they were and every semaphore at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.PeerQIdeal.Gen

end
-- ==== Proof.PeerQ.lean ====
/- The retrieval's query projection and the normed tokens: rows over their root mean square, and those times the
weights' columns. The second result's block of rows is written back by the last of its four points. -/
module

public import proofs.«01_k».proof.Defs
public import proofs.«01_k».proof.Proof.MixerIn
public import proofs.«01_k».proof.Proof.PeerRun
public import proofs.«01_k».proof.Proof.Gen.PeerQReferenceIdeal.Run
public import proofs.«01_k».proof.Proof.Gen.PeerQReferenceIdeal.Read

@[expose] public section

set_option maxRecDepth 16384

noncomputable section

namespace Cert.PeerQReferenceIdeal.Read

open Cert.PeerQReferenceIdeal Cert.PeerQReferenceIdeal.Gen Idealize.ShloMosaic Idealize.ShloMosaic.TcCoe

/-- The normed tokens at an index. -/
theorem norm_at (x : Vec Ideal S8192x2048 .f32) (w : Vec Ideal S2048 .f32) (a : Fin 8192) (d : Fin 2048) :
    val_main_v15 (F := Ideal) x w (ix2 a d) = Norm.normed (fun k => x (ix2 a k)) (fun k => w (ix1 k)) d :=
  Cert.MixerInReferenceIdeal.Read.norm_at x w a d

/-- The queries at an index. -/
theorem result_at (x : Vec Ideal S8192x2048 .f32) (w : Vec Ideal S2048 .f32) (p : Vec Ideal S2048x2048 .f32) (a : Fin 8192) (d : Fin 2048) :
    val_main_v14 (F := Ideal) x w p (ix2 a d)
      = ∑ k : Fin 2048, Norm.normed (fun k => x (ix2 a k)) (fun k => w (ix1 k)) k * (p (ix2 k d) : EReal) := by
  pointwise [val_main_v14, val_main_v13]
  exact Finset.sum_congr rfl fun k _ => congrArg (· * (p (ix2 k d) : EReal)) (norm_at x w a k)

end Cert.PeerQReferenceIdeal.Read

namespace Cert.PeerQIdeal.Gen

open Cert.PeerQIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 4, 0] := by decide +kernel
theorem index_1 : ∀ t : Fin cfg0.N, win0_1.index t = ![0, 0] := by decide +kernel
theorem index_2 : ∀ t : Fin cfg0.N, win0_2.index t = ![0, t.val % 4] := by decide +kernel
theorem index_3 : ∀ t : Fin cfg0.N, win0_3.index t = ![t.val / 4, t.val % 4] := by decide +kernel
theorem index_4 : ∀ t : Fin cfg0.N, win0_4.index t = ![t.val / 4, 0] := by decide +kernel

theorem pt_lt (t : Fin cfg0.N) : t.val < 32 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x2048 .f32 := m ((c : Thread nD τ).loc main_arg2)

theorem x_block (c : Dev nD) (t : Fin cfg0.N) (a : Fin 1024) (k : Fin 2048) :
    iblk m c 0 t (ix2 a k) = states m c (ix2 ⟨1024 * (t.val / 4) + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  blk_simp [iblk, index_1 t]
  entry_read
  pointwise
  blk_ext [index_1 t]

theorem w_block (c : Dev nD) (t : Fin cfg0.N) (k : Fin 2048) (d : Fin 512) :
    iblk m c 2 t (ix2 k d) = weights m c (ix2 k ⟨512 * (t.val % 4) + d.val, by omega⟩) := by
  have := pt_lt t
  blk_simp [iblk, index_2 t]
  entry_read
  pointwise
  blk_ext [index_2 t]

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d := by
  unfold_payloads
  pointwise
  rfl

/-- The first point of a block of rows stages the rows of all its points. -/
theorem rows_eq (c : Dev nD) (t : Fin cfg0.N) (a : Fin 1024) (d : Fin 2048) : rowsAt m c t.val t.isLt (ix2 a d)
    = Norm.normed (fun k => states m c (ix2 ⟨1024 * (t.val / 4) + a.val, by have := pt_lt t; omega⟩ k)) (fun k => scales m c (ix1 k)) d := by
  have q : (firstPt t.val t.isLt).val / 4 = t.val / 4 := Nat.mul_div_left (t.val / 4) (by norm_num)
  unfold rowsAt
  rw [rows_at]
  simp only [x_block, s_block, q]

/-- The scratch array has the same rows. -/
theorem kept_eq (c : Dev nD) (t : Fin cfg0.N) : keptAt m c t.val t.isLt = rowsAt m c t.val t.isLt := by
  unfold keptAt rowsAt k0_pay2
  exact shapeCast_self _ _

theorem block_at (xn : Vec Ideal S1024x2048 .bf16) (w : Vec Ideal S2048x512 .bf16) (a : Fin 1024) (d : Fin 512) :
    k0_pay3 xn w (ix2 a d) = ∑ k : Fin 2048, (xn (ix2 a k) : EReal) * (w (ix2 k d) : EReal) := by
  unfold_payloads
  pointwise

/-- The first result's array. -/
theorem queries_eq (c : Dev nD) : (dats m 0 c).arrAt 3 (cfgs 0).N = Cert.PeerQReferenceIdeal.Read.val_main_v14 (F := Ideal) (states m c) (scales m c) (weights m c) := by
  refine (dats m 0 c).arrAt_eq_of_covers 3 _ (by decide +kernel) fun t hf y => ?_
  have := pt_lt t
  blk_simp
  rw [after_3, kept_eq]
  idx_vars y
  have e : ((cfg0.win 3).blk t).view.emb (ix2 y0 y1) = ix2 ⟨1024 * (t.val / 4) + y0.val, by omega⟩ ⟨512 * (t.val % 4) + y1.val, by omega⟩ := by
    blk_ext [index_3 t]
  rw [block_at, e, Cert.PeerQReferenceIdeal.Read.result_at]
  simp only [rows_eq, w_block]

/-- The second result's array. -/
theorem tokens_eq (c : Dev nD) : (dats m 0 c).arrAt 4 (cfgs 0).N = Cert.PeerQReferenceIdeal.Read.val_main_v15 (F := Ideal) (states m c) (scales m c) := by
  refine (dats m 0 c).arrAt_eq_of_covers 4 _ (by decide +kernel) fun t hf y => ?_
  have := pt_lt t
  blk_simp
  rw [after_4]
  idx_vars y
  have e : ((cfg0.win 4).blk t).view.emb (ix2 y0 y1) = ix2 ⟨1024 * (t.val / 4) + y0.val, by omega⟩ y1 := by
    blk_ext [index_4 t]
  rw [e, rows_eq, Cert.PeerQReferenceIdeal.Read.norm_at]

/-- The kernel and the reference leave the same results. -/
theorem equal : Cert.algebraic_PeerQIdeal_PeerQReferenceIdeal (hPeerQIdeal := Cert.PeerQIdeal.Gen.facts)
    (hPeerQReferenceIdeal := Cert.PeerQReferenceIdeal.Gen.facts) := by
  intro m g m' g' _ same
  refine ⟨_, _, (θ_run defs _ _).mono
    (fun r h c => ⟨((h.1.1 c).1 3).trans (queries_eq m c), ((h.1.1 c).1 4).trans (tokens_eq m c), h.2.1 c⟩)
    (θ_run_and (run m g) (ends m g)), ?_⟩
  refine (θ_run Cert.PeerQReferenceIdeal.defs _ _).mono (fun r h c => ⟨(h c).1.trans ?_, (h c).2.1.trans ?_, (h c).2.2⟩) (Cert.PeerQReferenceIdeal.Value.run (F := Ideal) m' g')
  · rw [Cert.PeerQReferenceIdeal.Read.val_main_v14_eq, (same c).1, (same c).2.1, (same c).2.2]
  · rw [Cert.PeerQReferenceIdeal.Read.val_main_v15_eq, (same c).1, (same c).2.1]

end Cert.PeerQIdeal.Gen

end
-- ==== Proof.Exact.PeerQ.lean ====
/- The retrieval's query call as compiled: its text is the idealized one's, so the run of the one is the run of the other. -/
module

public import proofs.«01_k».proof.Defs
public import proofs.«01_k».proof.Proof.PeerRun
public import proofs.«01_k».proof.Proof.Gen.PeerQ.Frame

@[expose] public section

set_option maxRecDepth 16384

namespace Cert.PeerQ.Gen

open Idealize.ShloMosaic

/-- The two programs' bodies are one function of the point and the staging buffers. -/
theorem same_body : @Cert.PeerQ.defs₀ Bits _ facts = @Cert.PeerQIdeal.defs₀ Bits _ Cert.PeerQIdeal.Gen.facts := by
  unfold Cert.PeerQ.defs₀ Cert.PeerQIdeal.defs₀
  refine congrArg (Defs.onTc (nD := nD) (τ := τ) (sig := sig) (Val := Elt Bits) (Λ := Λ₀)) ?_
  funext l x
  obtain ⟨n, h⟩ := l
  cases n with
  | zero => rfl
  | succ n => exact absurd h (Nat.not_lt.2 (Nat.le_add_left _ _))

theorem same_defs : @Cert.PeerQ.defs Bits _ facts = @Cert.PeerQIdeal.defs Bits _ Cert.PeerQIdeal.Gen.facts :=
  congrArg (Pipeline.defs (pcfgs (F := Bits))) same_body

theorem ends : Cert.quiescent_PeerQ (hPeerQ := facts) := fun m g _ => by
  rw [same_defs]
  exact Cert.PeerQIdeal.Gen.ends (F := Bits) m g

end Cert.PeerQ.Gen

end
-- ==== Proof.Ple.lean ====
/- The per-layer embedding: the two residuals' sum, plus its norm's gate times the embedding's projection.

Point `t` is block `t % 4` of 512 columns of block `t / 4` of 512 rows. The first point of a block of rows stores the
sum and its norm into two scratch arrays, which the others keep. -/
module

public import Idealize.ShloMosaic.Lib.VecWindow
public import proofs.«01_k».proof.Defs
public import proofs.«01_k».proof.Proof.Norm
public import proofs.«01_k».proof.Proof.Gen.PleIdeal.Value
public import proofs.«01_k».proof.Proof.Gen.PleReferenceIdeal.Read

@[expose] public section

set_option maxRecDepth 16384

noncomputable section

namespace Cert.PleReferenceIdeal.Read

open Cert.PleReferenceIdeal Cert.PleReferenceIdeal.Gen Idealize.ShloMosaic Idealize.ShloMosaic.TcCoe

variable (x y : Vec Ideal S8192x2048 .f32) (w : Vec Ideal S2048 .f32) (wg : Vec Ideal S2048x2048 .f32) (bg : Vec Ideal S2048 .f32)
  (p : Vec Ideal S8192x256 .f32) (wp : Vec Ideal S256x2048 .f32)

theorem norm_at (a : Fin 8192) (d : Fin 2048) :
    val_main_v13 (F := Ideal) x y w (ix2 a d) = Norm.normed (fun k => (x (ix2 a k) : EReal) + (y (ix2 a k) : EReal)) (fun k => w (ix1 k)) d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference at an index. -/
theorem result_at (a : Fin 8192) (d : Fin 2048) :
    val_main_v26 (F := Ideal) x y w wg bg p wp (ix2 a d) = ((x (ix2 a d) : EReal) + (y (ix2 a d) : EReal))
      + Ideal.logistic ((∑ k : Fin 2048, Norm.normed (fun k => (x (ix2 a k) : EReal) + (y (ix2 a k) : EReal)) (fun k => w (ix1 k)) k * (wg (ix2 k d) : EReal)) + (bg (ix1 d) : EReal))
        * ∑ k : Fin 256, (p (ix2 a k) : EReal) * (wp (ix2 k d) : EReal) := by
  pointwise [val_main_v26, val_main_v25, val_main_v24, val_main_v23, val_main_v22, val_main_v21, val_main_v20, val_main_v19, val_main_v18, val_main_v17, val_main_v16, val_main_v15, val_main_v14, val_main_v0, val_main_cst_2, val_main_cst_3]
  simp only [norm_at, Ideal.ofBits_one_f32]
  rfl

end Cert.PleReferenceIdeal.Read

namespace Cert.PleIdeal.Gen

open Cert.PleIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val / 4, 0] := by decide +kernel
theorem index_1 : ∀ t : Fin cfg0.N, win0_1.index t = ![t.val / 4, 0] := by decide +kernel
theorem index_2 : ∀ t : Fin cfg0.N, win0_2.index t = ![0, 0] := by decide +kernel
theorem index_3 : ∀ t : Fin cfg0.N, win0_3.index t = ![0, t.val % 4] := by decide +kernel
theorem index_4 : ∀ t : Fin cfg0.N, win0_4.index t = ![0, t.val % 4] := by decide +kernel
theorem index_5 : ∀ t : Fin cfg0.N, win0_5.index t = ![t.val / 4, 0] := by decide +kernel
theorem index_6 : ∀ t : Fin cfg0.N, win0_6.index t = ![0, t.val % 4] := by decide +kernel
theorem index_7 : ∀ t : Fin cfg0.N, win0_7.index t = ![t.val / 4, t.val % 4] := by decide +kernel
theorem column : ∀ t : Fin cfg0.N, k0_off1 (grid0.coords t) = ![0, 512 * (t.val % 4)] := by decide +kernel

theorem pt_lt (t : Fin cfg0.N) : t.val < 64 := lt_of_lt_of_eq t.isLt N_0

abbrev states (c : Dev nD) : Vec Ideal S8192x2048 .f32 := m ((c : Thread nD τ).loc main_arg0)
abbrev change (c : Dev nD) : Vec Ideal S8192x2048 .f32 := m ((c : Thread nD τ).loc main_arg1)
abbrev scales (c : Dev nD) : Vec Ideal S2048 .f32 := m ((c : Thread nD τ).loc main_arg2)
abbrev gates (c : Dev nD) : Vec Ideal S2048x2048 .f32 := m ((c : Thread nD τ).loc main_arg3)
abbrev bias (c : Dev nD) : Vec Ideal S2048 .f32 := m ((c : Thread nD τ).loc main_arg4)
abbrev embedding (c : Dev nD) : Vec Ideal S8192x256 .f32 := m ((c : Thread nD τ).loc main_arg5)
abbrev weights (c : Dev nD) : Vec Ideal S256x2048 .f32 := m ((c : Thread nD τ).loc main_arg6)

theorem x_block (c : Dev nD) (t : Fin cfg0.N) (a : Fin 512) (k : Fin 2048) :
    iblk m c 0 t (ix2 a k) = states m c (ix2 ⟨512 * (t.val / 4) + a.val, by have := pt_lt t; omega⟩ k) := by
  have := pt_lt t
  blk_ext [iblk, V, index_0 t]

theorem y_block (c : Dev nD) (t : Fin cfg0.N) (a : Fin 512) (k : Fin 2048) :
    iblk m c 1 t (ix2 a k) = change m c (ix2 ⟨512 * (t.val / 4) + a.val, by have := pt_lt t; omega⟩ k) := by
  have := pt_lt t
  blk_ext [iblk, V, index_1 t]

theorem s_block (c : Dev nD) (t : Fin cfg0.N) (k : Fin 2048) : iblk m c 2 t (ix2 0 k) = scales m c (ix1 k) := by
  have := pt_lt t
  blk_simp [iblk, index_2 t]
  entry_read
  pointwise
  blk_ext [index_2 t]

theorem g_block (c : Dev nD) (t : Fin cfg0.N) (k : Fin 2048) (d : Fin 512) :
    iblk m c 3 t (ix2 k d) = gates m c (ix2 k ⟨512 * (t.val % 4) + d.val, by omega⟩) := by
  have := pt_lt t
  blk_simp [iblk, index_3 t]
  entry_read
  pointwise
  blk_ext [index_3 t]

theorem b_block (c : Dev nD) (t : Fin cfg0.N) (d : Fin 512) :
    iblk m c 4 t (ix2 0 d) = bias m c (ix1 ⟨512 * (t.val % 4) + d.val, by omega⟩) := by
  have := pt_lt t
  blk_simp [iblk, index_4 t]
  entry_read
  pointwise
  blk_ext [index_4 t]

theorem p_block (c : Dev nD) (t : Fin cfg0.N) (a : Fin 512) (k : Fin 256) :
    iblk m c 5 t (ix2 a k) = embedding m c (ix2 ⟨512 * (t.val / 4) + a.val, by have := pt_lt t; omega⟩ k) := by
  have := pt_lt t
  blk_simp [iblk, index_5 t]
  entry_read
  pointwise
  blk_ext [index_5 t]

theorem w_block (c : Dev nD) (t : Fin cfg0.N) (k : Fin 256) (d : Fin 512) :
    iblk m c 6 t (ix2 k d) = weights m c (ix2 k ⟨512 * (t.val % 4) + d.val, by omega⟩) := by
  have := pt_lt t
  blk_simp [iblk, index_6 t]
  entry_read
  pointwise
  blk_ext [index_6 t]

/-- A point's columns of a whole block of rows. -/
abbrev columns (h : Vec Ideal S512x2048 .f32) (i : grid0.Coords) : Vec Ideal S512x512 .f32 :=
  View.ld h (Rect.unit (s := S512x2048) (k0_off1 i) S512x512.size (k0_off1_inb i))

section Cases

variable (c : Dev nD) (i : grid0.Coords) (a2 : Memref sig .tc .vmem S512x2048 .f32) (h2 : a2.IsWhole) (a3 : Memref sig .tc .vmem S512x2048 .f32) (h3 : a3.IsWhole)
  (a4 : Memref sig .tc .vmem S1x2048 .f32) (h4 : a4.IsWhole) (a5 : Memref sig .tc .vmem S2048x512 .bf16) (h5 : a5.IsWhole)
  (a6 : Memref sig .tc .vmem S1x512 .f32) (h6 : a6.IsWhole) (a7 : Memref sig .tc .vmem S512x256 .bf16) (h7 : a7.IsWhole)
  (a8 : Memref sig .tc .vmem S256x512 .bf16) (h8 : a8.IsWhole) (a9 : Memref sig .tc .vmem S512x512 .f32) (h9 : a9.IsWhole)
  (a10 : Memref sig .tc .vmem S512x2048 .f32) (h10 : a10.IsWhole) (a11 : Memref sig .tc .vmem S512x2048 .bf16) (h11 : a11.IsWhole)
  (x y : Vec Ideal S512x2048 .f32) (s : Vec Ideal S1x2048 .f32) (wg : Vec Ideal S2048x512 .bf16) (bg : Vec Ideal S1x512 .f32)
  (p : Vec Ideal S512x256 .bf16) (wp : Vec Ideal S256x512 .bf16) (h : Vec Ideal S512x2048 .f32) (xn : Vec Ideal S512x2048 .bf16)

/-- The two scratch arrays after the first point of a block of rows. -/
theorem sum_A (hc : cond0_0 i) : sout0_A_0 c i a2 h2 a3 h3 a4 h4 a5 h5 a6 h6 a7 h7 a8 h8 a9 h9 a10 h10 a11 h11 hc x y s wg bg p wp = k0_pay2 x y := by
  unfold sout0_A_0
  rw [View.read_writes_eq_canon _ _ _ (scover0_A_0 c i a2 h2 a3 h3 a4 h4 a5 h5 a6 h6 a7 h7 a8 h8 a9 h9 a10 h10 a11 h11 hc x y s wg bg p wp)]
  unfold kernelRun0_A
  dsimp only
  sl_unfold_words
  rw [View.canon_unit_zero Norm.off2]
  simp only [View.readAt_eq_ld, h2.read_unread, h3.read_unread, View.ld_unit_zero (S := S512x2048) Norm.off2]

theorem norm_A (hc : cond0_0 i) : sout0_A_1 c i a2 h2 a3 h3 a4 h4 a5 h5 a6 h6 a7 h7 a8 h8 a9 h9 a10 h10 a11 h11 hc x y s wg bg p wp = k0_pay3 x y s := by
  unfold sout0_A_1
  rw [View.read_writes_eq_canon _ _ _ (scover0_A_1 c i a2 h2 a3 h3 a4 h4 a5 h5 a6 h6 a7 h7 a8 h8 a9 h9 a10 h10 a11 h11 hc x y s wg bg p wp)]
  unfold kernelRun0_A
  dsimp only
  sl_unfold_words
  rw [View.canon_unit_zero Norm.off2]
  simp only [View.readAt_eq_ld, h2.read_unread, h3.read_unread, h4.read_unread, View.ld_unit_zero (S := S512x2048) Norm.off2, View.ld_unit_zero (S := S1x2048) Norm.off2]

theorem read_whole {sg : RefSig} {ki : Kind} {sp : Space} (v : View sg ki sp S512x2048 .f32) (h : Vec Ideal S512x2048 .f32) (hb) :
    View.read (Elt Ideal) v (v.writes (Elt Ideal) v.junk [⟨Rect.unit (s := S512x2048) ![0, 0] S512x2048.size hb, h⟩]) = h :=
  View.read_writes_full v v.junk hb h []

theorem block_A (hc : cond0_0 i) : out0_A_7 c i a2 h2 a3 h3 a4 h4 a5 h5 a6 h6 a7 h7 a8 h8 a9 h9 a10 h10 a11 h11 hc x y s wg bg p wp
    = k0_pay4 (k0_pay3 x y s) wg bg p wp (columns (k0_pay2 x y) i) := by
  unfold out0_A_7
  rw [View.read_writes_eq_canon _ _ _ (cover0_A_7 c i a2 h2 a3 h3 a4 h4 a5 h5 a6 h6 a7 h7 a8 h8 a9 h9 a10 h10 a11 h11 hc x y s wg bg p wp)]
  unfold kernelRun0_A
  dsimp only
  sl_unfold_words
  rw [View.canon_unit_zero Norm.off2, View.readCov_unit_zero (S := S512x2048) _ Norm.off2]
  simp only [View.readAt_eq_ld, h2.read_unread, h3.read_unread, h4.read_unread, h5.read_unread, h6.read_unread, h7.read_unread, h8.read_unread,
    View.ld_unit_zero (S := S512x2048) Norm.off2, View.ld_unit_zero (S := S1x2048) Norm.off2, View.ld_unit_zero (S := S2048x512) Norm.off2,
    View.ld_unit_zero (S := S1x512) Norm.off2, View.ld_unit_zero (S := S512x256) Norm.off2, View.ld_unit_zero (S := S256x512) Norm.off2]
  exact congrArg (fun z => k0_pay4 (k0_pay3 x y s) wg bg p wp (columns z i)) (read_whole a10.view (k0_pay2 x y) _)

theorem block_B (hc : ¬cond0_0 i) : out0_B_7 c i a2 h2 a3 h3 a4 h4 a5 h5 a6 h6 a7 h7 a8 h8 a9 h9 a10 h10 a11 h11 hc x y s wg bg p wp h xn
    = k0_pay4 xn wg bg p wp (columns h i) := by
  unfold out0_B_7
  rw [View.read_writes_eq_canon _ _ _ (cover0_B_7 c i a2 h2 a3 h3 a4 h4 a5 h5 a6 h6 a7 h7 a8 h8 a9 h9 a10 h10 a11 h11 hc x y s wg bg p wp h xn)]
  unfold kernelRun0_B
  dsimp only
  rw [View.canon_unit_zero Norm.off2]
  simp only [View.readAt_eq_ld, h5.read_unread, h6.read_unread, h7.read_unread, h8.read_unread, h10.read_unread, h11.read_unread,
    View.ld_unit_zero (S := S512x2048) Norm.off2, View.ld_unit_zero (S := S2048x512) Norm.off2,
    View.ld_unit_zero (S := S1x512) Norm.off2, View.ld_unit_zero (S := S512x256) Norm.off2, View.ld_unit_zero (S := S256x512) Norm.off2]

end Cases

/-- The sum's rows at a point, and their norm. -/
abbrev sums (c : Dev nD) (t : Fin cfg0.N) : Vec Ideal S512x2048 .f32 := k0_pay2 (iblk m c 0 t) (iblk m c 1 t)
abbrev rows (c : Dev nD) (t : Fin cfg0.N) : Vec Ideal S512x2048 .bf16 := k0_pay3 (iblk m c 0 t) (iblk m c 1 t) (iblk m c 2 t)

theorem sums_at (x y : Vec Ideal S512x2048 .f32) (a : Fin 512) (d : Fin 2048) :
    k0_pay2 x y (ix2 a d) = (x (ix2 a d) : EReal) + (y (ix2 a d) : EReal) := by
  unfold_payloads
  pointwise

theorem rows_at (x y : Vec Ideal S512x2048 .f32) (s : Vec Ideal S1x2048 .f32) (a : Fin 512) (d : Fin 2048) :
    k0_pay3 x y s (ix2 a d) = Norm.normed (fun k => (x (ix2 a k) : EReal) + (y (ix2 a k) : EReal)) (fun k => s (ix2 0 k)) d := by
  unfold_payloads
  pointwise
  rfl

theorem sums_eq (c : Dev nD) (t : Fin cfg0.N) (a : Fin 512) (d : Fin 2048) : sums m c t (ix2 a d)
    = (states m c (ix2 ⟨512 * (t.val / 4) + a.val, by have := pt_lt t; omega⟩ d) : EReal)
      + (change m c (ix2 ⟨512 * (t.val / 4) + a.val, by have := pt_lt t; omega⟩ d) : EReal) := by
  unfold sums
  rw [sums_at]
  simp only [x_block, y_block]

theorem rows_eq (c : Dev nD) (t : Fin cfg0.N) (a : Fin 512) (d : Fin 2048) : rows m c t (ix2 a d)
    = Norm.normed (fun k => (states m c (ix2 ⟨512 * (t.val / 4) + a.val, by have := pt_lt t; omega⟩ k) : EReal)
        + (change m c (ix2 ⟨512 * (t.val / 4) + a.val, by have := pt_lt t; omega⟩ k) : EReal)) (fun k => scales m c (ix1 k)) d := by
  unfold rows
  rw [rows_at]
  simp only [x_block, y_block, s_block]

theorem kept_same (c : Dev nD) (n : ℕ) (h : n + 1 < cfg0.N) (e : ¬(n + 1) % 4 = 0) :
    (sums m c ⟨n + 1, h⟩, rows m c ⟨n + 1, h⟩) = (sums m c ⟨n, Nat.lt_of_succ_lt h⟩, rows m c ⟨n, Nat.lt_of_succ_lt h⟩) := by
  have q : (n + 1) / 4 = n / 4 := by omega
  refine Prod.ext ?_ ?_
  · funext y
    idx_vars y
    rw [sums_eq, sums_eq]
    simp only [q]
  · funext y
    idx_vars y
    rw [rows_eq, rows_eq]
    simp only [q]

/-- The scratch arrays after every point. -/
theorem scratch_eq (c : Dev nD) : ∀ (n : ℕ) (h : n < cfg0.N), (outsAt0 m c n h).2 = (sums m c ⟨n, h⟩, rows m c ⟨n, h⟩) :=
  Norm.carried (fun n h => (outsAt0 m c n h).2) (fun t => (sums m c t, rows m c t))
    (fun t e => by rw [outsAt0_A m c t e]; dsimp only; rw [sum_A, norm_A])
    (fun n h e => by rw [outsAt0_B m c ⟨n + 1, h⟩ e]; rfl)
    (kept_same m c)

/-- The result's block after every point. -/
theorem block_eq (c : Dev nD) (t : Fin cfg0.N) : (outsAt0 m c t.val t.isLt).1
    = k0_pay4 (rows m c t) (iblk m c 3 t) (iblk m c 4 t) (iblk m c 5 t) (iblk m c 6 t) (columns (sums m c t) (grid0.coords t)) := by
  by_cases e : t.val % 4 = 0
  · rw [outsAt0_A m c t e]
    dsimp only
    rw [block_A]
  · obtain ⟨n, h⟩ := t
    cases n with
    | zero => exact absurd (Nat.zero_mod 4) e
    | succ n =>
      rw [outsAt0_B m c ⟨n + 1, h⟩ e]
      dsimp only
      rw [block_B]
      have k := (scratch_eq m c n (Nat.lt_of_succ_lt h)).trans (kept_same m c n h e).symm
      exact congrArg₂ (fun r s => k0_pay4 r _ _ _ _ (columns s _)) (congrArg Prod.snd k) (congrArg Prod.fst k)

theorem block_at (xn : Vec Ideal S512x2048 .bf16) (wg : Vec Ideal S2048x512 .bf16) (bg : Vec Ideal S1x512 .f32)
    (p : Vec Ideal S512x256 .bf16) (wp : Vec Ideal S256x512 .bf16) (h : Vec Ideal S512x512 .f32) (a : Fin 512) (d : Fin 512) :
    k0_pay4 xn wg bg p wp h (ix2 a d) = (h (ix2 a d) : EReal)
      + Ideal.logistic ((∑ k : Fin 2048, (xn (ix2 a k) : EReal) * (wg (ix2 k d) : EReal)) + (bg (ix2 0 d) : EReal))
        * ∑ k : Fin 256, (p (ix2 a k) : EReal) * (wp (ix2 k d) : EReal) := by
  unfold_payloads
  pointwise

theorem columns_at (h : Vec Ideal S512x2048 .f32) (t : Fin cfg0.N) (a : Fin 512) (d : Fin 512) :
    columns h (grid0.coords t) (ix2 a d) = h (ix2 a ⟨512 * (t.val % 4) + d.val, by omega⟩) := by
  unfold columns
  refine View.ld_unit_apply_of h _ _ _ _ _ fun k => ?_
  refine Eq.trans ?_ (congrArg (· + (ix2 a d k).val) (congrFun (column t) k)).symm
  match k with
  | ⟨0, _⟩ => exact (Nat.zero_add _).symm
  | ⟨1, _⟩ => rfl

/-- The result array. -/
theorem result_eq (c : Dev nD) : (dats m 0 c).arrAt 7 (cfgs 0).N
    = Cert.PleReferenceIdeal.Read.val_main_v26 (F := Ideal) (states m c) (change m c) (scales m c) (gates m c) (bias m c) (embedding m c) (weights m c) := by
  refine (dats m 0 c).arrAt_eq_of_covers 7 _ (by decide +kernel) fun t hf y => ?_
  have := pt_lt t
  blk_simp
  rw [after0_7, block_eq]
  idx_vars y
  have e : ((cfg0.win 7).blk t).view.emb (ix2 y0 y1) = ix2 ⟨512 * (t.val / 4) + y0.val, by omega⟩ ⟨512 * (t.val % 4) + y1.val, by omega⟩ := by
    blk_ext [index_7 t]
  rw [block_at, columns_at, e, Cert.PleReferenceIdeal.Read.result_at]
  simp only [rows_eq, sums_eq, g_block, b_block, p_block, w_block]

/-- The kernel and the reference leave the same result. -/
theorem equal : Cert.algebraic_PleIdeal_PleReferenceIdeal (hPleIdeal := Cert.PleIdeal.Gen.facts)
    (hPleReferenceIdeal := Cert.PleReferenceIdeal.Gen.facts) := by
  intro m g m' g' _ same
  refine ⟨_, (θ_run defs _ _).mono (fun r h c => ⟨(h c).1.trans (result_eq m c), (h c).2⟩) (Value.run_blocks m g), ?_⟩
  refine (θ_run Cert.PleReferenceIdeal.defs _ _).mono (fun r h c => ⟨(h c).1.trans ?_, (h c).2⟩) (Cert.PleReferenceIdeal.Value.run (F := Ideal) m' g')
  rw [Cert.PleReferenceIdeal.Read.val_main_v26_eq, (same c).1, (same c).2.1, (same c).2.2.1, (same c).2.2.2.1, (same c).2.2.2.2.1, (same c).2.2.2.2.2.1, (same c).2.2.2.2.2.2]

end Cert.PleIdeal.Gen

end
-- ==== Proof.Padded.lean ====
/- Matrices with columns of noughts added on their right. -/
module

public import Idealize.ShloMosaic.Lib.Pipeline.Value
public import Idealize.ShloMosaic.Lib.Pipeline.ValueKit
public import Idealize.ShloMosaic.Lib.Pointwise
public import Idealize.ShloMosaic.Lib.KernelVsHost
public import Idealize.ShloMosaic.PureOps.Ideal.Laws

@[expose] public section

noncomputable section

namespace Cert.Padded

open Idealize.ShloMosaic

/-- A matrix with columns added on its right, at an index. -/
theorem pad_right {α : Type} {n c p t : ℕ} (x : (⟨2, ![n, c]⟩ : Shape).Idx → α) {u : Shape} (v : u.Idx → α)
    (h : (⟨2, ![n, c]⟩ : Shape).Pads (![0, 0] : Fin 2 → ℕ) ![0, p] ![0, 0] ⟨2, ![n, t]⟩) (hu : 0 < u.numel) (a : Fin n) (d : Fin t) :
    pad ⟨2, ![n, t]⟩ ![0, 0] ![0, p] ![0, 0] x v h hu (ix2 a d) = if e : d.val < c then x (ix2 a ⟨d.val, e⟩) else v (Shape.Idx.first hu) := by
  by_cases e : d.val < c
  · rw [dif_pos e]
    exact pad_apply_of_inside _ _ _ x v h hu _ (ix2 a ⟨d.val, e⟩) fun b => match b with
      | ⟨0, _⟩ => by show a.val = 0 + a.val * (0 + 1); omega
      | ⟨1, _⟩ => by show d.val = 0 + d.val * (0 + 1); omega
  · rw [dif_neg e]
    exact pad_apply_of_not_inside _ _ _ x v h hu _ (1 : Fin 2) (by show ¬(0 ≤ d.val ∧ (d.val - 0) % (0 + 1) = 0 ∧ (d.val - 0) / (0 + 1) < c); omega)

/-- A product with weights of which some columns are nought. -/
theorem sum_padded (f : Fin 2048 → EReal) {p : Prop} [Decidable p] (w : p → Fin 2048 → EReal) :
    ∑ k : Fin 2048, f k * (if e : p then w e k else 0) = if e : p then ∑ k : Fin 2048, f k * w e k else 0 := by
  by_cases e : p
  · simp only [dif_pos e]
  · simp only [dif_neg e, mul_zero, Finset.sum_const_zero]

end Cert.Padded

end
-- ==== Proof.MixerDt.lean ====
/- The mixer's step sizes before their bias: rows over their root mean square, times the weights' last 64 columns, with 64
columns of noughts added.

Point `t` is block `t` of 1024 rows. -/
module

public import proofs.«01_k».proof.Proof.MixerIn
public import proofs.«01_k».proof.Proof.Padded
public import proofs.«01_k».proof.Proof.Gen.MixerDtIdeal.Value
public import proofs.«01_k».proof.Proof.Gen.MixerDtReferenceIdeal.Read

@[expose] public section

set_option maxRecDepth 16384

noncomputable section

namespace Cert.MixerDtReferenceIdeal.Read

open Cert.MixerDtReferenceIdeal Cert.MixerDtReferenceIdeal.Gen Idealize.ShloMosaic Idealize.ShloMosaic.TcCoe

theorem norm_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d :=
  Cert.MixerInReferenceIdeal.Read.norm_at x w a d

/-- The reference at an index. -/
theorem result_at (x : Vec Ideal S8192x2048 .f32) (w : Vec Ideal S2048 .f32) (p : Vec Ideal S2048x10304 .f32) (a : Fin 8192) (d : Fin 128) :
    val_main_v15 (F := Ideal) x w p (ix2 a d) = if e : d.val < 64 then
      ∑ k : Fin 2048, Norm.normed (fun k => x (ix2 a k)) (fun k => w (ix1 k)) k * (p (ix2 k ⟨10240 + d.val, by omega⟩) : EReal) else 0 := by
  refine (Padded.pad_right _ _ _ _ a d).trans (dite_congr rfl (fun e => ?_) fun _ => sitofp_zero (φ := .f32))
  pointwise [val_main_v14, val_main_v13]
  simp only [norm_at]

end Cert.MixerDtReferenceIdeal.Read

namespace Cert.MixerDtIdeal.Gen

open Cert.MixerDtIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

theorem pt_lt (t : Fin cfg0.N) : t.val < 8 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x10304 .f32 := m ((c : Thread nD τ).loc main_arg2)

theorem x_block (c : Dev nD) (t : Fin cfg0.N) (a : Fin 1024) (k : Fin 2048) :
    iblk m c 0 t (ix2 a k) = states m c (ix2 ⟨1024 * t.val + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  have e : ((cfg0.win 1).blk t).view.emb (ix2 0 k) = ix2 0 k := by
    blk_ext [index_1 t]
  refine (congrArg (V m c main_v3) e).trans ?_
  rw [show V m c main_v3 = shapeCast S1x2048 (scales m c) shapeCasts_S2048_S1x2048 by rfl]
  pointwise

/-- The weights as the kernel is given them: the last 64 columns, and noughts. -/
theorem columns (c : Dev nD) : V m c main_v2 = truncf .bf16 (pad S2048x128 ![0, 0] ![0, 64] ![0, 0]
    (extractStridedSlice S2048x64 ![0, 10240] (weights m c) slices_S2048x10304_S2048x64_0_10240)
    (sitofp .f32 (constantI S_ 32 0#32)) pads_S2048x64_S2048x128_000_0640 h_S_ : FVec Ideal S2048x128 .f32) bitsLt_bf16_f32 := by rfl

theorem w_block (c : Dev nD) (t : Fin cfg0.N) (k : Fin 2048) (d : Fin 128) :
    iblk m c 2 t (ix2 k d) = if e : d.val < 64 then (weights m c (ix2 k ⟨10240 + d.val, by omega⟩) : EReal) else 0 := by
  have := pt_lt t
  have e : ((cfg0.win 2).blk t).view.emb (ix2 k d) = ix2 k d := by
    blk_ext [index_2 t]
  refine (congrArg (V m c main_v2) e).trans ?_
  rw [columns]
  refine (Padded.pad_right _ _ pads_S2048x64_S2048x128_000_0640 h_S_ k d).trans (dite_congr rfl (fun e => ?_) fun _ => sitofp_zero (φ := .f32))
  pointwise

section Cases

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x128 .bf16) (h4 : a4.IsWhole) (a5 : Memref sig .tc .vmem S1024x128 .f32) (h5 : a5.IsWhole)
  (a6 : Memref sig .tc .vmem S1024x2048 .bf16) (h6 : a6.IsWhole)
  (x : Vec Ideal S1024x2048 .f32) (s : Vec Ideal S1x2048 .f32) (w : Vec Ideal S2048x128 .bf16)

theorem block_A (hc : cond0_0 i) : out0_A_3 c i a2 h2 a3 h3 a4 h4 a5 h5 a6 h6 hc x s w = k0_pay2 (k0_pay1 x s) w := by
  unfold out0_A_3
  rw [View.read_writes_eq_canon _ _ _ (cover0_A_3 c i a2 h2 a3 h3 a4 h4 a5 h5 a6 h6 hc x s w)]
  unfold kernelRun0_A
  dsimp only
  sl_unfold_words
  rw [View.canon_unit_zero Norm.off2, View.readCov_unit_zero (S := S1024x2048) _ Norm.off2]
  simp only [View.readAt_eq_ld, h2.read_unread, h3.read_unread, h4.read_unread, View.ld_unit_zero (S := S1024x2048) Norm.off2, View.ld_unit_zero (S := S1x2048) Norm.off2, View.ld_unit_zero (S := S2048x128) Norm.off2]

end Cases

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d :=
  Cert.MixerInIdeal.Gen.rows_at x s a d

theorem block_at (xn : Vec Ideal S1024x2048 .bf16) (w : Vec Ideal S2048x128 .bf16) (a : Fin 1024) (d : Fin 128) :
    k0_pay2 xn w (ix2 a d) = ∑ k : Fin 2048, (xn (ix2 a k) : EReal) * (w (ix2 k d) : EReal) := by
  unfold_payloads
  pointwise

/-- The result array. -/
theorem result_eq (c : Dev nD) : (dats m 0 c).arrAt 3 (cfgs 0).N = Cert.MixerDtReferenceIdeal.Read.val_main_v15 (F := Ideal) (states m c) (scales m c) (weights m c) := by
  refine (dats m 0 c).arrAt_eq_of_covers 3 _ (by decide +kernel) fun t hf y => ?_
  have := pt_lt t
  blk_simp
  rw [after0_3]
  unfold outsAt0
  rw [block_A]
  idx_vars y
  have e : ((cfg0.win 3).blk t).view.emb (ix2 y0 y1) = ix2 ⟨1024 * t.val + y0.val, by omega⟩ y1 := by
    blk_ext [index_3 t]
  rw [block_at, e, Cert.MixerDtReferenceIdeal.Read.result_at]
  simp only [rows_at, x_block, s_block, w_block]
  exact Padded.sum_padded _ _

/-- The kernel and the reference leave the same result. -/
theorem equal : Cert.algebraic_MixerDtIdeal_MixerDtReferenceIdeal (hMixerDtIdeal := Cert.MixerDtIdeal.Gen.facts)
    (hMixerDtReferenceIdeal := Cert.MixerDtReferenceIdeal.Gen.facts) := by
  intro m g m' g' _ same
  refine ⟨_, (θ_run defs _ _).mono (fun r h c => ⟨(h c).1.trans (result_eq m c), (h c).2⟩) (Value.run_blocks m g), ?_⟩
  refine (θ_run Cert.MixerDtReferenceIdeal.defs _ _).mono (fun r h c => ⟨(h c).1.trans ?_, (h c).2⟩) (Cert.MixerDtReferenceIdeal.Value.run (F := Ideal) m' g')
  rw [Cert.MixerDtReferenceIdeal.Read.val_main_v15_eq, (same c).1, (same c).2.1, (same c).2.2]

end Cert.MixerDtIdeal.Gen

end
-- ==== Proof.FoxGates.lean ====
/- The forget gates before their bias: rows over their root mean square, times the shared projection's last 16 columns,
with 112 columns of noughts added.

Point `t` is block `t` of 1024 rows. -/
module

public import proofs.«01_k».proof.Proof.MixerDt
public import proofs.«01_k».proof.Proof.Padded
public import proofs.«01_k».proof.Proof.Gen.FoxGatesIdeal.Value
public import proofs.«01_k».proof.Proof.Gen.FoxGatesReferenceIdeal.Read

@[expose] public section

set_option maxRecDepth 16384

noncomputable section

namespace Cert.FoxGatesReferenceIdeal.Read

open Cert.FoxGatesReferenceIdeal Cert.FoxGatesReferenceIdeal.Gen Idealize.ShloMosaic Idealize.ShloMosaic.TcCoe

theorem norm_at (x : Vec Ideal S8192x2048 .f32) (w : Vec Ideal S2048 .f32) (a : Fin 8192) (d : Fin 2048) :
    val_main_v12 (F := Ideal) x w (ix2 a d) = Norm.normed (fun k => x (ix2 a k)) (fun k => w (ix1 k)) d :=
  Cert.MixerInReferenceIdeal.Read.norm_at x w a d

/-- The reference at an index. -/
theorem result_at (x : Vec Ideal S8192x2048 .f32) (w : Vec Ideal S2048 .f32) (p : Vec Ideal S2048x4112 .f32) (a : Fin 8192) (d : Fin 128) :
    val_main_v15 (F := Ideal) x w p (ix2 a d) = if e : d.val < 16 then
      ∑ k : Fin 2048, Norm.normed (fun k => x (ix2 a k)) (fun k => w (ix1 k)) k * (p (ix2 k ⟨4096 + d.val, by omega⟩) : EReal) else 0 := by
  refine (Padded.pad_right _ _ _ _ a d).trans (dite_congr rfl (fun e => ?_) fun _ => sitofp_zero (φ := .f32))
  pointwise [val_main_v14, val_main_v13]
  simp only [norm_at]

end Cert.FoxGatesReferenceIdeal.Read

namespace Cert.FoxGatesIdeal.Gen

open Cert.FoxGatesIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

theorem pt_lt (t : Fin cfg0.N) : t.val < 8 := lt_of_lt_of_eq t.isLt N_0

abbrev states (c : Dev nD) : Vec Ideal S8192x2048 .f32 := m ((c : Thread nD τ).loc main_arg0)
abbrev scales (c : Dev nD) : Vec Ideal S2048 .f32 := m ((c : Thread nD τ).loc main_arg1)
abbrev weights (c : Dev nD) : Vec Ideal S2048x4112 .f32 := m ((c : Thread nD τ).loc main_arg2)

theorem x_block (c : Dev nD) (t : Fin cfg0.N) (a : Fin 1024) (k : Fin 2048) :
    iblk m c 0 t (ix2 a k) = states m c (ix2 ⟨1024 * t.val + a.val, by have := pt_lt t; omega⟩ k) := by
  have := pt_lt t
  blk_ext [iblk, V, index_0 t]

theorem s_block (c : Dev nD) (t : Fin cfg0.N) (k : Fin 2048) : iblk m c 1 t (ix2 0 k) = scales m c (ix1 k) := by
  have := pt_lt t
  have e : ((cfg0.win 1).blk t).view.emb (ix2 0 k) = ix2 0 k := by
    blk_ext [index_1 t]
  refine (congrArg (V m c main_v3) e).trans ?_
  rw [show V m c main_v3 = shapeCast S1x2048 (scales m c) shapeCasts_S2048_S1x2048 by rfl]
  pointwise

/-- The weights as the kernel is given them: the last 16 columns, and noughts. -/
theorem columns (c : Dev nD) : V m c main_v2 = truncf .bf16 (pad S2048x128 ![0, 0] ![0, 112] ![0, 0]
    (extractStridedSlice S2048x16 ![0, 4096] (weights m c) slices_S2048x4112_S2048x16_0_4096)
    (sitofp .f32 (constantI S_ 32 0#32)) pads_S2048x16_S2048x128_000_01120 h_S_ : FVec Ideal S2048x128 .f32) bitsLt_bf16_f32 := by rfl

theorem w_block (c : Dev nD) (t : Fin cfg0.N) (k : Fin 2048) (d : Fin 128) :
    iblk m c 2 t (ix2 k d) = if e : d.val < 16 then (weights m c (ix2 k ⟨4096 + d.val, by omega⟩) : EReal) else 0 := by
  have := pt_lt t
  have e : ((cfg0.win 2).blk t).view.emb (ix2 k d) = ix2 k d := by
    blk_ext [index_2 t]
  refine (congrArg (V m c main_v2) e).trans ?_
  rw [columns]
  refine (Padded.pad_right _ _ pads_S2048x16_S2048x128_000_01120 h_S_ k d).trans (dite_congr rfl (fun e => ?_) fun _ => sitofp_zero (φ := .f32))
  pointwise

section Cases

variable (c : Dev nD) (i : grid0.Coords) (a2 : Memref sig .tc .vmem S1024x2048 .f32) (h2 : a2.IsWhole) (a3 : Memref sig .tc .vmem S1x2048 .f32) (h3 : a3.IsWhole)
  (a4 : Memref sig .tc .vmem S2048x128 .bf16) (h4 : a4.IsWhole) (a5 : Memref sig .tc .vmem S1024x128 .f32) (h5 : a5.IsWhole)
  (a6 : Memref sig .tc .vmem S1024x2048 .bf16) (h6 : a6.IsWhole)
  (x : Vec Ideal S1024x2048 .f32) (s : Vec Ideal S1x2048 .f32) (w : Vec Ideal S2048x128 .bf16)

theorem block_A (hc : cond0_0 i) : out0_A_3 c i a2 h2 a3 h3 a4 h4 a5 h5 a6 h6 hc x s w = k0_pay2 (k0_pay1 x s) w := by
  unfold out0_A_3
  rw [View.read_writes_eq_canon _ _ _ (cover0_A_3 c i a2 h2 a3 h3 a4 h4 a5 h5 a6 h6 hc x s w)]
  unfold kernelRun0_A
  dsimp only
  sl_unfold_words
  rw [View.canon_unit_zero Norm.off2, View.readCov_unit_zero (S := S1024x2048) _ Norm.off2]
  simp only [View.readAt_eq_ld, h2.read_unread, h3.read_unread, h4.read_unread, View.ld_unit_zero (S := S1024x2048) Norm.off2, View.ld_unit_zero (S := S1x2048) Norm.off2, View.ld_unit_zero (S := S2048x128) Norm.off2]

end Cases

theorem rows_at (x : Vec Ideal S1024x2048 .f32) (s : Vec Ideal S1x2048 .f32) (a : Fin 1024) (d : Fin 2048) :
    k0_pay1 x s (ix2 a d) = Norm.normed (fun k => x (ix2 a k)) (fun k => s (ix2 0 k)) d :=
  Cert.MixerInIdeal.Gen.rows_at x s a d

theorem block_at (xn : Vec Ideal S1024x2048 .bf16) (w : Vec Ideal S2048x128 .bf16) (a : Fin 1024) (d : Fin 128) :
    k0_pay2 xn w (ix2 a d) = ∑ k : Fin 2048, (xn (ix2 a k) : EReal) * (w (ix2 k d) : EReal) :=
  Cert.MixerDtIdeal.Gen.block_at xn w a d

/-- The result array. -/
theorem result_eq (c : Dev nD) : (dats m 0 c).arrAt 3 (cfgs 0).N = Cert.FoxGatesReferenceIdeal.Read.val_main_v15 (F := Ideal) (states m c) (scales m c) (weights m c) := by
  refine (dats m 0 c).arrAt_eq_of_covers 3 _ (by decide +kernel) fun t hf y => ?_
  have := pt_lt t
  blk_simp
  rw [after0_3]
  unfold outsAt0
  rw [block_A]
  idx_vars y
  have e : ((cfg0.win 3).blk t).view.emb (ix2 y0 y1) = ix2 ⟨1024 * t.val + y0.val, by omega⟩ y1 := by
    blk_ext [index_3 t]
  rw [block_at, e, Cert.FoxGatesReferenceIdeal.Read.result_at]
  simp only [rows_at, x_block, s_block, w_block]
  exact Padded.sum_padded _ _

/-- The kernel and the reference leave the same result. -/
theorem equal : Cert.algebraic_FoxGatesIdeal_FoxGatesReferenceIdeal (hFoxGatesIdeal := Cert.FoxGatesIdeal.Gen.facts)
    (hFoxGatesReferenceIdeal := Cert.FoxGatesReferenceIdeal.Gen.facts) := by
  intro m g m' g' _ same
  refine ⟨_, (θ_run defs _ _).mono (fun r h c => ⟨(h c).1.trans (result_eq m c), (h c).2⟩) (Value.run_blocks m g), ?_⟩
  refine (θ_run Cert.FoxGatesReferenceIdeal.defs _ _).mono (fun r h c => ⟨(h c).1.trans ?_, (h c).2⟩) (Cert.FoxGatesReferenceIdeal.Value.run (F := Ideal) m' g')
  rw [Cert.FoxGatesReferenceIdeal.Read.val_main_v15_eq, (same c).1, (same c).2.1, (same c).2.2]

end Cert.FoxGatesIdeal.Gen

end
-- ==== Proof.FoxSums.lean ====
/- The running sum of the log forget gates.

Point `t` is block `t` of 256 positions. It multiplies the block's log gates by a lower triangle of ones and adds the sum
of all the blocks before, which a scratch array carries from point to point: row `a` is then the sum over every position
up to `256 t + a`. -/
module

public import proofs.«01_k».proof.Defs
public import proofs.«01_k».proof.Proof.Norm
public import proofs.«01_k».proof.Proof.Gen.FoxSumsIdeal.Value
public import proofs.«01_k».proof.Proof.Gen.FoxSumsReferenceIdeal.Read

@[expose] public section

set_option maxRecDepth 16384

noncomputable section

namespace Cert.Sums

open Idealize.ShloMosaic

/-- The logarithm of a gate: of one over one plus `exp (-y)`. -/
def logGate (y : EReal) : EReal := -(max (-y) 0 + Ideal.log1p (Ideal.exp (-FloatOps.absf (F := Ideal) (φ := .f32) (-y))))

/-- The terms of a sum up to one of them. -/
theorem upto {n a : ℕ} (h : a < n) (f : ℕ → EReal) : (∑ k : Fin n, if k.val ≤ a then f k.val else 0) = ∑ k ∈ Finset.range (a + 1), f k := by
  rw [Fin.sum_univ_eq_sum_range (fun k => if k ≤ a then f k else 0), ← Finset.sum_filter]
  refine Finset.sum_congr (Finset.ext fun k => ?_) fun _ _ => rfl
  simp only [Finset.mem_filter, Finset.mem_range]
  omega

/-- An entry of the triangle of ones. -/
theorem one_or_nought (p : Bool) : (FloatOps.sitofp (F := Ideal) .f32 (BitVec.setWidth 32 (BitVec.ofBool p)) : EReal) = if p = true then 1 else 0 := by
  show ((((BitVec.setWidth 32 (BitVec.ofBool p)).toInt : ℤ) : ℝ) : EReal) = _
  cases p <;> simp

end Cert.Sums

namespace Cert.FoxSumsReferenceIdeal.Read

open Cert.FoxSumsReferenceIdeal Cert.FoxSumsReferenceIdeal.Gen Idealize.ShloMosaic Idealize.ShloMosaic.TcCoe

/-- The log gate at an index. -/
theorem log_at (x : Vec Ideal S8192x128 .f32) (b : Vec Ideal S16 .f32) (a : Fin 8192) (d : Fin 128) :
    val_main_v4 (F := Ideal) x b (ix2 a d) = Sums.logGate (x (ix2 a d) + val_main_v0 (F := Ideal) b (ix1 d)) := by
  pointwise [val_main_v4, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v3, val_main_v2, val_main_v1]
  exact congrArg Neg.neg (if_neg fun h => h rfl)

/-- The reference at an index: the log gates up to it, added. -/
theorem result_at (x : Vec Ideal S8192x128 .f32) (b : Vec Ideal S16 .f32) (a : Fin 8192) (d : Fin 128) :
    val_main_v14 (F := Ideal) x b (ix2 a d) = ∑ k : Fin 8192, if k.val ≤ a.val then val_main_v4 (F := Ideal) x b (ix2 k d) else (0 : EReal) := by
  pointwise [val_main_v14, val_main_cst_0, val_main_v13, val_main_call2_v3, val_main_call2_v2, val_main_call2_v1, val_main_call2_v0, val_main_cst, val_main_v12, val_main_v11, val_main_v10, val_main_v9, val_main_v8, val_main_v7, val_main_v6, val_main_v5]
  refine Finset.sum_congr rfl fun k _ => ?_
  rw [WordCmp.cmpi_sle_ofNat (by omega) (by omega), WordCmp.select_ofBool, show id (constant (F := Ideal) S_ .f32 0#32) ix0 = (0 : EReal) from Ideal.ofBits_zero .f32]
  simp only [decide_eq_true_eq]

end Cert.FoxSumsReferenceIdeal.Read

namespace Cert.FoxSumsIdeal.Gen

open Cert.FoxSumsIdeal Idealize.ShloMosaic Idealize.ShloMosaic.TcCoe Idealize.ShloMosaic.Tactic
open Idealize.SL Idealize.SL.RA Idealize.SL.BI Idealize.SL.Sem
open Idealize.ShloMosaic.Pipeline (Dat Cfg Window)

variable (m : (ℓ : Loc nD τ sig) → Buf (Elt Ideal) ℓ) (ρ : Dev nD → PrngReg)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

theorem pt_lt (t : Fin cfg0.N) : t.val < 32 := lt_of_lt_of_eq t.isLt N_0

abbrev gates (c : Dev nD) : Vec Ideal S8192x128 .f32 := m ((c : Thread nD τ).loc main_arg0)
abbrev bias (c : Dev nD) : Vec Ideal S16 .f32 := m ((c : Thread nD τ).loc main_arg1)

theorem f_block (c : Dev nD) (t : Fin cfg0.N) (a : Fin 256) (d : Fin 128) :
    iblk m c 0 t (ix2 a d) = gates m c (ix2 ⟨256 * t.val + a.val, by have := pt_lt t; omega⟩ d) := by
  have := pt_lt t
  blk_ext [iblk, V, index_0 t]

theorem b_block (c : Dev nD) (t : Fin cfg0.N) (d : Fin 128) :
    iblk m c 1 t (ix2 0 d) = Cert.FoxSumsReferenceIdeal.Read.val_main_v0 (F := Ideal) (bias m c) (ix1 d) := by
  have := pt_lt t
  have e : ((cfg0.win 1).blk t).view.emb (ix2 0 d) = ix2 0 d := by
    blk_ext [index_1 t]
  refine (congrArg (V m c main_v1) e).trans ?_
  rw [show V m c main_v1 = shapeCast S1x128 (Cert.FoxSumsReferenceIdeal.Read.val_main_v0 (F := Ideal) (bias m c)) shapeCasts_S128_S1x128 by rfl]
  generalize Cert.FoxSumsReferenceIdeal.Read.val_main_v0 (F := Ideal) (bias m c) = y
  pointwise

section Cases

variable (c : Dev nD) (i : grid0.Coords) (a1 : Memref sig .tc .vmem S256x128 .f32) (h1 : a1.IsWhole) (a2 : Memref sig .tc .vmem S1x128 .f32) (h2 : a2.IsWhole)
  (a3 : Memref sig .tc .vmem S256x128 .f32) (h3 : a3.IsWhole) (a4 : Memref sig .tc .vmem S1x128 .f32) (h4 : a4.IsWhole)
  (x : Vec Ideal S256x128 .f32) (b : Vec Ideal S1x128 .f32) (z : Vec Ideal S1x128 .f32)

theorem block_A (hc : cond0_0 i) : out0_A_2 c i a1 h1 a2 h2 a3 h3 a4 h4 hc x b = k0_pay2 x b (k0_pay1 (F := Ideal)) := by
  unfold out0_A_2
  rw [View.read_writes_eq_canon _ _ _ (cover0_A_2 c i a1 h1 a2 h2 a3 h3 a4 h4 hc x b)]
  unfold kernelRun0_A
  dsimp only
  sl_unfold_words
  rw [View.canon_unit_zero Norm.off2, View.readCov_unit_zero (S := S1x128) _ Norm.off2]
  simp only [View.readAt_eq_ld, h1.read_unread, h2.read_unread, View.ld_unit_zero (S := S256x128) Norm.off2, View.ld_unit_zero (S := S1x128) Norm.off2]

theorem scratch_A (hc : cond0_0 i) : sout0_A_0 c i a1 h1 a2 h2 a3 h3 a4 h4 hc x b = k0_pay3 x b (k0_pay1 (F := Ideal)) := by
  unfold sout0_A_0
  rw [View.read_writes_eq_canon _ _ _ (scover0_A_0 c i a1 h1 a2 h2 a3 h3 a4 h4 hc x b)]
  unfold kernelRun0_A
  dsimp only
  sl_unfold_words
  refine (View.canon_cons_unit_zero (S := S1x128) Norm.off2 _ _ _).trans ?_
  rw [View.readCov_unit_zero (S := S1x128) _ Norm.off2]
  simp only [View.readAt_eq_ld, h1.read_unread, h2.read_unread, View.ld_unit_zero (S := S256x128) Norm.off2, View.ld_unit_zero (S := S1x128) Norm.off2]

theorem block_B (hc : ¬cond0_0 i) : out0_B_2 c i a1 h1 a2 h2 a3 h3 a4 h4 hc x b z = k0_pay2 x b z := by
  unfold out0_B_2
  rw [View.read_writes_eq_canon _ _ _ (cover0_B_2 c i a1 h1 a2 h2 a3 h3 a4 h4 hc x b z)]
  unfold kernelRun0_B
  dsimp only
  rw [View.canon_unit_zero Norm.off2]
  simp only [View.readAt_eq_ld, h1.read_unread, h2.read_unread, h4.read_unread, View.ld_unit_zero (S := S256x128) Norm.off2, View.ld_unit_zero (S := S1x128) Norm.off2]

theorem scratch_B (hc : ¬cond0_0 i) : sout0_B_0 c i a1 h1 a2 h2 a3 h3 a4 h4 hc x b z = k0_pay3 x b z := by
  unfold sout0_B_0
  rw [View.read_writes_eq_canon _ _ _ (scover0_B_0 c i a1 h1 a2 h2 a3 h3 a4 h4 hc x b z)]
  unfold kernelRun0_B
  dsimp only
  sl_unfold_words
  rw [View.canon_unit_zero Norm.off2]
  simp only [View.readAt_eq_ld, h1.read_unread, h2.read_unread, h4.read_unread, View.ld_unit_zero (S := S256x128) Norm.off2, View.ld_unit_zero (S := S1x128) Norm.off2]

/-- A row of a block: the log gates up to it, added to what came before. -/
theorem block_at (a : Fin 256) (d : Fin 128) : k0_pay2 x b z (ix2 a d)
    = (∑ k : Fin 256, if k.val ≤ a.val then Sums.logGate ((x (ix2 k d) : EReal) + (b (ix2 0 d) : EReal)) else 0) + z (ix2 0 d) := by
  unfold_payloads
  pointwise
  refine congrArg (· + z (ix2 0 d)) (Finset.sum_congr rfl fun k _ => ?_)
  rw [WordCmp.cmpi_sle_ofNat (by omega) (by omega), Sums.one_or_nought]
  simp only [ne_eq, not_true_eq_false, if_false, decide_eq_true_eq, zero_sub, ite_mul, one_mul, zero_mul]
  rfl

theorem last_at (d : Fin 128) : k0_pay3 x b z (ix2 0 d) = k0_pay2 x b z (ix2 255 d) := by
  unfold k0_pay3
  generalize k0_pay2 x b z = y
  pointwise

theorem first_at (d : Fin 128) : k0_pay1 (F := Ideal) (ix2 0 d) = (0 : EReal) := by
  unfold_payloads
  pointwise

end Cases

/-- The log gate of a position, as a sum over positions reads it. -/
def logAt (c : Dev nD) (d : Fin 128) (j : ℕ) : EReal :=
  if h : j < 8192 then Cert.FoxSumsReferenceIdeal.Read.val_main_v4 (F := Ideal) (gates m c) (bias m c) (ix2 ⟨j, h⟩ d) else 0

/-- A point's gates, and the bias it adds to each. -/
abbrev block (c : Dev nD) (t : Fin cfg0.N) : Vec Ideal S256x128 .f32 := iblk m c 0 t
abbrev biases (c : Dev nD) (t : Fin cfg0.N) : Vec Ideal S1x128 .f32 := iblk m c 1 t

theorem gate_eq (c : Dev nD) (t : Fin cfg0.N) (k : Fin 256) (d : Fin 128) :
    Sums.logGate ((block m c t (ix2 k d) : EReal) + (biases m c t (ix2 0 d) : EReal)) = logAt m c d (256 * t.val + k.val) := by
  have := pt_lt t
  rw [logAt, dif_pos (by omega), Cert.FoxSumsReferenceIdeal.Read.log_at]
  exact congrArg₂ (fun u v : EReal => Sums.logGate (u + v)) (f_block m c t k d) (b_block m c t d)

/-- A row of a point that was given the sum of the blocks before. -/
theorem row_eq (c : Dev nD) (t : Fin cfg0.N) (z : Vec Ideal S1x128 .f32)
    (hz : ∀ d : Fin 128, z (ix2 0 d) = ∑ j ∈ Finset.range (256 * t.val), logAt m c d j) (a : Fin 256) (d : Fin 128) :
    k0_pay2 (block m c t) (biases m c t) z (ix2 a d) = ∑ j ∈ Finset.range (256 * t.val + a.val + 1), logAt m c d j := by
  rw [Nat.add_assoc, Finset.sum_range_add, add_comm, ← Sums.upto a.isLt fun k => logAt m c d (256 * t.val + k)]
  refine (block_at _ _ z a d).trans (congrArg₂ (fun u v : EReal => u + v) (Finset.sum_congr rfl fun k _ => ?_) (hz d))
  exact congrArg (fun u : EReal => if k.val ≤ a.val then u else 0) (gate_eq m c t k d)

/-- What every point leaves: the block's running sums and their last row, over the sum of the blocks before. -/
theorem point_eq (c : Dev nD) : ∀ (n : ℕ) (h : n < cfg0.N), ∃ z : Vec Ideal S1x128 .f32,
    (∀ d : Fin 128, z (ix2 0 d) = ∑ j ∈ Finset.range (256 * n), logAt m c d j)
      ∧ outsAt0 m c n h = (k0_pay2 (block m c ⟨n, h⟩) (biases m c ⟨n, h⟩) z, k0_pay3 (block m c ⟨n, h⟩) (biases m c ⟨n, h⟩) z)
  | 0, h => by
      refine ⟨k0_pay1 (F := Ideal), fun d => (first_at d).trans (by simp), ?_⟩
      rw [outsAt0_A m c ⟨0, h⟩ (Nat.zero_mod 32), block_A, scratch_A]
  | n + 1, h => by
      have := pt_lt ⟨n + 1, h⟩
      obtain ⟨z, hz, e⟩ := point_eq c n (Nat.lt_of_succ_lt h)
      refine ⟨(outsAt0 m c n (Nat.lt_of_succ_lt h)).2, fun d => ?_, ?_⟩
      · rw [e]
        exact (last_at _ _ z d).trans (row_eq m c ⟨n, Nat.lt_of_succ_lt h⟩ z hz 255 d)
      · rw [outsAt0_B m c ⟨n + 1, h⟩ (by dsimp only at *; omega), block_B, scratch_B]
        rfl

/-- The result array. -/
theorem result_eq (c : Dev nD) : (dats m 0 c).arrAt 2 (cfgs 0).N = Cert.FoxSumsReferenceIdeal.Read.val_main_v14 (F := Ideal) (gates m c) (bias m c) := by
  refine (dats m 0 c).arrAt_eq_of_covers 2 _ (by decide +kernel) fun t hf y => ?_
  have := pt_lt t
  blk_simp
  obtain ⟨z, hz, e⟩ := point_eq m c t.val t.isLt
  rw [after0_2, e]
  idx_vars y
  have e : ((cfg0.win 2).blk t).view.emb (ix2 y0 y1) = ix2 ⟨256 * t.val + y0.val, by omega⟩ y1 := by
    blk_ext [index_2 t]
  rw [e, Cert.FoxSumsReferenceIdeal.Read.result_at]
  refine (row_eq m c t z hz y0 y1).trans ?_
  rw [← Sums.upto (n := 8192) (by omega) (logAt m c y1)]
  refine Finset.sum_congr rfl fun k _ => ?_
  rw [logAt, dif_pos k.isLt]

/-- The kernel and the reference leave the same result. -/
theorem equal : Cert.algebraic_FoxSumsIdeal_FoxSumsReferenceIdeal (hFoxSumsIdeal := Cert.FoxSumsIdeal.Gen.facts)
    (hFoxSumsReferenceIdeal := Cert.FoxSumsReferenceIdeal.Gen.facts) := by
  intro m g m' g' _ same
  refine ⟨_, (θ_run defs _ _).mono (fun r h c => ⟨(h c).1.trans (result_eq m c), (h c).2⟩) (Value.run_blocks m g), ?_⟩
  refine (θ_run Cert.FoxSumsReferenceIdeal.defs _ _).mono (fun r h c => ⟨(h c).1.trans ?_, (h c).2⟩) (Cert.FoxSumsReferenceIdeal.Value.run (F := Ideal) m' g')
  rw [Cert.FoxSumsReferenceIdeal.Read.val_main_v14_eq, (same c).1, (same c).2]

end Cert.FoxSumsIdeal.Gen

end
-- ==== Proof.lean ====
module

public import proofs.«01_k».proof.Defs
public import proofs.«01_k».proof.Proof.Exact.Data
public import proofs.«01_k».proof.Proof.Equal
public import proofs.«01_k».proof.Proof.Gen.ReferenceIdeal.Run
public import proofs.«01_k».proof.Proof.Final
public import proofs.«01_k».proof.Proof.Gen.Final.Frame
public import proofs.«01_k».proof.Proof.Gen.FinalIdeal.Frame
public import proofs.«01_k».proof.Proof.Gen.FinalReferenceIdeal.Run
public import proofs.«01_k».proof.Proof.MixerOut
public import proofs.«01_k».proof.Proof.Gen.MixerOut.Frame
public import proofs.«01_k».proof.Proof.Gen.MixerOutIdeal.Frame
public import proofs.«01_k».proof.Proof.Gen.MixerOutReferenceIdeal.Run
public import proofs.«01_k».proof.Proof.FoxOut
public import proofs.«01_k».proof.Proof.Gen.FoxOut.Frame
public import proofs.«01_k».proof.Proof.Gen.FoxOutIdeal.Frame
public import proofs.«01_k».proof.Proof.Gen.FoxOutReferenceIdeal.Run
public import proofs.«01_k».proof.Proof.MixerIn
public import proofs.«01_k».proof.Proof.Gen.MixerIn.Frame
public import proofs.«01_k».proof.Proof.Gen.MixerInIdeal.Frame
public import proofs.«01_k».proof.Proof.Gen.MixerInReferenceIdeal.Run
public import proofs.«01_k».proof.Proof.FoxKv
public import proofs.«01_k».proof.Proof.Gen.FoxKv.Frame
public import proofs.«01_k».proof.Proof.Gen.FoxKvIdeal.Frame
public import proofs.«01_k».proof.Proof.Gen.FoxKvReferenceIdeal.Run
public import proofs.«01_k».proof.Proof.FoxQ
public import proofs.«01_k».proof.Proof.Gen.FoxQ.Frame
public import proofs.«01_k».proof.Proof.Gen.FoxQIdeal.Frame
public import proofs.«01_k».proof.Proof.Gen.FoxQReferenceIdeal.Run
public import proofs.«01_k».proof.Proof.PeerQ
public import proofs.«01_k».proof.Proof.Exact.PeerQ
public import proofs.«01_k».proof.Proof.Ple
public import proofs.«01_k».proof.Proof.MixerDt
public import proofs.«01_k».proof.Proof.FoxGates
public import proofs.«01_k».proof.Proof.FoxSums
public import proofs.«01_k».proof.Proof.Gen.Ple.Frame
public import proofs.«01_k».proof.Proof.Gen.PleIdeal.Frame
public import proofs.«01_k».proof.Proof.Gen.PleReferenceIdeal.Run
public import proofs.«01_k».proof.Proof.Gen.MixerDt.Frame
public import proofs.«01_k».proof.Proof.Gen.MixerDtIdeal.Frame
public import proofs.«01_k».proof.Proof.Gen.MixerDtIdeal.Value
public import proofs.«01_k».proof.Proof.Gen.MixerDtReferenceIdeal.Run
public import proofs.«01_k».proof.Proof.Gen.MixerDtReferenceIdeal.Read
public import proofs.«01_k».proof.Proof.Gen.FoxGates.Frame
public import proofs.«01_k».proof.Proof.Gen.FoxGatesIdeal.Frame
public import proofs.«01_k».proof.Proof.Gen.FoxGatesIdeal.Value
public import proofs.«01_k».proof.Proof.Gen.FoxGatesReferenceIdeal.Run
public import proofs.«01_k».proof.Proof.Gen.FoxGatesReferenceIdeal.Read
public import proofs.«01_k».proof.Proof.Gen.FoxSums.Frame
public import proofs.«01_k».proof.Proof.Gen.FoxSumsIdeal.Frame
public import proofs.«01_k».proof.Proof.Gen.FoxSumsIdeal.Value
public import proofs.«01_k».proof.Proof.Gen.FoxSumsReferenceIdeal.Run
public import proofs.«01_k».proof.Proof.Gen.FoxSumsReferenceIdeal.Read
public import Idealize.ShloMosaic.Lib.Quiescent
public import Idealize.ShloMosaic.Lib.Tactic.ValueTie

@[expose] public section

noncomputable section

namespace Cert.Proof

open Idealize.ShloMosaic Idealize.SL.Sem

/-- The kernel as printed ends, at the machine's words. -/
theorem kernel_ends : Cert.quiescent_Kernel (hKernel := Cert.Kernel.Gen.facts) :=
  fun m g _ => Cert.Kernel.Gen.ends (F := Bits) m g

/-- The idealized kernel ends, whatever its arguments. -/
theorem ideal_ends : Cert.quiescent_KernelIdeal (hKernelIdeal := Cert.KernelIdeal.Gen.facts) :=
  fun m g _ => Cert.KernelIdeal.Gen.ends (F := Ideal) m g

theorem ideal_ends_finite : Cert.quiescent_KernelIdeal_pre_finite (hKernelIdeal := Cert.KernelIdeal.Gen.facts) (hPre_finite := Cert.Pre_finite.Gen.facts) :=
  fun m g _ => Cert.KernelIdeal.Gen.ends (F := Ideal) m g

/-- The reference ends, whatever its arguments. -/
theorem reference_ends : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

theorem reference_ends_finite : Cert.quiescent_ReferenceIdeal_pre_finite (hReferenceIdeal := Cert.ReferenceIdeal.Gen.facts) (hPre_finite := Cert.Pre_finite.Gen.facts) :=
  fun m g _ => reference_ends m g trivial

/-- The two constants named are the real numbers their words round. -/
theorem constants : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl⟩

/-- The idealized kernel and the reference leave the same result. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' pre same
  refine ⟨fun c => Cert.KernelIdeal.Gen.result m c, ?_, ?_⟩
  · refine (θ_run_and (Cert.KernelIdeal.Gen.run (F := Ideal) m g) (Cert.KernelIdeal.Gen.ends (F := Ideal) m g)).mono ?_
    rintro r ⟨h, k⟩ c
    exact ⟨((h.1 c).1 5).trans (Cert.KernelIdeal.Gen.result_eq m c), k.1 c⟩
  · refine (θ_run Cert.ReferenceIdeal.defs _ _).mono (fun r h c => ⟨(h c).1.trans ?_, (h c).2⟩) (Cert.ReferenceIdeal.Value.run (F := Ideal) m' g')
    rw [Cert.ReferenceIdeal.Read.val_main_v41_eq, (same c).1, (same c).2.1, (same c).2.2]
    exact (Cert.KernelIdeal.Gen.result_ref m c (pre c)).symm

/-- The last norm: the kernel as printed, the idealized kernel and the reference end. -/
theorem final_ends : Cert.quiescent_Final (hFinal := Cert.Final.Gen.facts) := fun m g _ => Cert.Final.Gen.frame m g

theorem final_ideal_ends : Cert.quiescent_FinalIdeal (hFinalIdeal := Cert.FinalIdeal.Gen.facts) := fun m g _ => Cert.FinalIdeal.Gen.frame m g

theorem final_reference_ends : Cert.quiescent_FinalReferenceIdeal (hFinalReferenceIdeal := Cert.FinalReferenceIdeal.Gen.facts) :=
  fun m g _ => (θ_run Cert.FinalReferenceIdeal.defs _ _).mono
    (fun r h => ⟨fun c => (h c).2, sem_eq_zero_of_no_sems (by decide) r.2⟩) (Cert.FinalReferenceIdeal.Value.run (F := Ideal) m g)

/-- The mixer's output projection: the kernel as printed, the idealized kernel and the reference end. -/
theorem mixer_out_ends : Cert.quiescent_MixerOut (hMixerOut := Cert.MixerOut.Gen.facts) := fun m g _ => Cert.MixerOut.Gen.frame m g

theorem mixer_out_ideal_ends : Cert.quiescent_MixerOutIdeal (hMixerOutIdeal := Cert.MixerOutIdeal.Gen.facts) := fun m g _ => Cert.MixerOutIdeal.Gen.frame m g

theorem mixer_out_reference_ends : Cert.quiescent_MixerOutReferenceIdeal (hMixerOutReferenceIdeal := Cert.MixerOutReferenceIdeal.Gen.facts) :=
  fun m g _ => (θ_run Cert.MixerOutReferenceIdeal.defs _ _).mono
    (fun r h => ⟨fun c => (h c).2, sem_eq_zero_of_no_sems (by decide) r.2⟩) (Cert.MixerOutReferenceIdeal.Value.run (F := Ideal) m g)

/-- The attention's output projection: the kernel as printed, the idealized kernel and the reference end. -/
theorem fox_out_ends : Cert.quiescent_FoxOut (hFoxOut := Cert.FoxOut.Gen.facts) := fun m g _ => Cert.FoxOut.Gen.frame m g

theorem fox_out_ideal_ends : Cert.quiescent_FoxOutIdeal (hFoxOutIdeal := Cert.FoxOutIdeal.Gen.facts) := fun m g _ => Cert.FoxOutIdeal.Gen.frame m g

theorem fox_out_reference_ends : Cert.quiescent_FoxOutReferenceIdeal (hFoxOutReferenceIdeal := Cert.FoxOutReferenceIdeal.Gen.facts) :=
  fun m g _ => (θ_run Cert.FoxOutReferenceIdeal.defs _ _).mono
    (fun r h => ⟨fun c => (h c).2, sem_eq_zero_of_no_sems (by decide) r.2⟩) (Cert.FoxOutReferenceIdeal.Value.run (F := Ideal) m g)

/-- The mixer's input projection: the kernel as printed, the idealized kernel and the reference end. -/
theorem mixer_in_ends : Cert.quiescent_MixerIn (hMixerIn := Cert.MixerIn.Gen.facts) := fun m g _ => Cert.MixerIn.Gen.frame m g

theorem mixer_in_ideal_ends : Cert.quiescent_MixerInIdeal (hMixerInIdeal := Cert.MixerInIdeal.Gen.facts) := fun m g _ => Cert.MixerInIdeal.Gen.frame m g

theorem mixer_in_reference_ends : Cert.quiescent_MixerInReferenceIdeal (hMixerInReferenceIdeal := Cert.MixerInReferenceIdeal.Gen.facts) :=
  fun m g _ => (θ_run Cert.MixerInReferenceIdeal.defs _ _).mono
    (fun r h => ⟨fun c => (h c).2, sem_eq_zero_of_no_sems (by decide) r.2⟩) (Cert.MixerInReferenceIdeal.Value.run (F := Ideal) m g)

/-- The shared keys and values: the kernel as printed, the idealized kernel and the reference end. -/
theorem fox_kv_ends : Cert.quiescent_FoxKv (hFoxKv := Cert.FoxKv.Gen.facts) := fun m g _ => Cert.FoxKv.Gen.frame m g

theorem fox_kv_ideal_ends : Cert.quiescent_FoxKvIdeal (hFoxKvIdeal := Cert.FoxKvIdeal.Gen.facts) := fun m g _ => Cert.FoxKvIdeal.Gen.frame m g

theorem fox_kv_reference_ends : Cert.quiescent_FoxKvReferenceIdeal (hFoxKvReferenceIdeal := Cert.FoxKvReferenceIdeal.Gen.facts) :=
  fun m g _ => (θ_run Cert.FoxKvReferenceIdeal.defs _ _).mono
    (fun r h => ⟨fun c => (h c).2, sem_eq_zero_of_no_sems (by decide) r.2⟩) (Cert.FoxKvReferenceIdeal.Value.run (F := Ideal) m g)

/-- The attention's queries: the kernel as printed, the idealized kernel and the reference end. -/
theorem fox_q_ends : Cert.quiescent_FoxQ (hFoxQ := Cert.FoxQ.Gen.facts) := fun m g _ => Cert.FoxQ.Gen.frame m g

theorem fox_q_ideal_ends : Cert.quiescent_FoxQIdeal (hFoxQIdeal := Cert.FoxQIdeal.Gen.facts) := fun m g _ => Cert.FoxQIdeal.Gen.frame m g

theorem fox_q_reference_ends : Cert.quiescent_FoxQReferenceIdeal (hFoxQReferenceIdeal := Cert.FoxQReferenceIdeal.Gen.facts) :=
  fun m g _ => (θ_run Cert.FoxQReferenceIdeal.defs _ _).mono
    (fun r h => ⟨fun c => (h c).2, sem_eq_zero_of_no_sems (by decide) r.2⟩) (Cert.FoxQReferenceIdeal.Value.run (F := Ideal) m g)

/-- The retrieval's queries and normed tokens: the idealized kernel and the reference end. -/
theorem peer_q_ideal_ends : Cert.quiescent_PeerQIdeal (hPeerQIdeal := Cert.PeerQIdeal.Gen.facts) :=
  fun m g _ => Cert.PeerQIdeal.Gen.ends (F := Ideal) m g

theorem peer_q_reference_ends : Cert.quiescent_PeerQReferenceIdeal (hPeerQReferenceIdeal := Cert.PeerQReferenceIdeal.Gen.facts) :=
  fun m g _ => (θ_run Cert.PeerQReferenceIdeal.defs _ _).mono
    (fun r h => ⟨fun c => (h c).2.2, sem_eq_zero_of_no_sems (by decide) r.2⟩) (Cert.PeerQReferenceIdeal.Value.run (F := Ideal) m g)

/-- The per-layer embedding: the kernel as printed, the idealized kernel and the reference end. -/
theorem ple_ends : Cert.quiescent_Ple (hPle := Cert.Ple.Gen.facts) := fun m g _ => Cert.Ple.Gen.frame m g

theorem ple_ideal_ends : Cert.quiescent_PleIdeal (hPleIdeal := Cert.PleIdeal.Gen.facts) := fun m g _ => Cert.PleIdeal.Gen.frame m g

theorem ple_reference_ends : Cert.quiescent_PleReferenceIdeal (hPleReferenceIdeal := Cert.PleReferenceIdeal.Gen.facts) :=
  fun m g _ => (θ_run Cert.PleReferenceIdeal.defs _ _).mono
    (fun r h => ⟨fun c => (h c).2, sem_eq_zero_of_no_sems (by decide) r.2⟩) (Cert.PleReferenceIdeal.Value.run (F := Ideal) m g)

/-- The mixer's step sizes: the kernel as printed, the idealized kernel and the reference end. -/
theorem mixer_dt_ends : Cert.quiescent_MixerDt (hMixerDt := Cert.MixerDt.Gen.facts) := fun m g _ => Cert.MixerDt.Gen.frame m g

theorem mixer_dt_ideal_ends : Cert.quiescent_MixerDtIdeal (hMixerDtIdeal := Cert.MixerDtIdeal.Gen.facts) := fun m g _ => Cert.MixerDtIdeal.Gen.frame m g

theorem mixer_dt_reference_ends : Cert.quiescent_MixerDtReferenceIdeal (hMixerDtReferenceIdeal := Cert.MixerDtReferenceIdeal.Gen.facts) :=
  fun m g _ => (θ_run Cert.MixerDtReferenceIdeal.defs _ _).mono
    (fun r h => ⟨fun c => (h c).2, sem_eq_zero_of_no_sems (by decide) r.2⟩) (Cert.MixerDtReferenceIdeal.Value.run (F := Ideal) m g)

/-- The forget gates: the kernel as printed, the idealized kernel and the reference end. -/
theorem fox_gates_ends : Cert.quiescent_FoxGates (hFoxGates := Cert.FoxGates.Gen.facts) := fun m g _ => Cert.FoxGates.Gen.frame m g

theorem fox_gates_ideal_ends : Cert.quiescent_FoxGatesIdeal (hFoxGatesIdeal := Cert.FoxGatesIdeal.Gen.facts) := fun m g _ => Cert.FoxGatesIdeal.Gen.frame m g

theorem fox_gates_reference_ends : Cert.quiescent_FoxGatesReferenceIdeal (hFoxGatesReferenceIdeal := Cert.FoxGatesReferenceIdeal.Gen.facts) :=
  fun m g _ => (θ_run Cert.FoxGatesReferenceIdeal.defs _ _).mono
    (fun r h => ⟨fun c => (h c).2, sem_eq_zero_of_no_sems (by decide) r.2⟩) (Cert.FoxGatesReferenceIdeal.Value.run (F := Ideal) m g)

/-- The running sum of the log forget gates: the kernel as printed, the idealized kernel and the reference end. -/
theorem fox_sums_ends : Cert.quiescent_FoxSums (hFoxSums := Cert.FoxSums.Gen.facts) := fun m g _ => Cert.FoxSums.Gen.frame m g

theorem fox_sums_ideal_ends : Cert.quiescent_FoxSumsIdeal (hFoxSumsIdeal := Cert.FoxSumsIdeal.Gen.facts) := fun m g _ => Cert.FoxSumsIdeal.Gen.frame m g

theorem fox_sums_reference_ends : Cert.quiescent_FoxSumsReferenceIdeal (hFoxSumsReferenceIdeal := Cert.FoxSumsReferenceIdeal.Gen.facts) :=
  fun m g _ => (θ_run Cert.FoxSumsReferenceIdeal.defs _ _).mono
    (fun r h => ⟨fun c => (h c).2, sem_eq_zero_of_no_sems (by decide) r.2⟩) (Cert.FoxSumsReferenceIdeal.Value.run (F := Ideal) m g)

/-- The constant named in the queries' call is the real number its word rounds. -/
theorem query_scale : Cert.preserves_FoxQ_FoxQIdeal :=
  IdealRules.named_const.statement Cert.FoxQIdeal.κ "q_scale" .f32 0x3E0293EE#32 _ rfl

theorem claim : Cert.Claim :=
  ⟨Cert.Kernel.Gen.facts, Cert.KernelIdeal.Gen.facts, Cert.ReferenceIdeal.Gen.facts,
    Cert.Final.Gen.facts, Cert.FinalIdeal.Gen.facts, Cert.FinalReferenceIdeal.Gen.facts,
    Cert.MixerOut.Gen.facts, Cert.MixerOutIdeal.Gen.facts, Cert.MixerOutReferenceIdeal.Gen.facts,
    Cert.FoxOut.Gen.facts, Cert.FoxOutIdeal.Gen.facts, Cert.FoxOutReferenceIdeal.Gen.facts,
    Cert.MixerIn.Gen.facts, Cert.MixerInIdeal.Gen.facts, Cert.MixerInReferenceIdeal.Gen.facts,
    Cert.FoxKv.Gen.facts, Cert.FoxKvIdeal.Gen.facts, Cert.FoxKvReferenceIdeal.Gen.facts,
    Cert.FoxQ.Gen.facts, Cert.FoxQIdeal.Gen.facts, Cert.FoxQReferenceIdeal.Gen.facts,
    Cert.PeerQ.Gen.facts, Cert.PeerQIdeal.Gen.facts, Cert.PeerQReferenceIdeal.Gen.facts,
    Cert.Ple.Gen.facts, Cert.PleIdeal.Gen.facts, Cert.PleReferenceIdeal.Gen.facts,
    Cert.MixerDt.Gen.facts, Cert.MixerDtIdeal.Gen.facts, Cert.MixerDtReferenceIdeal.Gen.facts,
    Cert.FoxGates.Gen.facts, Cert.FoxGatesIdeal.Gen.facts, Cert.FoxGatesReferenceIdeal.Gen.facts,
    Cert.FoxSums.Gen.facts, Cert.FoxSumsIdeal.Gen.facts, Cert.FoxSumsReferenceIdeal.Gen.facts,
    Cert.Pre_finite.Gen.facts,
    kernel_ends, ideal_ends, ideal_ends_finite, reference_ends, reference_ends_finite,
    final_ends, final_ideal_ends, final_reference_ends,
    mixer_out_ends, mixer_out_ideal_ends, mixer_out_reference_ends,
    fox_out_ends, fox_out_ideal_ends, fox_out_reference_ends,
    mixer_in_ends, mixer_in_ideal_ends, mixer_in_reference_ends,
    fox_kv_ends, fox_kv_ideal_ends, fox_kv_reference_ends,
    fox_q_ends, fox_q_ideal_ends, fox_q_reference_ends,
    Cert.PeerQ.Gen.ends, peer_q_ideal_ends, peer_q_reference_ends,
    ple_ends, ple_ideal_ends, ple_reference_ends,
    mixer_dt_ends, mixer_dt_ideal_ends, mixer_dt_reference_ends,
    fox_gates_ends, fox_gates_ideal_ends, fox_gates_reference_ends,
    fox_sums_ends, fox_sums_ideal_ends, fox_sums_reference_ends,
    constants, attention,
    trivial, Cert.FinalIdeal.Gen.equal,
    trivial, Cert.MixerOutIdeal.Gen.equal,
    trivial, Cert.FoxOutIdeal.Gen.equal,
    trivial, Cert.MixerInIdeal.Gen.equal,
    trivial, Cert.FoxKvIdeal.Gen.equal,
    query_scale, Cert.FoxQIdeal.Gen.equal,
    trivial, Cert.PeerQIdeal.Gen.equal,
    trivial, Cert.PleIdeal.Gen.equal,
    trivial, Cert.MixerDtIdeal.Gen.equal,
    trivial, Cert.FoxGatesIdeal.Gen.equal,
    trivial, Cert.FoxSumsIdeal.Gen.equal⟩

end Cert.Proof

end
